-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutKernelIdeal_finite_mix [hPre_finite_mix : Cert.Pre_finite_mix.Facts] (m : (ℓ : Loc Cert.OutKernelIdeal.nD Cert.OutKernelIdeal.τ Cert.OutKernelIdeal.sig) → Buf (Elt Ideal) ℓ) : Prop :=
  ∀ c : Dev Cert.OutKernelIdeal.nD,
    (Cert.Pre_finite_mix.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7))).1 = (fun _ => 1#1)
    ∧ (Cert.Pre_finite_mix.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7))).2.1 = (fun _ => 1#1)
    ∧ (Cert.Pre_finite_mix.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7))).2.2 = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_finite_mix [hPre_finite_mix : Cert.Pre_finite_mix.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_finite_mix.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7))).1 = (fun _ => 1#1)
    ∧ (Cert.Pre_finite_mix.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7))).2.1 = (fun _ => 1#1)
    ∧ (Cert.Pre_finite_mix.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7))).2.2 = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_finite_gain [hPre_finite_gain : Cert.Pre_finite_gain.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_finite_gain.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8)) (m ((c.tc : Thread Cert.InKernelIdeal.nD Cert.InKernelIdeal.τ).loc Cert.InKernelIdeal.main_arg9)) (m ((c.tc : Thread Cert.InKernelIdeal.nD Cert.InKernelIdeal.τ).loc Cert.InKernelIdeal.main_arg10))).1 = (fun _ => 1#1)
    ∧ (Cert.Pre_finite_gain.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8)) (m ((c.tc : Thread Cert.InKernelIdeal.nD Cert.InKernelIdeal.τ).loc Cert.InKernelIdeal.main_arg9)) (m ((c.tc : Thread Cert.InKernelIdeal.nD Cert.InKernelIdeal.τ).loc Cert.InKernelIdeal.main_arg10))).2 = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_finite_gain [hPre_finite_gain : Cert.Pre_finite_gain.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_finite_gain.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8)) (m ((c.tc : Thread Cert.InReferenceIdeal.nD Cert.InReferenceIdeal.τ).loc Cert.InReferenceIdeal.main_arg9)) (m ((c.tc : Thread Cert.InReferenceIdeal.nD Cert.InReferenceIdeal.τ).loc Cert.InReferenceIdeal.main_arg10))).1 = (fun _ => 1#1)
    ∧ (Cert.Pre_finite_gain.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8)) (m ((c.tc : Thread Cert.InReferenceIdeal.nD Cert.InReferenceIdeal.τ).loc Cert.InReferenceIdeal.main_arg9)) (m ((c.tc : Thread Cert.InReferenceIdeal.nD Cert.InReferenceIdeal.τ).loc Cert.InReferenceIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ r.2.sem = fun _ => 0)

def quiescent_OutKernelIdeal_pre_finite_mix [hOutKernelIdeal : Cert.OutKernelIdeal.Facts] [hPre_finite_mix : Cert.Pre_finite_mix.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal_finite_mix m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def quiescent_OutReferenceIdeal_pre_finite_mix [hOutReferenceIdeal : Cert.OutReferenceIdeal.Facts] [hPre_finite_mix : Cert.Pre_finite_mix.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_finite_mix m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7)
      ∧ r.2.mem ((c.tc : Thread Cert.InKernel.nD Cert.InKernel.τ).loc Cert.InKernel.main_arg8) = m ((c.tc : Thread Cert.InKernel.nD Cert.InKernel.τ).loc Cert.InKernel.main_arg8)
      ∧ r.2.mem ((c.tc : Thread Cert.InKernel.nD Cert.InKernel.τ).loc Cert.InKernel.main_arg9) = m ((c.tc : Thread Cert.InKernel.nD Cert.InKernel.τ).loc Cert.InKernel.main_arg9)
      ∧ r.2.mem ((c.tc : Thread Cert.InKernel.nD Cert.InKernel.τ).loc Cert.InKernel.main_arg10) = m ((c.tc : Thread Cert.InKernel.nD Cert.InKernel.τ).loc Cert.InKernel.main_arg10))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
      ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
      ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10))
      ∧ r.2.sem = fun _ => 0)

def quiescent_InKernelIdeal_pre_finite_gain [hInKernelIdeal : Cert.InKernelIdeal.Facts] [hPre_finite_gain : Cert.Pre_finite_gain.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_finite_gain m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
      ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
      ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8)
      ∧ r.2.mem ((c.tc : Thread Cert.InReferenceIdeal.nD Cert.InReferenceIdeal.τ).loc Cert.InReferenceIdeal.main_arg9) = m ((c.tc : Thread Cert.InReferenceIdeal.nD Cert.InReferenceIdeal.τ).loc Cert.InReferenceIdeal.main_arg9)
      ∧ r.2.mem ((c.tc : Thread Cert.InReferenceIdeal.nD Cert.InReferenceIdeal.τ).loc Cert.InReferenceIdeal.main_arg10) = m ((c.tc : Thread Cert.InReferenceIdeal.nD Cert.InReferenceIdeal.τ).loc Cert.InReferenceIdeal.main_arg10))
      ∧ r.2.sem = fun _ => 0)

def quiescent_InReferenceIdeal_pre_finite_gain [hInReferenceIdeal : Cert.InReferenceIdeal.Facts] [hPre_finite_gain : Cert.Pre_finite_gain.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_finite_gain m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8)
      ∧ r.2.mem ((c.tc : Thread Cert.InReferenceIdeal.nD Cert.InReferenceIdeal.τ).loc Cert.InReferenceIdeal.main_arg9) = m ((c.tc : Thread Cert.InReferenceIdeal.nD Cert.InReferenceIdeal.τ).loc Cert.InReferenceIdeal.main_arg9)
      ∧ r.2.mem ((c.tc : Thread Cert.InReferenceIdeal.nD Cert.InReferenceIdeal.τ).loc Cert.InReferenceIdeal.main_arg10) = m ((c.tc : Thread Cert.InReferenceIdeal.nD Cert.InReferenceIdeal.τ).loc Cert.InReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)) →
    ∃ (v0 : (c : Dev Cert.FfnKernelIdeal.nD) → Buf (Elt Ideal) ((c.tc : Thread Cert.FfnKernelIdeal.nD Cert.FfnKernelIdeal.τ).loc Cert.FfnKernelIdeal.main_v13)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v13) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v58) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_OutKernel_OutKernelIdeal : Prop :=
  True

def algebraic_OutKernelIdeal_OutReferenceIdeal_pre_finite_mix [hOutKernelIdeal : Cert.OutKernelIdeal.Facts] [hOutReferenceIdeal : Cert.OutReferenceIdeal.Facts] [hPre_finite_mix : Cert.Pre_finite_mix.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal_finite_mix m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)) →
    ∃ (v0 : (c : Dev Cert.OutKernelIdeal.nD) → Buf (Elt Ideal) ((c.tc : Thread Cert.OutKernelIdeal.nD Cert.OutKernelIdeal.τ).loc Cert.OutKernelIdeal.main_v4_0)) (v1 : (c : Dev Cert.OutKernelIdeal.nD) → Buf (Elt Ideal) ((c.tc : Thread Cert.OutKernelIdeal.nD Cert.OutKernelIdeal.τ).loc Cert.OutKernelIdeal.main_v4_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v4_0) = v0 c
          ∧ r.2.mem ((c.tc : Thread Cert.OutKernelIdeal.nD Cert.OutKernelIdeal.τ).loc Cert.OutKernelIdeal.main_v4_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v33) = v0 c
          ∧ r.2.mem ((c.tc : Thread Cert.OutReferenceIdeal.nD Cert.OutReferenceIdeal.τ).loc Cert.OutReferenceIdeal.main_v47) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7))

def preserves_InKernel_InKernelIdeal : Prop :=
  True

def algebraic_InKernelIdeal_InReferenceIdeal_pre_finite_gain [hInKernelIdeal : Cert.InKernelIdeal.Facts] [hInReferenceIdeal : Cert.InReferenceIdeal.Facts] [hPre_finite_gain : Cert.Pre_finite_gain.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_finite_gain m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)
      ∧ m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)
      ∧ m' ((c.tc : Thread Cert.InReferenceIdeal.nD Cert.InReferenceIdeal.τ).loc Cert.InReferenceIdeal.main_arg9) = m ((c.tc : Thread Cert.InKernelIdeal.nD Cert.InKernelIdeal.τ).loc Cert.InKernelIdeal.main_arg9)
      ∧ m' ((c.tc : Thread Cert.InReferenceIdeal.nD Cert.InReferenceIdeal.τ).loc Cert.InReferenceIdeal.main_arg10) = m ((c.tc : Thread Cert.InKernelIdeal.nD Cert.InKernelIdeal.τ).loc Cert.InKernelIdeal.main_arg10)) →
    ∃ (v0 : (c : Dev Cert.InKernelIdeal.nD) → Buf (Elt Ideal) ((c.tc : Thread Cert.InKernelIdeal.nD Cert.InKernelIdeal.τ).loc Cert.InKernelIdeal.main_v31_0)) (v1 : (c : Dev Cert.InKernelIdeal.nD) → Buf (Elt Ideal) ((c.tc : Thread Cert.InKernelIdeal.nD Cert.InKernelIdeal.τ).loc Cert.InKernelIdeal.main_v31_1)) (v2 : (c : Dev Cert.InKernelIdeal.nD) → Buf (Elt Ideal) ((c.tc : Thread Cert.InKernelIdeal.nD Cert.InKernelIdeal.τ).loc Cert.InKernelIdeal.main_v31_2)) (v3 : (c : Dev Cert.InKernelIdeal.nD) → Buf (Elt Ideal) ((c.tc : Thread Cert.InKernelIdeal.nD Cert.InKernelIdeal.τ).loc Cert.InKernelIdeal.main_v31_3)) (v4 : (c : Dev Cert.InKernelIdeal.nD) → Buf (Elt Ideal) ((c.tc : Thread Cert.InKernelIdeal.nD Cert.InKernelIdeal.τ).loc Cert.InKernelIdeal.main_v31_4)) (v5 : (c : Dev Cert.InKernelIdeal.nD) → Buf (Elt Ideal) ((c.tc : Thread Cert.InKernelIdeal.nD Cert.InKernelIdeal.τ).loc Cert.InKernelIdeal.main_v31_5)) (v6 : (c : Dev Cert.InKernelIdeal.nD) → Buf (Elt Ideal) ((c.tc : Thread Cert.InKernelIdeal.nD Cert.InKernelIdeal.τ).loc Cert.InKernelIdeal.main_v31_6)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v31_0) = v0 c
          ∧ r.2.mem ((c.tc : Thread Cert.InKernelIdeal.nD Cert.InKernelIdeal.τ).loc Cert.InKernelIdeal.main_v31_1) = v1 c
          ∧ r.2.mem ((c.tc : Thread Cert.InKernelIdeal.nD Cert.InKernelIdeal.τ).loc Cert.InKernelIdeal.main_v31_2) = v2 c
          ∧ r.2.mem ((c.tc : Thread Cert.InKernelIdeal.nD Cert.InKernelIdeal.τ).loc Cert.InKernelIdeal.main_v31_3) = v3 c
          ∧ r.2.mem ((c.tc : Thread Cert.InKernelIdeal.nD Cert.InKernelIdeal.τ).loc Cert.InKernelIdeal.main_v31_4) = v4 c
          ∧ r.2.mem ((c.tc : Thread Cert.InKernelIdeal.nD Cert.InKernelIdeal.τ).loc Cert.InKernelIdeal.main_v31_5) = v5 c
          ∧ r.2.mem ((c.tc : Thread Cert.InKernelIdeal.nD Cert.InKernelIdeal.τ).loc Cert.InKernelIdeal.main_v31_6) = v6 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
          ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
          ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
          ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v181) = v0 c
          ∧ r.2.mem ((c.tc : Thread Cert.InReferenceIdeal.nD Cert.InReferenceIdeal.τ).loc Cert.InReferenceIdeal.main_v182) = v1 c
          ∧ r.2.mem ((c.tc : Thread Cert.InReferenceIdeal.nD Cert.InReferenceIdeal.τ).loc Cert.InReferenceIdeal.main_v183) = v2 c
          ∧ r.2.mem ((c.tc : Thread Cert.InReferenceIdeal.nD Cert.InReferenceIdeal.τ).loc Cert.InReferenceIdeal.main_v184) = v3 c
          ∧ r.2.mem ((c.tc : Thread Cert.InReferenceIdeal.nD Cert.InReferenceIdeal.τ).loc Cert.InReferenceIdeal.main_v185) = v4 c
          ∧ r.2.mem ((c.tc : Thread Cert.InReferenceIdeal.nD Cert.InReferenceIdeal.τ).loc Cert.InReferenceIdeal.main_v186) = v5 c
          ∧ r.2.mem ((c.tc : Thread Cert.InReferenceIdeal.nD Cert.InReferenceIdeal.τ).loc Cert.InReferenceIdeal.main_v20) = v6 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8)
          ∧ r.2.mem ((c.tc : Thread Cert.InReferenceIdeal.nD Cert.InReferenceIdeal.τ).loc Cert.InReferenceIdeal.main_arg9) = m' ((c.tc : Thread Cert.InReferenceIdeal.nD Cert.InReferenceIdeal.τ).loc Cert.InReferenceIdeal.main_arg9)
          ∧ r.2.mem ((c.tc : Thread Cert.InReferenceIdeal.nD Cert.InReferenceIdeal.τ).loc Cert.InReferenceIdeal.main_arg10) = m' ((c.tc : Thread Cert.InReferenceIdeal.nD Cert.InReferenceIdeal.τ).loc Cert.InReferenceIdeal.main_arg10))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts) (hPre_finite : Cert.Pre_finite.Facts) (hPre_finite_mix : Cert.Pre_finite_mix.Facts) (hPre_finite_gain : Cert.Pre_finite_gain.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_OutKernel (hOutKernel := hOutKernel)
    ∧ quiescent_OutKernelIdeal (hOutKernelIdeal := hOutKernelIdeal)
    ∧ quiescent_OutKernelIdeal_pre_finite_mix (hOutKernelIdeal := hOutKernelIdeal) (hPre_finite_mix := hPre_finite_mix)
    ∧ quiescent_OutReferenceIdeal (hOutReferenceIdeal := hOutReferenceIdeal)
    ∧ quiescent_OutReferenceIdeal_pre_finite_mix (hOutReferenceIdeal := hOutReferenceIdeal) (hPre_finite_mix := hPre_finite_mix)
    ∧ quiescent_InKernel (hInKernel := hInKernel)
    ∧ quiescent_InKernelIdeal (hInKernelIdeal := hInKernelIdeal)
    ∧ quiescent_InKernelIdeal_pre_finite_gain (hInKernelIdeal := hInKernelIdeal) (hPre_finite_gain := hPre_finite_gain)
    ∧ quiescent_InReferenceIdeal (hInReferenceIdeal := hInReferenceIdeal)
    ∧ quiescent_InReferenceIdeal_pre_finite_gain (hInReferenceIdeal := hInReferenceIdeal) (hPre_finite_gain := hPre_finite_gain)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal (hFfnKernelIdeal := hFfnKernelIdeal) (hFfnReferenceIdeal := hFfnReferenceIdeal)
    ∧ preserves_OutKernel_OutKernelIdeal
    ∧ algebraic_OutKernelIdeal_OutReferenceIdeal_pre_finite_mix (hOutKernelIdeal := hOutKernelIdeal) (hOutReferenceIdeal := hOutReferenceIdeal) (hPre_finite_mix := hPre_finite_mix)
    ∧ preserves_InKernel_InKernelIdeal
    ∧ algebraic_InKernelIdeal_InReferenceIdeal_pre_finite_gain (hInKernelIdeal := hInKernelIdeal) (hInReferenceIdeal := hInReferenceIdeal) (hPre_finite_gain := hPre_finite_gain)
-- ==== Pre_finite.lean ====
abbrev S8x8192x512 : Shape := ⟨3, ![8, 8192, 512]⟩
abbrev S8x8192x128 : Shape := ⟨3, ![8, 8192, 128]⟩
abbrev S_ : Shape := ⟨0, ![]⟩

class Facts : Prop where
  bcast_S_S8x8192x512 : S_.BroadcastsInDim S8x8192x512 (![] : Fin 0 → Fin S8x8192x512.rank)
  bcast_S_S8x8192x128 : S_.BroadcastsInDim S8x8192x128 (![] : Fin 0 → Fin S8x8192x128.rank)

variable [Facts]

def fn {F : FTy → Type} [FloatOps F] (main_arg0 : FVec F S8x8192x512 .bf16) (main_arg1 : FVec F S8x8192x128 .bf16) (main_arg2 : FVec F S8x8192x128 .bf16) : IVec S8x8192x512 1 × IVec S8x8192x128 1 :=
  let main_v0 : FVec F S8x8192x512 .bf16 := Host.absf main_arg0
  let main_cst : FVec F S_ .bf16 := constant S_ .bf16 0x7F80#16
  let main_v1 : FVec F S8x8192x512 .bf16 := broadcastInDim S8x8192x512 ![] bcast_S_S8x8192x512 main_cst
  let main_v2 : IVec S8x8192x512 1 := cmpf .olt main_v0 main_v1
  let main_v3 : FVec F S8x8192x128 .bf16 := Host.absf main_arg1
  let main_cst_0 : FVec F S_ .bf16 := constant S_ .bf16 0x7F80#16
  let main_v4 : FVec F S8x8192x128 .bf16 := broadcastInDim S8x8192x128 ![] bcast_S_S8x8192x128 main_cst_0
  let main_v5 : IVec S8x8192x128 1 := cmpf .olt main_v3 main_v4
  (main_v2, main_v5)
-- ==== Pre_finite_gain.lean ====
abbrev S65536x1024 : Shape := ⟨2, ![65536, 1024]⟩
abbrev S1024 : Shape := ⟨1, ![1024]⟩
abbrev S1024x1792 : Shape := ⟨2, ![1024, 1792]⟩
abbrev S64 : Shape := ⟨1, ![64]⟩
abbrev S8192x8 : Shape := ⟨2, ![8192, 8]⟩
abbrev S8192x16 : Shape := ⟨2, ![8192, 16]⟩
abbrev S_ : Shape := ⟨0, ![]⟩
abbrev S1024x640 : Shape := ⟨2, ![1024, 640]⟩

class Facts : Prop where
  bcast_S_S1024 : S_.BroadcastsInDim S1024 (![] : Fin 0 → Fin S1024.rank)
  slices_S1024x1792_S1024x640_0_768 : S1024x1792.Slices ![0, 768] S1024x640
  bcast_S_S1024x640 : S_.BroadcastsInDim S1024x640 (![] : Fin 0 → Fin S1024x640.rank)

variable [Facts]

def fn {F : FTy → Type} [FloatOps F] (main_arg0 : FVec F S65536x1024 .f32) (main_arg1 : FVec F S1024 .f32) (main_arg2 : FVec F S1024x1792 .f32) (main_arg3 : FVec F S64 .f32) (main_arg4 : FVec F S64 .f32) (main_arg5 : FVec F S8192x8 .f32) (main_arg6 : FVec F S8192x8 .f32) (main_arg7 : FVec F S8192x16 .f32) (main_arg8 : FVec F S8192x16 .f32) (main_arg9 : FVec F S8192x16 .f32) (main_arg10 : FVec F S8192x16 .f32) : IVec S1024 1 × IVec S1024x640 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x640 .f32 := (extractStridedSlice S1024x640 ![0, 768] · slices_S1024x1792_S1024x640_0_768) main_arg2
  let main_v4 : FVec F S1024x640 .f32 := Host.absf main_v3
  let main_cst_0 : FVec F S_ .f32 := constant S_ .f32 0x7F800000#32
  let main_v5 : FVec F S1024x640 .f32 := broadcastInDim S1024x640 ![] bcast_S_S1024x640 main_cst_0
  let main_v6 : IVec S1024x640 1 := cmpf .olt main_v4 main_v5
  (main_v2, main_v6)
-- ==== Pre_finite_mix.lean ====
abbrev S65536x256 : Shape := ⟨2, ![65536, 256]⟩
abbrev S65536x512 : Shape := ⟨2, ![65536, 512]⟩
abbrev S65536x1024 : Shape := ⟨2, ![65536, 1024]⟩
abbrev S1024 : Shape := ⟨1, ![1024]⟩
abbrev S1024x1024 : Shape := ⟨2, ![1024, 1024]⟩
abbrev S_ : Shape := ⟨0, ![]⟩

class Facts : Prop where
  bcast_S_S65536x256 : S_.BroadcastsInDim S65536x256 (![] : Fin 0 → Fin S65536x256.rank)
  bcast_S_S65536x512 : S_.BroadcastsInDim S65536x512 (![] : Fin 0 → Fin S65536x512.rank)

variable [Facts]

def fn {F : FTy → Type} [FloatOps F] (main_arg0 : FVec F S65536x256 .f32) (main_arg1 : FVec F S65536x512 .f32) (main_arg2 : FVec F S65536x256 .f32) (main_arg3 : FVec F S65536x1024 .f32) (main_arg4 : FVec F S1024 .f32) (main_arg5 : FVec F S1024x1024 .f32) (main_arg6 : FVec F S1024 .f32) (main_arg7 : FVec F S1024 .f32) : IVec S65536x256 1 × IVec S65536x512 1 × IVec S65536x256 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_v3 : FVec F S65536x512 .f32 := Host.absf main_arg1
  let main_cst_0 : FVec F S_ .f32 := constant S_ .f32 0x7F800000#32
  let main_v4 : FVec F S65536x512 .f32 := broadcastInDim S65536x512 ![] bcast_S_S65536x512 main_cst_0
  let main_v5 : IVec S65536x512 1 := cmpf .olt main_v3 main_v4
  let main_v6 : FVec F S65536x256 .f32 := Host.absf main_arg2
  let main_cst_1 : FVec F S_ .f32 := constant S_ .f32 0x7F800000#32
  let main_v7 : FVec F S65536x256 .f32 := broadcastInDim S65536x256 ![] bcast_S_S65536x256 main_cst_1
  let main_v8 : IVec S65536x256 1 := cmpf .olt main_v6 main_v7
  (main_v2, main_v5, main_v8)
-- ==== Kernel.lean ====
abbrev S8x8192x512 : Shape := ⟨3, ![8, 8192, 512]⟩
abbrev S8x8192x128 : Shape := ⟨3, ![8, 8192, 128]⟩
abbrev S1x128x512 : Shape := ⟨3, ![1, 128, 512]⟩
abbrev S1x8192x128 : Shape := ⟨3, ![1, 8192, 128]⟩
abbrev S512x64 : Shape := ⟨2, ![512, 64]⟩
abbrev S512x1 : Shape := ⟨2, ![512, 1]⟩
abbrev S1x128x64 : Shape := ⟨3, ![1, 128, 64]⟩
abbrev S128x64 : Shape := ⟨2, ![128, 64]⟩
abbrev S1x512x64 : Shape := ⟨3, ![1, 512, 64]⟩
abbrev S512x512 : Shape := ⟨2, ![512, 512]⟩
abbrev S512 : Shape := ⟨1, ![512]⟩

abbrev nBuf : Space → Nat
  | .hbm => 4
  | .vmem => 12
  | .smem => 0
  | _ => 0

abbrev bufTy : (tb : Table) → Fin (tcTables nBuf tb) → BufTy
  | .hbm, ⟨0, _⟩ => ⟨S8x8192x512, .bf16⟩
  | .hbm, ⟨1, _⟩ => ⟨S8x8192x128, .bf16⟩
  | .hbm, ⟨2, _⟩ => ⟨S8x8192x128, .bf16⟩
  | .hbm, ⟨3, _⟩ => ⟨S8x8192x512, .f32⟩
  | .local _ .vmem, ⟨0, _⟩ => ⟨S1x128x512, .bf16⟩
  | .local _ .vmem, ⟨1, _⟩ => ⟨S1x128x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x128x512, .f32⟩
  | .local _ .vmem, ⟨7, _⟩ => ⟨S1x128x512, .f32⟩
  | .local _ .vmem, ⟨8, _⟩ => ⟨S512x64, .bf16⟩
  | .local _ .vmem, ⟨9, _⟩ => ⟨S512x1, .f32⟩
  | .local _ .vmem, ⟨10, _⟩ => ⟨S512x1, .f32⟩
  | .local _ .vmem, ⟨11, _⟩ => ⟨S512x64, .f32⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 64], ![false, false]⟩

@[reducible] def k0_t1_loop : Scf.Loop 32 :=
  let c0_i32 : BitVec 32 := 0#32
  let c16_i32 : BitVec 32 := 16#32
  let v32 : BitVec 32 := Scalar.addi c0_i32 c16_i32
  let c1_i32 : BitVec 32 := 1#32
  ⟨c0_i32, v32, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v106 : BitVec 32 := Scalar.muli arg10 c512_i32
  v106
def k0_off1 (k0_t1 : Fin k0_t1_loop.trips) : Fin 3 → Nat :=
  let c0_86 : Index := 0#32
  let c0_i32 : BitVec 32 := 0#32
  let c1_i32 : BitVec 32 := 1#32
  let arg10 : BitVec 32 := Scf.iv c0_i32 c1_i32 k0_t1
  let c512_i32 : BitVec 32 := 512#32
  let v106 : BitVec 32 := Scalar.muli arg10 c512_i32
  let v107 : BitVec 32 := v106
  let v108 : Index := Scalar.indexCast v107
  let c0_87 : Index := 0#32
  ![0, v108.toNat, 0]
@[reducible] def k0_t2_loop : Scf.Loop 32 :=
  let c0_i32_66 : BitVec 32 := 0#32
  let c16_i32_67 : BitVec 32 := 16#32
  let v85 : BitVec 32 := Scalar.addi c0_i32_66 c16_i32_67
  let c1_i32_68 : BitVec 32 := 1#32
  ⟨c0_i32_66, v85, c1_i32_68⟩
def k0_mult2 (k0_t2 : Fin k0_t2_loop.trips) : BitVec 32 :=
  let c0_i32_66 : BitVec 32 := 0#32
  let c1_i32_68 : BitVec 32 := 1#32
  let arg10 : BitVec 32 := Scf.iv c0_i32_66 c1_i32_68 k0_t2
  let c512_i32 : BitVec 32 := 512#32
  let v106 : BitVec 32 := Scalar.muli arg10 c512_i32
  v106
def k0_off2 (k0_t2 : Fin k0_t2_loop.trips) : Fin 3 → Nat :=
  let c0_86 : Index := 0#32
  let c0_i32_66 : BitVec 32 := 0#32
  let c1_i32_68 : BitVec 32 := 1#32
  let arg10 : BitVec 32 := Scf.iv c0_i32_66 c1_i32_68 k0_t2
  let c512_i32 : BitVec 32 := 512#32
  let v106 : BitVec 32 := Scalar.muli arg10 c512_i32
  let v107 : BitVec 32 := v106
  let v108 : Index := Scalar.indexCast v107
  let c64_87 : Index := 64#32
  ![0, v108.toNat, 64]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x8192x512 : Shape := ⟨3, ![8, 8192, 512]⟩
abbrev S8x8192x128 : Shape := ⟨3, ![8, 8192, 128]⟩
abbrev S8x8192x2x4x64 : Shape := ⟨5, ![8, 8192, 2, 4, 64]⟩
abbrev S8x8192x2x64 : Shape := ⟨4, ![8, 8192, 2, 64]⟩
abbrev S8x2x8192x8192x4 : Shape := ⟨5, ![8, 2, 8192, 8192, 4]⟩
abbrev S8x2x4x8192x8192 : Shape := ⟨5, ![8, 2, 4, 8192, 8192]⟩
abbrev S_ : Shape := ⟨0, ![]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8x8192x512, .bf16⟩
  | .hbm, ⟨1, _⟩ => ⟨S8x8192x128, .bf16⟩
  | .hbm, ⟨2, _⟩ => ⟨S8x8192x128, .bf16⟩
  | .hbm, ⟨3, _⟩ => ⟨S8x8192x512, .f32⟩
  | .hbm, ⟨4, _⟩ => ⟨S8x8192x2x4x64, .f32⟩
  | .hbm, ⟨5, _⟩ => ⟨S8x8192x128, .f32⟩
  | .hbm, ⟨6, _⟩ => ⟨S8x8192x2x64, .f32⟩
  | .hbm, ⟨7, _⟩ => ⟨S8x8192x128, .f32⟩
  | .hbm, ⟨8, _⟩ => ⟨S8x8192x2x64, .f32⟩
  | .hbm, ⟨9, _⟩ => ⟨S8x2x8192x8192x4, .f32⟩
  | .hbm, ⟨10, _⟩ => ⟨S8x2x4x8192x8192, .f32⟩
  | .hbm, ⟨11, _⟩ => ⟨S_, .f32⟩
  | .hbm, ⟨12, _⟩ => ⟨S8x2x4x8192, .f32⟩
  | .hbm, ⟨13, _⟩ => ⟨S_, .f32⟩
  | .hbm, ⟨14, _⟩ => ⟨S8x2x4x8192, .f32⟩
  | .hbm, ⟨15, _⟩ => ⟨S8x2x4x8192, .f32⟩
  | .hbm, ⟨16, _⟩ => ⟨S8x2x4x8192x1, .f32⟩
  | .hbm, ⟨17, _⟩ => ⟨S8x2x4x8192x8192, .f32⟩
  | .hbm, ⟨18, _⟩ => ⟨S8x2x4x8192x8192, .f32⟩
  | .hbm, ⟨19, _⟩ => ⟨S8x2x4x8192x8192, .f32⟩
  | .hbm, ⟨20, _⟩ => ⟨S_, .f32⟩
  | .hbm, ⟨21, _⟩ => ⟨S8x2x4x8192, .f32⟩
  | .hbm, ⟨22, _⟩ => ⟨S8x2x4x8192x1, .f32⟩
  | .hbm, ⟨23, _⟩ => ⟨S8x2x4x8192x8192, .f32⟩
  | .hbm, ⟨24, _⟩ => ⟨S8x2x4x8192x8192, .f32⟩
  | .hbm, ⟨25, _⟩ => ⟨S8x2x64x4x8192, .f32⟩
  | .hbm, ⟨26, _⟩ => ⟨S8x8192x2x4x64, .f32⟩
  | .hbm, ⟨27, _⟩ => ⟨S8x8192x512, .f32⟩
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== FfnKernel.lean ====
abbrev S65536x1024 : Shape := ⟨2, ![65536, 1024]⟩
abbrev S1024x4096 : Shape := ⟨2, ![1024, 4096]⟩
abbrev S3x4096 : Shape := ⟨2, ![3, 4096]⟩
abbrev S4096 : Shape := ⟨1, ![4096]⟩
abbrev S4096x1024 : Shape := ⟨2, ![4096, 1024]⟩
abbrev S1024 : Shape := ⟨1, ![1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S3x8x512 : Shape := ⟨3, ![3, 8, 512]⟩
abbrev S8x3x512 : Shape := ⟨3, ![8, 3, 512]⟩
abbrev S8x1x512 : Shape := ⟨3, ![8, 1, 512]⟩
abbrev S1x1024 : Shape := ⟨2, ![1, 1024]⟩
abbrev S4096x16x1024 : Shape := ⟨3, ![4096, 16, 1024]⟩
abbrev S1024x1024 : Shape := ⟨2, ![1024, 1024]⟩
abbrev S1x16x1024 : Shape := ⟨3, ![1, 16, 1024]⟩
abbrev S1x1024x512 : Shape := ⟨3, ![1, 1024, 512]⟩
abbrev S1x512x1024 : Shape := ⟨3, ![1, 512, 1024]⟩
abbrev S1x3x512 : Shape := ⟨3, ![1, 3, 512]⟩
abbrev S1x1x512 : Shape := ⟨3, ![1, 1, 512]⟩
abbrev S1056x1024 : Shape := ⟨2, ![1056, 1024]⟩
abbrev S1056x512 : Shape := ⟨2, ![1056, 512]⟩
abbrev S16x1024 : Shape := ⟨2, ![16, 1024]⟩
abbrev S1024x512 : Shape := ⟨2, ![1024, 512]⟩
abbrev S3x512 : Shape := ⟨2, ![3, 512]⟩
abbrev S1x512 : Shape := ⟨2, ![1, 512]⟩
abbrev S512x1024 : Shape := ⟨2, ![512, 1024]⟩
abbrev S1024x1 : Shape := ⟨2, ![1024, 1]⟩

abbrev nBuf : Space → Nat
  | .hbm => 22
  | .vmem => 24
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x4096, .f32⟩
  | .hbm, ⟨3, _⟩ => ⟨S1024x4096, .f32⟩
  | .hbm, ⟨4, _⟩ => ⟨S3x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S1024x4096, .bf16⟩
  | .hbm, ⟨9, _⟩ => ⟨S1024x8x512, .bf16⟩
  | .hbm, ⟨10, _⟩ => ⟨S8x1024x512, .bf16⟩
  | .hbm, ⟨11, _⟩ => ⟨S1024x4096, .bf16⟩
  | .hbm, ⟨12, _⟩ => ⟨S1024x8x512, .bf16⟩
  | .hbm, ⟨13, _⟩ => ⟨S8x1024x512, .bf16⟩
  | .hbm, ⟨14, _⟩ => ⟨S4096x1024, .bf16⟩
  | .hbm, ⟨15, _⟩ => ⟨S8x512x1024, .bf16⟩
  | .hbm, ⟨16, _⟩ => ⟨S3x8x512, .f32⟩
  | .hbm, ⟨17, _⟩ => ⟨S8x3x512, .f32⟩
  | .hbm, ⟨18, _⟩ => ⟨S8x1x512, .f32⟩
  | .hbm, ⟨19, _⟩ => ⟨S1x1024, .f32⟩
  | .hbm, ⟨20, _⟩ => ⟨S4096x16x1024, .bf16⟩
  | .hbm, ⟨21, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x3x512, .f32⟩
  | .local _ .vmem, ⟨15, _⟩ => ⟨S1x3x512, .f32⟩
  | .local _ .vmem, ⟨16, _⟩ => ⟨S1x1x512, .f32⟩
  | .local _ .vmem, ⟨17, _⟩ => ⟨S1x1x512, .f32⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1056x1024, .bf16⟩
  | .local _ .vmem, ⟨22, _⟩ => ⟨S1056x512, .f32⟩
  | .local _ .vmem, ⟨23, _⟩ => ⟨S1024x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v57 : BitVec 1 := Scalar.cmpi .eq arg1 c7_i32
  let v58 : BitVec 32 := Scalar.extui v57
  let c0_i32_34 : BitVec 32 := 0#32
  let v59 : BitVec 1 := Scalar.cmpi .ne v58 c0_i32_34
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnReferenceIdeal.lean ====
abbrev S65536x1024 : Shape := ⟨2, ![65536, 1024]⟩
abbrev S1024x4096 : Shape := ⟨2, ![1024, 4096]⟩
abbrev S3x4096 : Shape := ⟨2, ![3, 4096]⟩
abbrev S4096 : Shape := ⟨1, ![4096]⟩
abbrev S4096x1024 : Shape := ⟨2, ![4096, 1024]⟩
abbrev S1024 : Shape := ⟨1, ![1024]⟩
abbrev S8x8192x1024 : Shape := ⟨3, ![8, 8192, 1024]⟩
abbrev S8x8192x4096 : Shape := ⟨3, ![8, 8192, 4096]⟩
abbrev S_ : Shape := ⟨0, ![]⟩
abbrev S8x8194x4096 : Shape := ⟨3, ![8, 8194, 4096]⟩
abbrev S1x4096 : Shape := ⟨2, ![1, 4096]⟩
abbrev S1x1x4096 : Shape := ⟨3, ![1, 1, 4096]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S1024x4096, .f32⟩
  | .hbm, ⟨3, _⟩ => ⟨S1024x4096, .f32⟩
  | .hbm, ⟨4, _⟩ => ⟨S3x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S65536x1024, .f32⟩
  | .hbm, ⟨9, _⟩ => ⟨S8x8192x1024, .f32⟩
  | .hbm, ⟨10, _⟩ => ⟨S8x8192x1024, .f32⟩
  | .hbm, ⟨11, _⟩ => ⟨S8x8192x4096, .f32⟩
  | .hbm, ⟨12, _⟩ => ⟨S_, .i32⟩
  | .hbm, ⟨13, _⟩ => ⟨S_, .f32⟩
  | .hbm, ⟨14, _⟩ => ⟨S8x8194x4096, .f32⟩
  | .hbm, ⟨15, _⟩ => ⟨S8x8192x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S8x8192x4096, .f32⟩
  | .hbm, ⟨20, _⟩ => ⟨S8x8192x4096, .f32⟩
  | .hbm, ⟨21, _⟩ => ⟨S8x8192x4096, .f32⟩
  | .hbm, ⟨22, _⟩ => ⟨S1x4096, .f32⟩
  | .hbm, ⟨23, _⟩ => ⟨S4096, .f32⟩
  | .hbm, ⟨24, _⟩ => ⟨S1x1x4096, .f32⟩
  | .hbm, ⟨25, _⟩ => ⟨S8x8192x4096, .f32⟩
  | .hbm, ⟨26, _⟩ => ⟨S8x8192x4096, .f32⟩
  | .hbm, ⟨27, _⟩ => ⟨S8x8192x4096, .f32⟩
  | .hbm, ⟨28, _⟩ => ⟨S8x8192x4096, .f32⟩
  | .hbm, ⟨29, _⟩ => ⟨S1x4096, .f32⟩
  | .hbm, ⟨30, _⟩ => ⟨S4096, .f32⟩
  | .hbm, ⟨31, _⟩ => ⟨S1x1x4096, .f32⟩
  | .hbm, ⟨32, _⟩ => ⟨S8x8192x4096, .f32⟩
  | .hbm, ⟨33, _⟩ => ⟨S8x8192x4096, .f32⟩
  | .hbm, ⟨34, _⟩ => ⟨S8x8192x4096, .f32⟩
  | .hbm, ⟨35, _⟩ => ⟨S1x1x4096, .f32⟩
  | .hbm, ⟨36, _⟩ => ⟨S8x8192x4096, .f32⟩
  | .hbm, ⟨37, _⟩ => ⟨S8x8192x4096, .f32⟩
  | .hbm, ⟨38, _⟩ => ⟨S8x8192x4096, .f32⟩
  | .hbm, ⟨39, _⟩ => ⟨S8x8192x4096, .f32⟩
  | .hbm, ⟨40, _⟩ => ⟨S_, .f32⟩
  | .hbm, ⟨41, _⟩ => ⟨S8x8192x4096, .f32⟩
  | .hbm, ⟨42, _⟩ => ⟨S8x8192x4096, .f32⟩
  | .hbm, ⟨43, _⟩ => ⟨S8x8192x4096, .f32⟩
  | .hbm, ⟨44, _⟩ => ⟨S_, .f32⟩
  | .hbm, ⟨45, _⟩ => ⟨S8x8192x4096, .f32⟩
  | .hbm, ⟨46, _⟩ => ⟨S8x8192x4096, .f32⟩
  | .hbm, ⟨47, _⟩ => ⟨S8x8192x4096, .f32⟩
  | .hbm, ⟨48, _⟩ => ⟨S_, .f32⟩
  | .hbm, ⟨49, _⟩ => ⟨S8x8192x4096, .f32⟩
  | .hbm, ⟨50, _⟩ => ⟨S8x8192x4096, .f32⟩
  | .hbm, ⟨51, _⟩ => ⟨S_, .f32⟩
  | .hbm, ⟨52, _⟩ => ⟨S8x8192x4096, .f32⟩
  | .hbm, ⟨53, _⟩ => ⟨S8x8192x4096, .f32⟩
  | .hbm, ⟨54, _⟩ => ⟨S8x8192x4096, .f32⟩
  | .hbm, ⟨55, _⟩ => ⟨S8x8192x4096, .f32⟩
  | .hbm, ⟨56, _⟩ => ⟨S8x8192x4096, .f32⟩
  | .hbm, ⟨57, _⟩ => ⟨S8x8192x1024, .f32⟩
  | .hbm, ⟨58, _⟩ => ⟨S8x8192x1024, .f32⟩
  | .hbm, ⟨59, _⟩ => ⟨S_, .f32⟩
  | .hbm, ⟨60, _⟩ => ⟨S8x8192, .f32⟩
  | .hbm, ⟨61, _⟩ => ⟨S8x8192x1, .f32⟩
  | .hbm, ⟨62, _⟩ => ⟨S_, .f32⟩
  | .hbm, ⟨63, _⟩ => ⟨S8x8192x1, .f32⟩
  | .hbm, ⟨64, _⟩ => ⟨S8x8192x1, .f32⟩
  | .hbm, ⟨65, _⟩ => ⟨S_, .f32⟩
  | .hbm, ⟨66, _⟩ => ⟨S8x8192x1, .f32⟩
  | .hbm, ⟨67, _⟩ => ⟨S8x8192x1, .f32⟩
  | .hbm, ⟨68, _⟩ => ⟨S8x8192x1, .f32⟩
  | .hbm, ⟨69, _⟩ => ⟨S8x8192x1024, .f32⟩
  | .hbm, ⟨70, _⟩ => ⟨S8x8192x1024, .f32⟩
  | .hbm, ⟨71, _⟩ => ⟨S1x1x1024, .f32⟩
  | .hbm, ⟨72, _⟩ => ⟨S8x8192x1024, .f32⟩
  | .hbm, ⟨73, _⟩ => ⟨S8x8192x1024, .f32⟩
  | .hbm, ⟨74, _⟩ => ⟨S8x8192x1024, .f32⟩
  | .hbm, ⟨75, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== OutKernel.lean ====
abbrev S65536x256 : Shape := ⟨2, ![65536, 256]⟩
abbrev S65536x512 : Shape := ⟨2, ![65536, 512]⟩
abbrev S65536x1024 : Shape := ⟨2, ![65536, 1024]⟩
abbrev S1024 : Shape := ⟨1, ![1024]⟩
abbrev S1024x1024 : Shape := ⟨2, ![1024, 1024]⟩
abbrev S128x128 : Shape := ⟨2, ![128, 128]⟩
abbrev S1x1024 : Shape := ⟨2, ![1, 1024]⟩
abbrev S512x256 : Shape := ⟨2, ![512, 256]⟩
abbrev S512x512 : Shape := ⟨2, ![512, 512]⟩
abbrev S512x1024 : Shape := ⟨2, ![512, 1024]⟩
abbrev S512x128 : Shape := ⟨2, ![512, 128]⟩
abbrev S1x128 : Shape := ⟨2, ![1, 128]⟩
abbrev S128x1024 : Shape := ⟨2, ![128, 1024]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S65536x256, .f32⟩
  | .hbm, ⟨3, _⟩ => ⟨S65536x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S128x128, .bf16⟩
  | .hbm, ⟨9, _⟩ => ⟨S1x1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S65536x1024, .f32⟩
  | .hbm, ⟨14, _⟩ => ⟨S65536x1024, .bf16⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S128x128, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutReferenceIdeal.lean ====
abbrev S65536x256 : Shape := ⟨2, ![65536, 256]⟩
abbrev S65536x512 : Shape := ⟨2, ![65536, 512]⟩
abbrev S65536x1024 : Shape := ⟨2, ![65536, 1024]⟩
abbrev S1024 : Shape := ⟨1, ![1024]⟩
abbrev S1024x1024 : Shape := ⟨2, ![1024, 1024]⟩
abbrev S65536x4x64 : Shape := ⟨3, ![65536, 4, 64]⟩
abbrev S65536x8x64 : Shape := ⟨3, ![65536, 8, 64]⟩
abbrev S65536x16x64 : Shape := ⟨3, ![65536, 16, 64]⟩
abbrev S16x64 : Shape := ⟨2, ![16, 64]⟩
abbrev S_ : Shape := ⟨0, ![]⟩
abbrev S65536x16 : Shape := ⟨2, ![65536, 16]⟩
abbrev S65536x16x1 : Shape := ⟨3, ![65536, 16, 1]⟩
abbrev S1x16x64 : Shape := ⟨3, ![1, 16, 64]⟩
abbrev S65536 : Shape := ⟨1, ![65536]⟩
abbrev S65536x1 : Shape := ⟨2, ![65536, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S65536x256, .f32⟩
  | .hbm, ⟨3, _⟩ => ⟨S65536x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S65536x4x64, .f32⟩
  | .hbm, ⟨9, _⟩ => ⟨S65536x8x64, .f32⟩
  | .hbm, ⟨10, _⟩ => ⟨S65536x4x64, .f32⟩
  | .hbm, ⟨11, _⟩ => ⟨S65536x16x64, .f32⟩
  | .hbm, ⟨12, _⟩ => ⟨S16x64, .f32⟩
  | .hbm, ⟨13, _⟩ => ⟨S65536x16x64, .f32⟩
  | .hbm, ⟨14, _⟩ => ⟨S_, .f32⟩
  | .hbm, ⟨15, _⟩ => ⟨S65536x16, .f32⟩
  | .hbm, ⟨16, _⟩ => ⟨S65536x16x1, .f32⟩
  | .hbm, ⟨17, _⟩ => ⟨S_, .f32⟩
  | .hbm, ⟨18, _⟩ => ⟨S65536x16x1, .f32⟩
  | .hbm, ⟨19, _⟩ => ⟨S65536x16x1, .f32⟩
  | .hbm, ⟨20, _⟩ => ⟨S_, .f32⟩
  | .hbm, ⟨21, _⟩ => ⟨S65536x16x1, .f32⟩
  | .hbm, ⟨22, _⟩ => ⟨S65536x16x1, .f32⟩
  | .hbm, ⟨23, _⟩ => ⟨S65536x16x1, .f32⟩
  | .hbm, ⟨24, _⟩ => ⟨S65536x16x64, .f32⟩
  | .hbm, ⟨25, _⟩ => ⟨S65536x16x64, .f32⟩
  | .hbm, ⟨26, _⟩ => ⟨S1x16x64, .f32⟩
  | .hbm, ⟨27, _⟩ => ⟨S65536x16x64, .f32⟩
  | .hbm, ⟨28, _⟩ => ⟨S65536x16x64, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x1, .f32⟩
  | .hbm, ⟨42, _⟩ => ⟨S65536x1024, .f32⟩
  | .hbm, ⟨43, _⟩ => ⟨S65536x1024, .f32⟩
  | .hbm, ⟨44, _⟩ => ⟨S1x1024, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S_, .f32⟩
  | .hbm, ⟨53, _⟩ => ⟨S65536x1, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S65536x1, .f32⟩
  | .hbm, ⟨59, _⟩ => ⟨S65536x1024, .f32⟩
  | .hbm, ⟨60, _⟩ => ⟨S65536x1024, .f32⟩
  | .hbm, ⟨61, _⟩ => ⟨S1x1024, .f32⟩
  | .hbm, ⟨62, _⟩ => ⟨S65536x1024, .f32⟩
  | .hbm, ⟨63, _⟩ => ⟨S65536x1024, .f32⟩
  | .hbm, ⟨64, _⟩ => ⟨S65536x1024, .bf16⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== InKernel.lean ====
abbrev S65536x1024 : Shape := ⟨2, ![65536, 1024]⟩
abbrev S1024 : Shape := ⟨1, ![1024]⟩
abbrev S1024x1792 : Shape := ⟨2, ![1024, 1792]⟩
abbrev S64 : Shape := ⟨1, ![64]⟩
abbrev S8192x8 : Shape := ⟨2, ![8192, 8]⟩
abbrev S8192x16 : Shape := ⟨2, ![8192, 16]⟩
abbrev S128x128 : Shape := ⟨2, ![128, 128]⟩
abbrev S_ : Shape := ⟨0, ![]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S65536x256 : Shape := ⟨2, ![65536, 256]⟩
abbrev S65536x512 : Shape := ⟨2, ![65536, 512]⟩
abbrev S65536x128 : Shape := ⟨2, ![65536, 128]⟩
abbrev S512x1024 : Shape := ⟨2, ![512, 1024]⟩
abbrev S512x128 : Shape := ⟨2, ![512, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩

abbrev nBuf : Space → Nat
  | .hbm => 52
  | .vmem => 29
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1792, .f32⟩
  | .hbm, ⟨3, _⟩ => ⟨S64, .f32⟩
  | .hbm, ⟨4, _⟩ => ⟨S64, .f32⟩
  | .hbm, ⟨5, _⟩ => ⟨S8192x8, .f32⟩
  | .hbm, ⟨6, _⟩ => ⟨S8192x8, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .hbm, ⟨11, _⟩ => ⟨S128x128, .bf16⟩
  | .hbm, ⟨12, _⟩ => ⟨S_, .f32⟩
  | .hbm, ⟨13, _⟩ => ⟨S8192x48, .f32⟩
  | .hbm, ⟨14, _⟩ => ⟨S8192x64, .f32⟩
  | .hbm, ⟨15, _⟩ => ⟨S8192x8, .f32⟩
  | .hbm, ⟨16, _⟩ => ⟨S_, .f32⟩
  | .hbm, ⟨17, _⟩ => ⟨S8192x48, .f32⟩
  | .hbm, ⟨18, _⟩ => ⟨S8192x64, .f32⟩
  | .hbm, ⟨19, _⟩ => ⟨S8192x64, .f32⟩
  | .hbm, ⟨20, _⟩ => ⟨S8192x16, .f32⟩
  | .hbm, ⟨21, _⟩ => ⟨S8192x16, .f32⟩
  | .hbm, ⟨22, _⟩ => ⟨S8192x64, .f32⟩
  | .hbm, ⟨23, _⟩ => ⟨S1x8192x1x64, .f32⟩
  | .hbm, ⟨24, _⟩ => ⟨S1x8192x2x64, .f32⟩
  | .hbm, ⟨25, _⟩ => ⟨S8192x128, .f32⟩
  | .hbm, ⟨26, _⟩ => ⟨S1x8192x1x64, .f32⟩
  | .hbm, ⟨27, _⟩ => ⟨S1x8192x2x64, .f32⟩
  | .hbm, ⟨28, _⟩ => ⟨S8192x128, .f32⟩
  | .hbm, ⟨29, _⟩ => ⟨S1x8192x1x64, .f32⟩
  | .hbm, ⟨30, _⟩ => ⟨S1x8192x2x64, .f32⟩
  | .hbm, ⟨31, _⟩ => ⟨S8192x128, .f32⟩
  | .hbm, ⟨32, _⟩ => ⟨S1x8192x1x64, .f32⟩
  | .hbm, ⟨33, _⟩ => ⟨S1x8192x2x64, .f32⟩
  | .hbm, ⟨34, _⟩ => ⟨S8192x128, .f32⟩
  | .hbm, ⟨35, _⟩ => ⟨S1x1024, .f32⟩
  | .hbm, ⟨36, _⟩ => ⟨S1024x1792, .bf16⟩
  | .hbm, ⟨37, _⟩ => ⟨S1x64, .f32⟩
  | .hbm, ⟨38, _⟩ => ⟨S1x1x1x64, .f32⟩
  | .hbm, ⟨39, _⟩ => ⟨S1x1x2x64, .f32⟩
  | .hbm, ⟨40, _⟩ => ⟨S1x128, .f32⟩
  | .hbm, ⟨41, _⟩ => ⟨S1x64, .f32⟩
  | .hbm, ⟨42, _⟩ => ⟨S1x1x1x64, .f32⟩
  | .hbm, ⟨43, _⟩ => ⟨S1x1x2x64, .f32⟩
  | .hbm, ⟨44, _⟩ => ⟨S1x128, .f32⟩
  | .hbm, ⟨45, _⟩ => ⟨S65536x256, .bf16⟩
  | .hbm, ⟨46, _⟩ => ⟨S65536x256, .bf16⟩
  | .hbm, ⟨47, _⟩ => ⟨S65536x256, .bf16⟩
  | .hbm, ⟨48, _⟩ => ⟨S65536x512, .bf16⟩
  | .hbm, ⟨49, _⟩ => ⟨S65536x128, .bf16⟩
  | .hbm, ⟨50, _⟩ => ⟨S65536x128, .bf16⟩
  | .hbm, ⟨51, _⟩ => ⟨S65536x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S128x128, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x512, .bf16⟩
  | .local _ .vmem, ⟨22, _⟩ => ⟨S512x512, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x256, .f32⟩
  | .local _ .vmem, ⟨28, _⟩ => ⟨S512x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev main_v31_2 : Ref sig .tc := ⟨.hbm, 47, rfl⟩
abbrev main_v31_3 : Ref sig .tc := ⟨.hbm, 48, rfl⟩
abbrev main_v31_4 : Ref sig .tc := ⟨.hbm, 49, rfl⟩
abbrev main_v31_5 : Ref sig .tc := ⟨.hbm, 50, rfl⟩
abbrev main_v31_6 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InReferenceIdeal.lean ====
abbrev S65536x1024 : Shape := ⟨2, ![65536, 1024]⟩
abbrev S1024 : Shape := ⟨1, ![1024]⟩
abbrev S1024x1792 : Shape := ⟨2, ![1024, 1792]⟩
abbrev S64 : Shape := ⟨1, ![64]⟩
abbrev S8192x8 : Shape := ⟨2, ![8192, 8]⟩
abbrev S8192x16 : Shape := ⟨2, ![8192, 16]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x1792 : Shape := ⟨2, ![65536, 1792]⟩
abbrev S65536x256 : Shape := ⟨2, ![65536, 256]⟩
abbrev S65536x512 : Shape := ⟨2, ![65536, 512]⟩
abbrev S65536x128 : Shape := ⟨2, ![65536, 128]⟩
abbrev S8x8192x4x64 : Shape := ⟨4, ![8, 8192, 4, 64]⟩
abbrev S8x8192x4x8 : Shape := ⟨4, ![8, 8192, 4, 8]⟩
abbrev S8x8192x4x48 : Shape := ⟨4, ![8, 8192, 4, 48]⟩
abbrev S8192x1x8 : Shape := ⟨3, ![8192, 1, 8]⟩
abbrev S1x8192x1x8 : Shape := ⟨4, ![1, 8192, 1, 8]⟩
abbrev S8x8192x8x64 : Shape := ⟨4, ![8, 8192, 8, 64]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩
abbrev S8x8192x8x32 : Shape := ⟨4, ![8, 8192, 8, 32]⟩
abbrev S8x8192x8x16 : Shape := ⟨4, ![8, 8192, 8, 16]⟩
abbrev S8192x1x16 : Shape := ⟨3, ![8192, 1, 16]⟩
abbrev S1x8192x1x16 : Shape := ⟨4, ![1, 8192, 1, 16]⟩
abbrev S8x8192x2x64 : Shape := ⟨4, ![8, 8192, 2, 64]⟩
abbrev S8x8192x2 : Shape := ⟨3, ![8, 8192, 2]⟩
abbrev S8x8192x2x1 : Shape := ⟨4, ![8, 8192, 2, 1]⟩
abbrev S8x8192x2x32 : Shape := ⟨4, ![8, 8192, 2, 32]⟩
abbrev S8x8192x2x16 : Shape := ⟨4, ![8, 8192, 2, 16]⟩

abbrev nBuf : Space → Nat
  | .hbm => 209
  | .vmem => 0
  | .smem => 0
  | _ => 0

abbrev hbmTy0_0 (i : Nat) : BufTy := match i % 128 with
  | 0 => ⟨S65536x1024, .f32⟩
  | 1 => ⟨S1024, .f32⟩
  | 2 => ⟨S1024x1792, .f32⟩
  | 3 => ⟨S64, .f32⟩
  | 4 => ⟨S64, .f32⟩
  | 5 => ⟨S8192x8, .f32⟩
  | 6 => ⟨S8192x8, .f32⟩
  | 7 => ⟨S8192x16, .f32⟩
  | 8 => ⟨S8192x16, .f32⟩
  | 9 => ⟨S8192x16, .f32⟩
  | 10 => ⟨S8192x16, .f32⟩
  | 11 => ⟨S65536x1024, .f32⟩
  | 12 => ⟨S_, .f32⟩
  | 13 => ⟨S65536, .f32⟩
  | 14 => ⟨S65536x1, .f32⟩
  | 15 => ⟨S_, .f32⟩
  | 16 => ⟨S65536x1, .f32⟩
  | 17 => ⟨S65536x1, .f32⟩
  | 18 => ⟨S_, .f32⟩
  | 19 => ⟨S65536x1, .f32⟩
  | 20 => ⟨S65536x1, .f32⟩
  | 21 => ⟨S65536x1, .f32⟩
  | 22 => ⟨S65536x1024, .f32⟩
  | 23 => ⟨S65536x1024, .f32⟩
  | 24 => ⟨S1x1024, .f32⟩
  | 25 => ⟨S65536x1024, .f32⟩
  | 26 => ⟨S65536x1024, .f32⟩
  | 27 => ⟨S65536x1792, .f32⟩
  | 28 => ⟨S65536x256, .f32⟩
  | 29 => ⟨S65536x256, .f32⟩
  | 30 => ⟨S65536x256, .f32⟩
  | 31 => ⟨S65536x512, .f32⟩
  | 32 => ⟨S65536x128, .f32⟩
  | 33 => ⟨S65536x128, .f32⟩
  | 34 => ⟨S65536x256, .f32⟩
  | 35 => ⟨S8x8192x4x64, .f32⟩
  | 36 => ⟨S8x8192x4x8, .f32⟩
  | 37 => ⟨S8x8192x4x8, .f32⟩
  | 38 => ⟨S8x8192x4x48, .f32⟩
  | 39 => ⟨S8192x1x8, .f32⟩
  | 40 => ⟨S8192x1x8, .f32⟩
  | 41 => ⟨S1x8192x1x8, .f32⟩
  | 42 => ⟨S8x8192x4x8, .f32⟩
  | 43 => ⟨S8x8192x4x8, .f32⟩
  | 44 => ⟨S1x8192x1x8, .f32⟩
  | 45 => ⟨S8x8192x4x8, .f32⟩
  | 46 => ⟨S8x8192x4x8, .f32⟩
  | 47 => ⟨S8x8192x4x8, .f32⟩
  | 48 => ⟨S1x8192x1x8, .f32⟩
  | 49 => ⟨S8x8192x4x8, .f32⟩
  | 50 => ⟨S8x8192x4x8, .f32⟩
  | 51 => ⟨S1x8192x1x8, .f32⟩
  | 52 => ⟨S8x8192x4x8, .f32⟩
  | 53 => ⟨S8x8192x4x8, .f32⟩
  | 54 => ⟨S8x8192x4x8, .f32⟩
  | 55 => ⟨S8x8192x4x64, .f32⟩
  | 56 => ⟨S65536x256, .f32⟩
  | 57 => ⟨S_, .f32⟩
  | 58 => ⟨S65536x256, .f32⟩
  | 59 => ⟨S65536x256, .f32⟩
  | 60 => ⟨S8x8192x4x64, .f32⟩
  | 61 => ⟨S8x8192x4x8, .f32⟩
  | 62 => ⟨S8x8192x4x8, .f32⟩
  | 63 => ⟨S8x8192x4x48, .f32⟩
  | 64 => ⟨S8192x1x8, .f32⟩
  | 65 => ⟨S8192x1x8, .f32⟩
  | 66 => ⟨S1x8192x1x8, .f32⟩
  | 67 => ⟨S8x8192x4x8, .f32⟩
  | 68 => ⟨S8x8192x4x8, .f32⟩
  | 69 => ⟨S1x8192x1x8, .f32⟩
  | 70 => ⟨S8x8192x4x8, .f32⟩
  | 71 => ⟨S8x8192x4x8, .f32⟩
  | 72 => ⟨S8x8192x4x8, .f32⟩
  | 73 => ⟨S1x8192x1x8, .f32⟩
  | 74 => ⟨S8x8192x4x8, .f32⟩
  | 75 => ⟨S8x8192x4x8, .f32⟩
  | 76 => ⟨S1x8192x1x8, .f32⟩
  | 77 => ⟨S8x8192x4x8, .f32⟩
  | 78 => ⟨S8x8192x4x8, .f32⟩
  | 79 => ⟨S8x8192x4x8, .f32⟩
  | 80 => ⟨S8x8192x4x64, .f32⟩
  | 81 => ⟨S65536x256, .f32⟩
  | 82 => ⟨S8x8192x8x64, .f32⟩
  | 83 => ⟨S8x8192x8x64, .f32⟩
  | 84 => ⟨S_, .f32⟩
  | 85 => ⟨S8x8192x8, .f32⟩
  | 86 => ⟨S8x8192x8x1, .f32⟩
  | 87 => ⟨S_, .f32⟩
  | 88 => ⟨S8x8192x8x1, .f32⟩
  | 89 => ⟨S8x8192x8x1, .f32⟩
  | 90 => ⟨S_, .f32⟩
  | 91 => ⟨S8x8192x8x1, .f32⟩
  | 92 => ⟨S8x8192x8x1, .f32⟩
  | 93 => ⟨S8x8192x8x1, .f32⟩
  | 94 => ⟨S8x8192x8x64, .f32⟩
  | 95 => ⟨S8x8192x8x64, .f32⟩
  | 96 => ⟨S1x1x1x64, .f32⟩
  | 97 => ⟨S8x8192x8x64, .f32⟩
  | 98 => ⟨S8x8192x8x64, .f32⟩
  | 99 => ⟨S8x8192x8x32, .f32⟩
  | 100 => ⟨S8x8192x8x16, .f32⟩
  | 101 => ⟨S8x8192x8x16, .f32⟩
  | 102 => ⟨S8192x1x16, .f32⟩
  | 103 => ⟨S8192x1x16, .f32⟩
  | 104 => ⟨S1x8192x1x16, .f32⟩
  | 105 => ⟨S8x8192x8x16, .f32⟩
  | 106 => ⟨S8x8192x8x16, .f32⟩
  | 107 => ⟨S1x8192x1x16, .f32⟩
  | 108 => ⟨S8x8192x8x16, .f32⟩
  | 109 => ⟨S8x8192x8x16, .f32⟩
  | 110 => ⟨S8x8192x8x16, .f32⟩
  | 111 => ⟨S1x8192x1x16, .f32⟩
  | 112 => ⟨S8x8192x8x16, .f32⟩
  | 113 => ⟨S8x8192x8x16, .f32⟩
  | 114 => ⟨S1x8192x1x16, .f32⟩
  | 115 => ⟨S8x8192x8x16, .f32⟩
  | 116 => ⟨S8x8192x8x16, .f32⟩
  | 117 => ⟨S8x8192x8x16, .f32⟩
  | 118 => ⟨S8x8192x8x32, .f32⟩
  | 119 => ⟨S8x8192x8x32, .f32⟩
  | 120 => ⟨S8x8192x8x16, .f32⟩
  | 121 => ⟨S8x8192x8x16, .f32⟩
  | 122 => ⟨S8192x1x16, .f32⟩
  | 123 => ⟨S8192x1x16, .f32⟩
  | 124 => ⟨S1x8192x1x16, .f32⟩
  | 125 => ⟨S8x8192x8x16, .f32⟩
  | 126 => ⟨S8x8192x8x16, .f32⟩
  | 127 => ⟨S1x8192x1x16, .f32⟩
  | _ => ⟨S65536x1024, .f32⟩

abbrev hbmTy0_1 (i : Nat) : BufTy := match i % 128 with
  | 0 => ⟨S8x8192x8x16, .f32⟩
  | 1 => ⟨S8x8192x8x16, .f32⟩
  | 2 => ⟨S8x8192x8x16, .f32⟩
  | 3 => ⟨S1x8192x1x16, .f32⟩
  | 4 => ⟨S8x8192x8x16, .f32⟩
  | 5 => ⟨S8x8192x8x16, .f32⟩
  | 6 => ⟨S1x8192x1x16, .f32⟩
  | 7 => ⟨S8x8192x8x16, .f32⟩
  | 8 => ⟨S8x8192x8x16, .f32⟩
  | 9 => ⟨S8x8192x8x16, .f32⟩
  | 10 => ⟨S8x8192x8x32, .f32⟩
  | 11 => ⟨S8x8192x8x64, .f32⟩
  | 12 => ⟨S65536x512, .f32⟩
  | 13 => ⟨S_, .f32⟩
  | 14 => ⟨S65536x512, .f32⟩
  | 15 => ⟨S65536x512, .f32⟩
  | 16 => ⟨S8x8192x2x64, .f32⟩
  | 17 => ⟨S8x8192x2x64, .f32⟩
  | 18 => ⟨S_, .f32⟩
  | 19 => ⟨S8x8192x2, .f32⟩
  | 20 => ⟨S8x8192x2x1, .f32⟩
  | 21 => ⟨S_, .f32⟩
  | 22 => ⟨S8x8192x2x1, .f32⟩
  | 23 => ⟨S8x8192x2x1, .f32⟩
  | 24 => ⟨S_, .f32⟩
  | 25 => ⟨S8x8192x2x1, .f32⟩
  | 26 => ⟨S8x8192x2x1, .f32⟩
  | 27 => ⟨S8x8192x2x1, .f32⟩
  | 28 => ⟨S8x8192x2x64, .f32⟩
  | 29 => ⟨S8x8192x2x64, .f32⟩
  | 30 => ⟨S1x1x1x64, .f32⟩
  | 31 => ⟨S8x8192x2x64, .f32⟩
  | 32 => ⟨S8x8192x2x64, .f32⟩
  | 33 => ⟨S8x8192x2x32, .f32⟩
  | 34 => ⟨S8x8192x2x16, .f32⟩
  | 35 => ⟨S8x8192x2x16, .f32⟩
  | 36 => ⟨S8192x1x16, .f32⟩
  | 37 => ⟨S8192x1x16, .f32⟩
  | 38 => ⟨S1x8192x1x16, .f32⟩
  | 39 => ⟨S8x8192x2x16, .f32⟩
  | 40 => ⟨S8x8192x2x16, .f32⟩
  | 41 => ⟨S1x8192x1x16, .f32⟩
  | 42 => ⟨S8x8192x2x16, .f32⟩
  | 43 => ⟨S8x8192x2x16, .f32⟩
  | 44 => ⟨S8x8192x2x16, .f32⟩
  | 45 => ⟨S1x8192x1x16, .f32⟩
  | 46 => ⟨S8x8192x2x16, .f32⟩
  | 47 => ⟨S8x8192x2x16, .f32⟩
  | 48 => ⟨S1x8192x1x16, .f32⟩
  | 49 => ⟨S8x8192x2x16, .f32⟩
  | 50 => ⟨S8x8192x2x16, .f32⟩
  | 51 => ⟨S8x8192x2x16, .f32⟩
  | 52 => ⟨S8x8192x2x32, .f32⟩
  | 53 => ⟨S8x8192x2x32, .f32⟩
  | 54 => ⟨S8x8192x2x16, .f32⟩
  | 55 => ⟨S8x8192x2x16, .f32⟩
  | 56 => ⟨S8192x1x16, .f32⟩
  | 57 => ⟨S8192x1x16, .f32⟩
  | 58 => ⟨S1x8192x1x16, .f32⟩
  | 59 => ⟨S8x8192x2x16, .f32⟩
  | 60 => ⟨S8x8192x2x16, .f32⟩
  | 61 => ⟨S1x8192x1x16, .f32⟩
  | 62 => ⟨S8x8192x2x16, .f32⟩
  | 63 => ⟨S8x8192x2x16, .f32⟩
  | 64 => ⟨S8x8192x2x16, .f32⟩
  | 65 => ⟨S1x8192x1x16, .f32⟩
  | 66 => ⟨S8x8192x2x16, .f32⟩
  | 67 => ⟨S8x8192x2x16, .f32⟩
  | 68 => ⟨S1x8192x1x16, .f32⟩
  | 69 => ⟨S8x8192x2x16, .f32⟩
  | 70 => ⟨S8x8192x2x16, .f32⟩
  | 71 => ⟨S8x8192x2x16, .f32⟩
  | 72 => ⟨S8x8192x2x32, .f32⟩
  | 73 => ⟨S8x8192x2x64, .f32⟩
  | 74 => ⟨S65536x128, .f32⟩
  | 75 => ⟨S65536x256, .bf16⟩
  | 76 => ⟨S65536x256, .bf16⟩
  | 77 => ⟨S65536x256, .bf16⟩
  | 78 => ⟨S65536x512, .bf16⟩
  | 79 => ⟨S65536x128, .bf16⟩
  | 80 => ⟨S65536x128, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_3 : Ref sig .tc := ⟨.hbm, 84, rfl⟩
abbrev main_v69 : Ref sig .tc := ⟨.hbm, 85, rfl⟩
abbrev main_v70 : Ref sig .tc := ⟨.hbm, 86, rfl⟩
abbrev main_cst_4 : Ref sig .tc := ⟨.hbm, 87, rfl⟩
abbrev main_v71 : Ref sig .tc := ⟨.hbm, 88, rfl⟩
abbrev main_v72 : Ref sig .tc := ⟨.hbm, 89, rfl⟩
abbrev main_cst_5 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_cst_6 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_cst_7 : Ref sig .tc := ⟨.hbm, 146, rfl⟩
abbrev main_v127 : Ref sig .tc := ⟨.hbm, 147, rfl⟩
abbrev main_v128 : Ref sig .tc := ⟨.hbm, 148, rfl⟩
abbrev main_cst_8 : Ref sig .tc := ⟨.hbm, 149, rfl⟩
abbrev main_v129 : Ref sig .tc := ⟨.hbm, 150, rfl⟩
abbrev main_v130 : Ref sig .tc := ⟨.hbm, 151, rfl⟩
abbrev main_cst_9 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩

abbrev nD : Nat := 1
abbrev τ : Topo := Topo.v7x

variable {F : FTy → Type} [FloatOps F]
-- ==== Proof.Softmax.lean ====
/-
  The mathematics of softmax attention over the extended reals, apart from any program: a row of real scores
  `S k` and of values `V k` that may be anything.

  A softmax taken block by block keeps a running maximum `m`, the sum `l` of `exp (S k - m)` and the sum `acc` of
  `exp (S k - m) * V k` over the keys met so far, and rescales both sums when the maximum grows. `Running` says that;
  `Running.start`, `Running.step` and `Running.finish` say how it begins, goes on and ends. `plain_eq` is the softmax
  taken at once. Both end at `weighted`.
-/
module

public import Idealize.ShloMosaic.Lib.Pointwise

@[expose] public section

noncomputable section

open Idealize.ShloMosaic
open scoped BigOperators

namespace Cert.Softmax

/-- A nonnegative real factor goes into a sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A sum of reals, read as an extended real, is the sum of the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greater of a real and of finitely many reals is a real. -/
theorem max_fold_real {ι : Type*} (s : Finset ι) (μ : ℝ) (f : ι → ℝ) :
    ∃ r : ℝ, max (μ : EReal) (s.fold max ⊥ fun i => (f i : EReal)) = (r : EReal) := by
  classical
  induction s using Finset.induction_on with
  | empty => exact ⟨μ, by simp⟩
  | insert a s ha ih =>
    obtain ⟨r, hr⟩ := ih
    refine ⟨max (f a) r, ?_⟩
    rw [Finset.fold_insert ha, max_left_comm, hr]
    exact (EReal.coe_strictMono.monotone.map_max).symm

/-- The exponential of a difference of reals. -/
theorem exp_sub (a b : ℝ) : Ideal.exp ((a : EReal) - (b : EReal)) = ((Real.exp (a - b) : ℝ) : EReal) := by
  rw [← EReal.coe_sub, Ideal.exp_coe]

/-- The weights of softmax over the first `N` keys, applied to the values. -/
def weighted (S : ℕ → ℝ) (V : ℕ → EReal) (N : ℕ) : EReal :=
  ∑ k ∈ Finset.range N, ((Real.exp (S k) / ∑ j ∈ Finset.range N, Real.exp (S j) : ℝ) : EReal) * V k

/-- The weights do not depend on what is subtracted from every score. -/
theorem weight_shift (S : ℕ → ℝ) (N k : ℕ) (μ : ℝ) :
    Real.exp (S k - μ) * (1 / ∑ j ∈ Finset.range N, Real.exp (S j - μ))
      = Real.exp (S k) / ∑ j ∈ Finset.range N, Real.exp (S j) := by
  have h : ∀ j, Real.exp (S j - μ) = Real.exp (S j) * Real.exp (-μ) := fun j => by
    rw [sub_eq_add_neg, Real.exp_add]
  simp only [h, ← Finset.sum_mul]
  have := (Real.exp_pos (-μ)).ne'
  rw [mul_one_div, mul_div_mul_right _ _ this]

/-- The sum of the exponentials over at least one key is positive. -/
theorem total_pos (S : ℕ → ℝ) (N : ℕ) (hN : 0 < N) (μ : ℝ) :
    0 < ∑ j ∈ Finset.range N, Real.exp (S j - μ) :=
  Finset.sum_pos (fun _ _ => Real.exp_pos _) ⟨0, Finset.mem_range.mpr hN⟩

/-- What is kept of the first `N` keys of a row: a real `m`, the exponentials' sum relative to it and the values'
    sum under those exponentials. -/
def Running (S : ℕ → ℝ) (V : ℕ → EReal) (N : ℕ) (m l acc : EReal) : Prop :=
  ∃ μ : ℝ, m = (μ : EReal) ∧ l = ((∑ k ∈ Finset.range N, Real.exp (S k - μ) : ℝ) : EReal)
    ∧ acc = ∑ k ∈ Finset.range N, ((Real.exp (S k - μ) : ℝ) : EReal) * V k

/-- Before the first key: any real to start the maximum from, and two zeros. -/
theorem Running.start (S : ℕ → ℝ) (V : ℕ → EReal) (μ : ℝ) : Running S V 0 (μ : EReal) 0 0 :=
  ⟨μ, rfl, by simp, by simp⟩

/-- One block of `n` keys more: the maximum grows to `m'`, both sums are rescaled by `exp (m - m')`. -/
theorem Running.step {S : ℕ → ℝ} {V : ℕ → EReal} {N : ℕ} {m l acc : EReal} (h : Running S V N m l acc) (n : ℕ)
    (m' : EReal) (hm' : m' = max m ((Finset.univ : Finset (Fin n)).fold max ⊥ fun j : Fin n => ((S (N + j) : ℝ) : EReal))) :
    Running S V (N + n) m'
      (Ideal.exp (m - m') * l + ∑ j : Fin n, Ideal.exp ((S (N + j) : EReal) - m'))
      (Ideal.exp (m - m') * acc + ∑ j : Fin n, Ideal.exp ((S (N + j) : EReal) - m') * V (N + j)) := by
  obtain ⟨μ, rfl, rfl, rfl⟩ := h
  obtain ⟨ν, hν⟩ := max_fold_real (Finset.univ : Finset (Fin n)) μ fun j : Fin n => S (N + j)
  rw [hν] at hm'
  subst hm'
  have e : ∀ k, Real.exp (μ - ν) * Real.exp (S k - μ) = Real.exp (S k - ν) := fun k => by
    rw [← Real.exp_add]; congr 1; ring
  refine ⟨ν, rfl, ?_, ?_⟩
  · simp only [exp_sub]
    rw [← EReal.coe_mul, ← coe_sum, ← EReal.coe_add, Finset.mul_sum, Finset.sum_range_add]
    simp only [e]
    rw [Finset.sum_range fun j => Real.exp (S (N + j) - ν)]
  · simp only [exp_sub]
    rw [coe_mul_sum _ _ (Real.exp_pos _).le, Finset.sum_range_add,
      Finset.sum_range fun j => ((Real.exp (S (N + j) - ν) : ℝ) : EReal) * V (N + j)]
    refine congrArg (· + _) (Finset.sum_congr rfl fun k _ => ?_)
    rw [← mul_assoc, ← EReal.coe_mul, e]

/-- After the last key, the quotient of the two sums is the softmax of the scores applied to the values. -/
theorem Running.finish {S : ℕ → ℝ} {V : ℕ → EReal} {N : ℕ} {m l acc : EReal} (h : Running S V N m l acc)
    (hN : 0 < N) : Ideal.div acc l = weighted S V N := by
  obtain ⟨μ, rfl, rfl, rfl⟩ := h
  have hp := total_pos S N hN μ
  rw [Ideal.div_coe hp.ne', mul_comm, coe_mul_sum _ _ (by positivity)]
  refine Finset.sum_congr rfl fun k _ => ?_
  rw [← mul_assoc, ← EReal.coe_mul, mul_comm (1 / _), weight_shift]

/-- The softmax taken at once: the greatest score is subtracted, each exponential is divided by their sum, and the
    quotients weigh the values. -/
theorem plain_eq (S : ℕ → ℝ) (V : ℕ → EReal) (N : ℕ) (hN : 0 < N) (M : EReal)
    (hM : M = (Finset.univ : Finset (Fin N)).fold max ⊥ fun j : Fin N => ((S j : ℝ) : EReal)) :
    ∑ k : Fin N, V k * Ideal.div (Ideal.exp ((S k : EReal) - M)) (∑ j : Fin N, Ideal.exp ((S j : EReal) - M))
      = weighted S V N := by
  classical
  obtain ⟨μ, hμ⟩ : ∃ μ : ℝ, M = (μ : EReal) := by
    obtain ⟨r, hr⟩ := max_fold_real ((Finset.univ : Finset (Fin N)).erase ⟨0, hN⟩) (S 0) fun j : Fin N => S j
    refine ⟨r, ?_⟩
    rw [hM, ← hr, ← Finset.insert_erase (Finset.mem_univ (⟨0, hN⟩ : Fin N)),
      Finset.fold_insert (Finset.notMem_erase _ _), Finset.erase_insert (Finset.notMem_erase _ _)]
  subst hμ
  have hp := total_pos S N hN μ
  simp only [exp_sub]
  rw [← coe_sum, ← Finset.sum_range fun j => Real.exp (S j - μ)]
  refine Eq.trans (Finset.sum_congr rfl fun k _ => ?_) (Finset.sum_range _).symm
  rw [Ideal.div_coe hp.ne', ← EReal.coe_mul, weight_shift, mul_comm]

end Cert.Softmax

end
-- ==== Proof.Attention.lean ====
/-
  The attention both programs compute, at an index: eight query heads of 64 lanes, two heads of keys and values, the
  first four query heads reading the first of the two and the last four the second.
-/
module

public import proofs.«01_k».proof.Proof.Softmax
public import proofs.«01_k».proof.KernelIdeal

@[expose] public section

set_option maxRecDepth 16384

noncomputable section

open Idealize.ShloMosaic
open scoped BigOperators

namespace Cert.Attention

open Cert.KernelIdeal Cert.Softmax

/-- A value of the extended reals that is a real. -/
def Finite (x : EReal) : Prop := x ≠ ⊤ ∧ x ≠ ⊥

variable (q : Vec Ideal S8x8192x512 .bf16) (k v : Vec Ideal S8x8192x128 .bf16)

/-- Head `h`'s product of query `n` and key `t` of batch row `b`. -/
def product (b : Fin 8) (n : Fin 8192) (h : Fin 8) (t : Fin 8192) : EReal :=
  ∑ e : Fin 64, q (ix3 b n ⟨64 * h.val + e.val, by omega⟩) * k (ix3 b t ⟨64 * (h.val / 4) + e.val, by omega⟩)

/-- The product as a real number, for every number of a key. -/
def score (b : Fin 8) (n : Fin 8192) (h : Fin 8) (t : ℕ) : ℝ :=
  if ht : t < 8192 then (product q k b n h ⟨t, ht⟩).toReal else 0

/-- Lane `d` of the values head `h` reads, for every number of a key. -/
def lane (b h : Fin 8) (d : Fin 64) (t : ℕ) : EReal :=
  if ht : t < 8192 then v (ix3 b ⟨t, ht⟩ ⟨64 * (h.val / 4) + d.val, by omega⟩) else 0

/-- The attention: lane `64 * h + d` of query `n` is the softmax of head `h`'s scores over all keys, applied to lane `d`
    of that head's values. -/
def attn : Vec Ideal S8x8192x512 .f32 := fun j =>
  weighted (score q k (j 0) (j 1) ⟨(j 2).val / 64, by have : (j 2).val < 512 := (j 2).isLt; omega⟩)
    (lane v (j 0) ⟨(j 2).val / 64, by have : (j 2).val < 512 := (j 2).isLt; omega⟩ ⟨(j 2).val % 64, by omega⟩) 8192

theorem attn_apply (b : Fin 8) (n : Fin 8192) (h : Fin 8) (d : Fin 64) :
    attn q k v (ix3 b n ⟨64 * h.val + d.val, by omega⟩) = weighted (score q k b n h) (lane v b h d) 8192 := by
  have e1 : (64 * h.val + d.val) / 64 = h.val := by omega
  have e2 : (64 * h.val + d.val) % 64 = d.val := by omega
  show weighted (score q k b n ⟨(64 * h.val + d.val) / 64, _⟩) (lane v b ⟨(64 * h.val + d.val) / 64, _⟩ ⟨(64 * h.val + d.val) % 64, _⟩) 8192 = _
  simp only [e1, e2]

/-- A product of finite queries and finite keys is a real number. -/
theorem product_eq (hq : ∀ j, Finite (q j)) (hk : ∀ j, Finite (k j)) (b : Fin 8) (n : Fin 8192) (h : Fin 8) (t : Fin 8192) :
    product q k b n h t = ((score q k b n h t.val : ℝ) : EReal) := by
  have hs : score q k b n h t.val = (product q k b n h t).toReal := by unfold score; rw [dif_pos t.isLt]
  rw [hs]
  unfold product
  have e : ∀ e : Fin 64, q (ix3 b n ⟨64 * h.val + e.val, by omega⟩) * k (ix3 b t ⟨64 * (h.val / 4) + e.val, by omega⟩)
      = (((q (ix3 b n ⟨64 * h.val + e.val, by omega⟩)).toReal * (k (ix3 b t ⟨64 * (h.val / 4) + e.val, by omega⟩)).toReal : ℝ) : EReal) := fun e => by
    rw [EReal.coe_mul, EReal.coe_toReal (hq _).1 (hq _).2, EReal.coe_toReal (hk _).1 (hk _).2]
  simp only [e]
  rw [← coe_sum, EReal.toReal_coe]

theorem lane_eq (b h : Fin 8) (d : Fin 64) (t : Fin 8192) :
    v (ix3 b t ⟨64 * (h.val / 4) + d.val, by omega⟩) = lane v b h d t.val := by
  unfold lane; rw [dif_pos t.isLt]

end Cert.Attention

end
-- ==== Proof.Step.lean ====
/-
  One trip of the kernel's loop over the key blocks, at one row of the stacked queries and one lane: the scores of the
  row against the block's keys, the new maximum and the two rescaled sums.
-/
module

public import proofs.«01_k».proof.Proof.Softmax
public import proofs.«01_k».proof.Proof.Gen.KernelIdeal.Skeleton

@[expose] public section

set_option maxRecDepth 16384

noncomputable section

open Idealize.ShloMosaic
open scoped BigOperators

namespace Cert.KernelIdeal.Attn

open Cert.KernelIdeal Cert.KernelIdeal.Gen Cert.Softmax

variable (K V : Vec Ideal S1x512x64 .bf16) (Q : Vec Ideal S512x64 .bf16) (m l : Vec Ideal S512x1 .f32)
  (acc : Vec Ideal S512x64 .f32)

/-- The score of the stacked queries' row `R` against the block's key `j`. -/
theorem score_apply (R j : Fin 512) :
    k0_pay8 K Q (ix2 R j) = ∑ e : Fin 64, Q (ix2 R e) * K (ix3 0 j e) := by
  pointwise [k0_pay8]

/-- The word `0xFF800000` denotes minus infinity. -/
theorem ofBits_neg_inf : Ideal.ofBits .f32 0xFF800000#32 = ⊥ := by simp [Ideal.ofBits, Ideal.ieee]

/-- The word the running maximum starts from denotes a real. -/
theorem ofBits_start : ∃ r : ℝ, Ideal.ofBits .f32 0xF149F2CA#32 = (r : EReal) := by
  refine ⟨-(13234890 * 2 ^ 76), ?_⟩
  simp [Ideal.ofBits, Ideal.ieee]

/-- The new maximum of row `R`: the old one and the greatest of the block's scores. -/
theorem max_apply (R : Fin 512) :
    k0_pay9 K Q m (ix2 R 0) = max (m (ix2 R 0)) ((Finset.univ : Finset (Fin 512)).fold max ⊥ fun j => k0_pay8 K Q (ix2 R j)) := by
  pointwise [k0_pay9]
  rw [ofBits_neg_inf]

/-- The factor by which row `R`'s sums are rescaled. -/
theorem alpha_apply (R : Fin 512) :
    k0_pay10 K Q m (ix2 R 0) = Ideal.exp (m (ix2 R 0) - k0_pay9 K Q m (ix2 R 0)) := by
  pointwise [k0_pay10]

/-- The exponential of a score relative to the new maximum. -/
theorem weight_apply (R j : Fin 512) :
    k0_pay11 K Q m (ix2 R j) = Ideal.exp (k0_pay8 K Q (ix2 R j) - k0_pay9 K Q m (ix2 R 0)) := by
  pointwise [k0_pay11]

/-- The new sum of the exponentials of row `R`. -/
theorem total_apply (R : Fin 512) :
    k0_pay12 K Q m l (ix2 R 0)
      = k0_pay10 K Q m (ix2 R 0) * l (ix2 R 0) + ∑ j : Fin 512, k0_pay11 K Q m (ix2 R j) := by
  pointwise [k0_pay12]

/-- The new sum of the weighted values of row `R`, at lane `d`. -/
theorem sum_apply (R : Fin 512) (d : Fin 64) :
    k0_pay13 K V Q m acc (ix2 R d)
      = k0_pay10 K Q m (ix2 R 0) * acc (ix2 R d) + ∑ j : Fin 512, k0_pay11 K Q m (ix2 R j) * V (ix3 0 j d) := by
  pointwise [k0_pay13]

/-- A trip takes row `R` and lane `d` from the keys before position `N` to those before `N + 512`: `S` are the row's
    scores and `V` the lane's values, `hS` and `hV` say that the block holds those of the keys from `N` on. -/
theorem trip_running {S : ℕ → ℝ} {W : ℕ → EReal} {N : ℕ} (R : Fin 512) (d : Fin 64)
    (hS : ∀ j : Fin 512, ∑ e : Fin 64, Q (ix2 R e) * K (ix3 0 j e) = ((S (N + j) : ℝ) : EReal))
    (hV : ∀ j : Fin 512, V (ix3 0 j d) = W (N + j))
    (h : Running S W N (m (ix2 R 0)) (l (ix2 R 0)) (acc (ix2 R d))) :
    Running S W (N + 512) (k0_pay9 K Q m (ix2 R 0)) (k0_pay12 K Q m l (ix2 R 0)) (k0_pay13 K V Q m acc (ix2 R d)) := by
  have hmax : k0_pay9 K Q m (ix2 R 0)
      = max (m (ix2 R 0)) ((Finset.univ : Finset (Fin 512)).fold max ⊥ fun j : Fin 512 => ((S (N + j) : ℝ) : EReal)) := by
    rw [max_apply]; simp only [score_apply, hS]
  rw [total_apply, sum_apply, alpha_apply]
  simp only [weight_apply, score_apply, hS, hV]
  exact h.step 512 _ hmax

end Cert.KernelIdeal.Attn

end
-- ==== Proof.Pre.lean ====
module

public import proofs.«01_k».proof.Defs
public import proofs.«01_k».proof.Proof.Attention
public import proofs.«01_k».proof.Proof.Step
public import Idealize.ShloMosaic.Lib.Pointwise

/-! What the precondition `finite` says: every query and every key is a real number. -/

@[expose] public section

set_option maxRecDepth 16384

noncomputable section

namespace Cert.Pre_finite.Reading

open Idealize.ShloMosaic Idealize.ShloMosaic.TcCoe Cert.Attention

/-- The shapes of the precondition's broadcasts fit. -/
theorem facts : Cert.Pre_finite.Facts := ⟨by decide, by decide⟩

/-- The pattern the precondition compares with is plus infinity. -/
theorem ofBits_inf : Ideal.ofBits .bf16 0x7F80#16 = ⊤ := by
  simp [Ideal.ofBits, Ideal.ieee]

/-- A value whose magnitude lies below plus infinity is neither infinity. -/
theorem finite_of_lt (x : EReal) (h : Ideal.cmp .olt (max x (-x)) ⊤ = 1#1) : Finite x := by
  have h' : max x (-x) < ⊤ := by
    by_contra hn
    simp [Ideal.cmp, hn] at h
  refine ⟨fun e => ?_, fun e => ?_⟩
  · subst e; simp at h'
  · subst e; simp at h'

variable [Cert.Pre_finite.Facts]

/-- Where the first half of the precondition is all ones, every query is finite. -/
theorem queries_finite (q : Vec Ideal S8x8192x512 .bf16) (k v : Vec Ideal S8x8192x128 .bf16)
    (h : (Cert.Pre_finite.fn (F := Ideal) q k v).1 = fun _ => 1#1) : ∀ j, Finite (q j) := by
  intro j
  refine finite_of_lt _ ?_
  rw [← ofBits_inf]
  exact congrFun h j

/-- Where the second half of the precondition is all ones, every key is finite. -/
theorem keys_finite (q : Vec Ideal S8x8192x512 .bf16) (k v : Vec Ideal S8x8192x128 .bf16)
    (h : (Cert.Pre_finite.fn (F := Ideal) q k v).2 = fun _ => 1#1) : ∀ j, Finite (k j) := by
  intro j
  refine finite_of_lt _ ?_
  rw [← ofBits_inf]
  exact congrFun h j

end Cert.Pre_finite.Reading

end
-- ==== Proof.Loop.lean ====
/-
  The kernel's two loops over the key blocks, one for each of the two groups of four heads: whatever the three scratch
  windows hold when a loop starts, after `k` trips the running maximum and the two running sums are those of the first
  `512 * k` keys.
-/
module

public import proofs.«01_k».proof.Proof.Step
public import proofs.«01_k».proof.Proof.Gen.KernelIdeal.Loops
public import Idealize.ShloMosaic.Lib.VecWindow
public import Idealize.ShloMosaic.Lib.WritesUnit

@[expose] public section

set_option maxRecDepth 16384

noncomputable section

open Idealize.ShloMosaic
open scoped BigOperators

namespace Cert.KernelIdeal.Attn

open Cert.KernelIdeal Cert.KernelIdeal.Gen Cert.Softmax

/-- The block of 512 rows that starts at row `512 * k`, 64 lanes wide from lane `o`, at row `j` and lane `e`. -/
theorem window_apply (X : Vec Ideal S1x8192x128 .bf16) (k o : ℕ) (hk : k < 16) (ho : o + 64 ≤ 128)
    (inb : ∀ a, (![0, 512 * k, o] : Fin 3 → ℕ) a + (![1, 512, 64] : Fin 3 → ℕ) a ≤ S1x8192x128.size a)
    (j : Fin 512) (e : Fin 64) :
    VecWindow.window (s := S1x8192x128) X ![0, 512 * k, o] ![1, 512, 64] inb (ix3 0 j e)
      = X (ix3 0 ⟨512 * k + j.val, by omega⟩ ⟨o + e.val, by omega⟩) := by
  refine congrArg X (funext fun a => Fin.ext ?_)
  fin_cases a <;> simp [Rect.emb, Rect.unit, ix3]

/-- The cast of the new maximum to its own shape, before it is stored, changes nothing. -/
theorem cast_first (x : Vec Ideal S512x1 .f32) (R : Fin 512) : k0_pay28 (F := Ideal) x (ix2 R 0) = x (ix2 R 0) := by
  exact congrFun (shapeCast_id x _) _

/-- The same cast in the second loop. -/
theorem cast_second (x : Vec Ideal S512x1 .f32) (R : Fin 512) : k0_pay2 (F := Ideal) x (ix2 R 0) = x (ix2 R 0) := by
  exact congrFun (shapeCast_id x _) _

/-- An equal maximum may stand for the maximum. -/
theorem running_of_eq {S : ℕ → ℝ} {W : ℕ → EReal} {N : ℕ} {m m' l acc : EReal} (e : m' = m) (h : Running S W N m l acc) :
    Running S W N m' l acc := e ▸ h

variable (c : Dev nD) (i : grid0.Coords)
  (arg2 : Memref sig .tc .vmem S1x128x512 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x128x512 .f32) (harg5 : arg5.IsWhole)
  (arg6 : Memref sig .tc .vmem S512x64 .bf16) (harg6 : arg6.IsWhole)
  (arg7 : Memref sig .tc .vmem S512x1 .f32) (harg7 : arg7.IsWhole)
  (arg8 : Memref sig .tc .vmem S512x1 .f32) (harg8 : arg8.IsWhole)
  (arg9 : Memref sig .tc .vmem S512x64 .f32) (harg9 : arg9.IsWhole)

theorem trips_1 : k0_t1_loop.trips = 16 := by decide

/-- One trip of the first loop, whatever the scratch windows hold before it. -/
theorem trip_1 (v24 : FVec Ideal S512x1 .f32) (X3 : BufTy.Contents (Elt Ideal) arg3.view.ty) (X4 : BufTy.Contents (Elt Ideal) arg4.view.ty)
    (X6 : BufTy.Contents (Elt Ideal) arg6.view.ty) (F7 f7 : BufTy.Contents (Elt Ideal) arg7.view.ty)
    (F8 f8 : BufTy.Contents (Elt Ideal) arg8.view.ty) (F9 f9 : BufTy.Contents (Elt Ideal) arg9.view.ty)
    (k : Fin k0_t1_loop.trips) (R : Fin 512) (d : Fin 64) (S : ℕ → ℝ) (W : ℕ → EReal)
    (hS : ∀ t : Fin 8192, ∑ e : Fin 64, arg6.view.read (Elt Ideal) X6 (ix2 R e)
      * arg3.view.read (Elt Ideal) X3 (ix3 0 t ⟨0 + e.val, by omega⟩) = ((S t.val : ℝ) : EReal))
    (hV : ∀ t : Fin 8192, arg4.view.read (Elt Ideal) X4 (ix3 0 t ⟨0 + d.val, by omega⟩) = W t.val)
    (h : Running S W (512 * k.val) (arg7.view.read (Elt Ideal) f7 (ix2 R 0)) (arg8.view.read (Elt Ideal) f8 (ix2 R 0))
      (arg9.view.read (Elt Ideal) f9 (ix2 R d))) :
    Running S W (512 * (k.val + 1))
      (arg7.view.read (Elt Ideal) (arg7.view.writes (Elt Ideal) F7 (tripL_k0_t1 (F := Ideal) Variants.none c none i arg2 harg2 arg3 harg3 arg4 harg4 arg5 harg5 arg6 harg6 arg7 harg7 arg8 harg8 arg9 harg9 v24 X3 X4 X6 k f7 f8 f9).1) (ix2 R 0))
      (arg8.view.read (Elt Ideal) (arg8.view.writes (Elt Ideal) F8 (tripL_k0_t1 (F := Ideal) Variants.none c none i arg2 harg2 arg3 harg3 arg4 harg4 arg5 harg5 arg6 harg6 arg7 harg7 arg8 harg8 arg9 harg9 v24 X3 X4 X6 k f7 f8 f9).2.1) (ix2 R 0))
      (arg9.view.read (Elt Ideal) (arg9.view.writes (Elt Ideal) F9 (tripL_k0_t1 (F := Ideal) Variants.none c none i arg2 harg2 arg3 harg3 arg4 harg4 arg5 harg5 arg6 harg6 arg7 harg7 arg8 harg8 arg9 harg9 v24 X3 X4 X6 k f7 f8 f9).2.2) (ix2 R d)) := by
  have hk : k.val < 16 := lt_of_lt_of_eq k.isLt trips_1
  have inb : ∀ a, (![0, 512 * k.val, 0] : Fin 3 → ℕ) a + (![1, 512, 64] : Fin 3 → ℕ) a ≤ S1x8192x128.size a := by
    have := k0_off1_inb k; rw [k0_off1_eq] at this; exact this
  unfold tripL_k0_t1 trip_k0_t1
  sl_unfold_words
  dsimp only
  have r7 := View.readAt_full (Val := Elt Ideal) arg7.view f7 (off := ![0, 0]) inb_S512x1_S512x1_0_0
  have r8 := View.readAt_full (Val := Elt Ideal) arg8.view f8 (off := ![0, 0]) inb_S512x1_S512x1_0_0
  have r9 := View.readAt_full (Val := Elt Ideal) arg9.view f9 (off := ![0, 0]) inb_S512x64_S512x64_0_0
  have r6 := View.readAt_full (Val := Elt Ideal) arg6.view X6 (off := ![0, 0]) inb_S512x64_S512x64_0_0
  have r3 := View.readAt_unit (Val := Elt Ideal) arg3.view X3 (k0_off1_inb k) (k0_off1_eq k) inb
  have r4 := View.readAt_unit (Val := Elt Ideal) arg4.view X4 (k0_off1_inb k) (k0_off1_eq k) inb
  have w7 := fun w => View.read_writes_full (Val := Elt Ideal) arg7.view F7 (off := ![0, 0]) inb_S512x1_S512x1_0_0 w []
  have w8 := fun w => View.read_writes_full (Val := Elt Ideal) arg8.view F8 (off := ![0, 0]) inb_S512x1_S512x1_0_0 w []
  have w9 := fun w => View.read_writes_full (Val := Elt Ideal) arg9.view F9 (off := ![0, 0]) inb_S512x64_S512x64_0_0 w []
  have key := trip_running (VecWindow.window (s := S1x8192x128) (arg3.view.read (Elt Ideal) X3) ![0, 512 * k.val, 0] ![1, 512, 64] inb)
    (VecWindow.window (s := S1x8192x128) (arg4.view.read (Elt Ideal) X4) ![0, 512 * k.val, 0] ![1, 512, 64] inb)
    (arg6.view.read (Elt Ideal) X6) (arg7.view.read (Elt Ideal) f7) (arg8.view.read (Elt Ideal) f8)
    (arg9.view.read (Elt Ideal) f9) (S := S) (W := W) (N := 512 * k.val) R d
    (fun j => by
      refine Eq.trans ?_ (hS ⟨512 * k.val + j.val, by omega⟩)
      exact Finset.sum_congr rfl fun e _ => congrArg _ (window_apply _ k.val 0 hk (by omega) inb j e))
    (fun j => (window_apply _ k.val 0 hk (by omega) inb j d).trans (hV ⟨512 * k.val + j.val, by omega⟩)) h
  rw [mul_add, mul_one]
  erw [w7, w8, w9, r3]
  clear r3 w7 w8 w9 hS hV h
  erw [r4]
  erw [r6]
  erw [r7]
  erw [r8]
  erw [r9]
  have hc := cast_first (k0_pay9 (VecWindow.window (s := S1x8192x128) (arg3.view.read (Elt Ideal) X3) ![0, 512 * k.val, 0] ![1, 512, 64] inb)
    (arg6.view.read (Elt Ideal) X6) (arg7.view.read (Elt Ideal) f7)) R
  exact running_of_eq hc key

/-- The first loop after `k` trips. -/
theorem loop_1 (v24 : FVec Ideal S512x1 .f32) (X3 : BufTy.Contents (Elt Ideal) arg3.view.ty) (X4 : BufTy.Contents (Elt Ideal) arg4.view.ty)
    (X6 : BufTy.Contents (Elt Ideal) arg6.view.ty) (G7 : BufTy.Contents (Elt Ideal) arg7.view.ty)
    (G8 : BufTy.Contents (Elt Ideal) arg8.view.ty) (G9 : BufTy.Contents (Elt Ideal) arg9.view.ty)
    (R : Fin 512) (d : Fin 64) (S : ℕ → ℝ) (W : ℕ → EReal)
    (hS : ∀ t : Fin 8192, ∑ e : Fin 64, arg6.view.read (Elt Ideal) X6 (ix2 R e)
      * arg3.view.read (Elt Ideal) X3 (ix3 0 t ⟨0 + e.val, by omega⟩) = ((S t.val : ℝ) : EReal))
    (hV : ∀ t : Fin 8192, arg4.view.read (Elt Ideal) X4 (ix3 0 t ⟨0 + d.val, by omega⟩) = W t.val)
    (h : Running S W 0 (arg7.view.read (Elt Ideal) G7 (ix2 R 0)) (arg8.view.read (Elt Ideal) G8 (ix2 R 0))
      (arg9.view.read (Elt Ideal) G9 (ix2 R d))) (k : ℕ) (hk : k ≤ 16) :
    Running S W (512 * k)
      (arg7.view.read (Elt Ideal) (arg7.view.writes (Elt Ideal) G7 (pb_k0_t1 (F := Ideal) Variants.none c none i arg2 harg2 arg3 harg3 arg4 harg4 arg5 harg5 arg6 harg6 arg7 harg7 arg8 harg8 arg9 harg9 v24 X3 X4 X6 G7 G8 G9 k).1) (ix2 R 0))
      (arg8.view.read (Elt Ideal) (arg8.view.writes (Elt Ideal) G8 (pb_k0_t1 (F := Ideal) Variants.none c none i arg2 harg2 arg3 harg3 arg4 harg4 arg5 harg5 arg6 harg6 arg7 harg7 arg8 harg8 arg9 harg9 v24 X3 X4 X6 G7 G8 G9 k).2.1) (ix2 R 0))
      (arg9.view.read (Elt Ideal) (arg9.view.writes (Elt Ideal) G9 (pb_k0_t1 (F := Ideal) Variants.none c none i arg2 harg2 arg3 harg3 arg4 harg4 arg5 harg5 arg6 harg6 arg7 harg7 arg8 harg8 arg9 harg9 v24 X3 X4 X6 G7 G8 G9 k).2.2) (ix2 R d)) := by
  induction k with
  | zero => exact h
  | succ k ih =>
    have hlt : k < k0_t1_loop.trips := by rw [trips_1]; omega
    have e := pb_k0_t1_succ (F := Ideal) Variants.none c none i arg2 harg2 arg3 harg3 arg4 harg4 arg5 harg5 arg6 harg6 arg7 harg7 arg8 harg8 arg9 harg9 v24 X3 X4 X6 G7 G8 G9 ⟨k, hlt⟩
    dsimp only at e
    rw [e, View.writes_append, View.writes_append, View.writes_append]
    exact trip_1 c i arg2 harg2 arg3 harg3 arg4 harg4 arg5 harg5 arg6 harg6 arg7 harg7 arg8 harg8 arg9 harg9 v24 X3 X4 X6 _ _ _ _ _ _ ⟨k, hlt⟩ R d S W hS hV (ih (by omega))

theorem trips_2 : k0_t2_loop.trips = 16 := by decide

/-- One trip of the second loop, whatever the scratch windows hold before it. -/
theorem trip_2 (X3 : BufTy.Contents (Elt Ideal) arg3.view.ty) (X4 : BufTy.Contents (Elt Ideal) arg4.view.ty)
    (X6 : BufTy.Contents (Elt Ideal) arg6.view.ty) (F7 f7 : BufTy.Contents (Elt Ideal) arg7.view.ty)
    (F8 f8 : BufTy.Contents (Elt Ideal) arg8.view.ty) (F9 f9 : BufTy.Contents (Elt Ideal) arg9.view.ty)
    (k : Fin k0_t2_loop.trips) (R : Fin 512) (d : Fin 64) (S : ℕ → ℝ) (W : ℕ → EReal)
    (hS : ∀ t : Fin 8192, ∑ e : Fin 64, arg6.view.read (Elt Ideal) X6 (ix2 R e)
      * arg3.view.read (Elt Ideal) X3 (ix3 0 t ⟨64 + e.val, by omega⟩) = ((S t.val : ℝ) : EReal))
    (hV : ∀ t : Fin 8192, arg4.view.read (Elt Ideal) X4 (ix3 0 t ⟨64 + d.val, by omega⟩) = W t.val)
    (h : Running S W (512 * k.val) (arg7.view.read (Elt Ideal) f7 (ix2 R 0)) (arg8.view.read (Elt Ideal) f8 (ix2 R 0))
      (arg9.view.read (Elt Ideal) f9 (ix2 R d))) :
    Running S W (512 * (k.val + 1))
      (arg7.view.read (Elt Ideal) (arg7.view.writes (Elt Ideal) F7 (tripL_k0_t2 (F := Ideal) Variants.none c none i arg2 harg2 arg3 harg3 arg4 harg4 arg5 harg5 arg6 harg6 arg7 harg7 arg8 harg8 arg9 harg9 X3 X4 X6 k f7 f8 f9).1) (ix2 R 0))
      (arg8.view.read (Elt Ideal) (arg8.view.writes (Elt Ideal) F8 (tripL_k0_t2 (F := Ideal) Variants.none c none i arg2 harg2 arg3 harg3 arg4 harg4 arg5 harg5 arg6 harg6 arg7 harg7 arg8 harg8 arg9 harg9 X3 X4 X6 k f7 f8 f9).2.1) (ix2 R 0))
      (arg9.view.read (Elt Ideal) (arg9.view.writes (Elt Ideal) F9 (tripL_k0_t2 (F := Ideal) Variants.none c none i arg2 harg2 arg3 harg3 arg4 harg4 arg5 harg5 arg6 harg6 arg7 harg7 arg8 harg8 arg9 harg9 X3 X4 X6 k f7 f8 f9).2.2) (ix2 R d)) := by
  have hk : k.val < 16 := lt_of_lt_of_eq k.isLt trips_2
  have inb : ∀ a, (![0, 512 * k.val, 64] : Fin 3 → ℕ) a + (![1, 512, 64] : Fin 3 → ℕ) a ≤ S1x8192x128.size a := by
    have := k0_off2_inb k; rw [k0_off2_eq] at this; exact this
  unfold tripL_k0_t2 trip_k0_t2
  sl_unfold_words
  dsimp only
  have r7 := View.readAt_full (Val := Elt Ideal) arg7.view f7 (off := ![0, 0]) inb_S512x1_S512x1_0_0
  have r8 := View.readAt_full (Val := Elt Ideal) arg8.view f8 (off := ![0, 0]) inb_S512x1_S512x1_0_0
  have r9 := View.readAt_full (Val := Elt Ideal) arg9.view f9 (off := ![0, 0]) inb_S512x64_S512x64_0_0
  have r6 := View.readAt_full (Val := Elt Ideal) arg6.view X6 (off := ![0, 0]) inb_S512x64_S512x64_0_0
  have r3 := View.readAt_unit (Val := Elt Ideal) arg3.view X3 (k0_off2_inb k) (k0_off2_eq k) inb
  have r4 := View.readAt_unit (Val := Elt Ideal) arg4.view X4 (k0_off2_inb k) (k0_off2_eq k) inb
  have w7 := fun w => View.read_writes_full (Val := Elt Ideal) arg7.view F7 (off := ![0, 0]) inb_S512x1_S512x1_0_0 w []
  have w8 := fun w => View.read_writes_full (Val := Elt Ideal) arg8.view F8 (off := ![0, 0]) inb_S512x1_S512x1_0_0 w []
  have w9 := fun w => View.read_writes_full (Val := Elt Ideal) arg9.view F9 (off := ![0, 0]) inb_S512x64_S512x64_0_0 w []
  have key := trip_running (VecWindow.window (s := S1x8192x128) (arg3.view.read (Elt Ideal) X3) ![0, 512 * k.val, 64] ![1, 512, 64] inb)
    (VecWindow.window (s := S1x8192x128) (arg4.view.read (Elt Ideal) X4) ![0, 512 * k.val, 64] ![1, 512, 64] inb)
    (arg6.view.read (Elt Ideal) X6) (arg7.view.read (Elt Ideal) f7) (arg8.view.read (Elt Ideal) f8)
    (arg9.view.read (Elt Ideal) f9) (S := S) (W := W) (N := 512 * k.val) R d
    (fun j => by
      refine Eq.trans ?_ (hS ⟨512 * k.val + j.val, by omega⟩)
      exact Finset.sum_congr rfl fun e _ => congrArg _ (window_apply _ k.val 64 hk (by omega) inb j e))
    (fun j => (window_apply _ k.val 64 hk (by omega) inb j d).trans (hV ⟨512 * k.val + j.val, by omega⟩)) h
  rw [mul_add, mul_one]
  erw [w7, w8, w9, r3]
  clear r3 w7 w8 w9 hS hV h
  erw [r4]
  erw [r6]
  erw [r7]
  erw [r8]
  erw [r9]
  have hc := cast_second (k0_pay15 (VecWindow.window (s := S1x8192x128) (arg3.view.read (Elt Ideal) X3) ![0, 512 * k.val, 64] ![1, 512, 64] inb)
    (arg6.view.read (Elt Ideal) X6) (arg7.view.read (Elt Ideal) f7)) R
  exact running_of_eq hc key

/-- The second loop after `k` trips. -/
theorem loop_2 (X3 : BufTy.Contents (Elt Ideal) arg3.view.ty) (X4 : BufTy.Contents (Elt Ideal) arg4.view.ty)
    (X6 : BufTy.Contents (Elt Ideal) arg6.view.ty) (G7 : BufTy.Contents (Elt Ideal) arg7.view.ty)
    (G8 : BufTy.Contents (Elt Ideal) arg8.view.ty) (G9 : BufTy.Contents (Elt Ideal) arg9.view.ty)
    (R : Fin 512) (d : Fin 64) (S : ℕ → ℝ) (W : ℕ → EReal)
    (hS : ∀ t : Fin 8192, ∑ e : Fin 64, arg6.view.read (Elt Ideal) X6 (ix2 R e)
      * arg3.view.read (Elt Ideal) X3 (ix3 0 t ⟨64 + e.val, by omega⟩) = ((S t.val : ℝ) : EReal))
    (hV : ∀ t : Fin 8192, arg4.view.read (Elt Ideal) X4 (ix3 0 t ⟨64 + d.val, by omega⟩) = W t.val)
    (h : Running S W 0 (arg7.view.read (Elt Ideal) G7 (ix2 R 0)) (arg8.view.read (Elt Ideal) G8 (ix2 R 0))
      (arg9.view.read (Elt Ideal) G9 (ix2 R d))) (k : ℕ) (hk : k ≤ 16) :
    Running S W (512 * k)
      (arg7.view.read (Elt Ideal) (arg7.view.writes (Elt Ideal) G7 (pb_k0_t2 (F := Ideal) Variants.none c none i arg2 harg2 arg3 harg3 arg4 harg4 arg5 harg5 arg6 harg6 arg7 harg7 arg8 harg8 arg9 harg9 X3 X4 X6 G7 G8 G9 k).1) (ix2 R 0))
      (arg8.view.read (Elt Ideal) (arg8.view.writes (Elt Ideal) G8 (pb_k0_t2 (F := Ideal) Variants.none c none i arg2 harg2 arg3 harg3 arg4 harg4 arg5 harg5 arg6 harg6 arg7 harg7 arg8 harg8 arg9 harg9 X3 X4 X6 G7 G8 G9 k).2.1) (ix2 R 0))
      (arg9.view.read (Elt Ideal) (arg9.view.writes (Elt Ideal) G9 (pb_k0_t2 (F := Ideal) Variants.none c none i arg2 harg2 arg3 harg3 arg4 harg4 arg5 harg5 arg6 harg6 arg7 harg7 arg8 harg8 arg9 harg9 X3 X4 X6 G7 G8 G9 k).2.2) (ix2 R d)) := by
  induction k with
  | zero => exact h
  | succ k ih =>
    have hlt : k < k0_t2_loop.trips := by rw [trips_2]; omega
    have e := pb_k0_t2_succ (F := Ideal) Variants.none c none i arg2 harg2 arg3 harg3 arg4 harg4 arg5 harg5 arg6 harg6 arg7 harg7 arg8 harg8 arg9 harg9 X3 X4 X6 G7 G8 G9 ⟨k, hlt⟩
    dsimp only at e
    rw [e, View.writes_append, View.writes_append, View.writes_append]
    exact trip_2 c i arg2 harg2 arg3 harg3 arg4 harg4 arg5 harg5 arg6 harg6 arg7 harg7 arg8 harg8 arg9 harg9 X3 X4 X6 _ _ _ _ _ _ ⟨k, hlt⟩ R d S W hS hV (ih (by omega))

end Cert.KernelIdeal.Attn

end
-- ==== Proof.Block.lean ====
/-
  What one point of the grid writes: 128 queries against all 8192 keys of the batch row. Lane `64 * h + d` of query `q`
  is the softmax of head `h`'s scores applied to lane `d` of that head's values; heads 0 to 3 share the first 64 lanes
  of the keys and values, heads 4 to 7 the last 64.
-/
module

public import proofs.«01_k».proof.Proof.Loop
public import proofs.«01_k».proof.Proof.Gen.KernelIdeal.Frame

@[expose] public section

set_option maxRecDepth 16384

noncomputable section

open Idealize.ShloMosaic
open scoped BigOperators

namespace Cert.KernelIdeal.Attn

open Cert.KernelIdeal Cert.KernelIdeal.Gen Cert.Softmax

/-- Four stacked tiles of 128 rows: row `128 * r + q` is row `q` of tile `r`. -/
theorem rows_apply (v : View sig .tc .vmem S512x64 .bf16) (f : v.ty.Contents (Elt Ideal))
    (P : Fin 4 → Vec Ideal S128x64 .bf16)
    (inb : ∀ i : Fin 4, ∀ a, (![128 * i.val, 0] : Fin 2 → ℕ) a + (![128, 64] : Fin 2 → ℕ) a ≤ S512x64.size a)
    (r : Fin 4) (q : Fin 128) (e : Fin 64) :
    v.read (Elt Ideal) (v.writes (Elt Ideal) f
      (View.tilePieces (s := S512x64) (e := .bf16) (Val := Elt Ideal) ![128, 64] (fun i : Fin 4 => ![128 * i.val, 0]) inb P 4 le_rfl))
        (ix2 ⟨128 * r.val + q.val, by omega⟩ e) = P r (ix2 q e) := by
  refine View.read_tilePieces v f ![128, 64] (fun i : Fin 4 => ![128 * i.val, 0]) inb P 4 le_rfl _ r r.isLt (ix2 q e) (fun a => ?_) 0
    (fun r' hr => ?_)
  · fin_cases a <;> simp [ix2]
  · have : r'.val ≠ r.val := fun h => hr (Fin.ext h)
    simp [ix2]; omega

/-- Eight tiles of 64 lanes side by side: lane `64 * h + d` is lane `d` of tile `h`. -/
theorem lanes_apply (v : View sig .tc .vmem S1x128x512 .f32) (f : v.ty.Contents (Elt Ideal))
    (P : Fin 8 → Vec Ideal S1x128x64 .f32)
    (inb : ∀ i : Fin 8, ∀ a, (![0, 0, 64 * i.val] : Fin 3 → ℕ) a + (![1, 128, 64] : Fin 3 → ℕ) a ≤ S1x128x512.size a)
    (h : Fin 8) (q : Fin 128) (d : Fin 64) :
    v.read (Elt Ideal) (v.writes (Elt Ideal) f
      (View.tilePieces (s := S1x128x512) (e := .f32) (Val := Elt Ideal) ![1, 128, 64] (fun i : Fin 8 => ![0, 0, 64 * i.val]) inb P 8 le_rfl))
        (ix3 0 q ⟨64 * h.val + d.val, by omega⟩) = P h (ix3 0 q d) := by
  refine View.read_tilePieces v f ![1, 128, 64] (fun i : Fin 8 => ![0, 0, 64 * i.val]) inb P 8 le_rfl _ h h.isLt (ix3 0 q d) (fun a => ?_) 2
    (fun r' hr => ?_)
  · fin_cases a <;> simp [ix3]
  · have : r'.val ≠ h.val := fun e => hr (Fin.ext e)
    simp [ix3]; omega

/-- The 64 lanes of the queries from lane `o` on. -/
theorem lanes_window (X : Vec Ideal S1x128x512 .bf16) (o : ℕ) (ho : o + 64 ≤ 512)
    (inb : ∀ a, (![0, 0, o] : Fin 3 → ℕ) a + (![1, 128, 64] : Fin 3 → ℕ) a ≤ S1x128x512.size a)
    (q : Fin 128) (e : Fin 64) :
    VecWindow.window (s := S1x128x512) X ![0, 0, o] ![1, 128, 64] inb (ix3 0 q e) = X (ix3 0 q ⟨o + e.val, by omega⟩) := by
  refine congrArg X (funext fun a => Fin.ext ?_)
  fin_cases a <;> simp [Rect.emb, Rect.unit, ix3]

/-- A tile of the queries, stored as 128 rows of 64 lanes. -/
theorem tile_apply (x : Vec Ideal S1x128x64 .bf16) (q : Fin 128) (e : Fin 64) :
    k0_pay20 (F := Ideal) x (ix2 q e) = x (ix3 0 q e) := by
  pointwise [k0_pay20]

variable (c : Dev nD) (i : grid0.Coords)
  (arg2 : Memref sig .tc .vmem S1x128x512 .bf16) (harg2 : arg2.IsWhole)
  (arg3 : Memref sig .tc .vmem S1x8192x128 .bf16) (harg3 : arg3.IsWhole)
  (arg4 : Memref sig .tc .vmem S1x8192x128 .bf16) (harg4 : arg4.IsWhole)
  (arg5 : Memref sig .tc .vmem S1x128x512 .f32) (harg5 : arg5.IsWhole)
  (arg6 : Memref sig .tc .vmem S512x64 .bf16) (harg6 : arg6.IsWhole)
  (arg7 : Memref sig .tc .vmem S512x1 .f32) (harg7 : arg7.IsWhole)
  (arg8 : Memref sig .tc .vmem S512x1 .f32) (harg8 : arg8.IsWhole)
  (arg9 : Memref sig .tc .vmem S512x64 .f32) (harg9 : arg9.IsWhole)
  (x0 : Vec Ideal S1x128x512 .bf16) (x1 x2 : Vec Ideal S1x8192x128 .bf16)

/-- The tile of 64 lanes of the queries that head `h` uses. -/
def queryTile (h : Fin 8) : Vec Ideal S1x128x64 .bf16 := fun y => x0 (ix3 0 (y 1) ⟨64 * h.val + (y 2).val, by have : (y 2).val < 64 := (y 2).isLt; omega⟩)

/-- Loading 64 lanes of the staged queries. -/
theorem load_lanes (h : Fin 8) (inb : ∀ a, (![0, 0, 64 * h.val] : Fin 3 → ℕ) a + (![1, 128, 64] : Fin 3 → ℕ) a ≤ S1x128x512.size a) :
    arg2.view.readAt (Elt Ideal) (Rect.unit ![0, 0, 64 * h.val] ![1, 128, 64] inb).toLoadRect (harg2.unread x0) = queryTile x0 h := by
  rw [View.readAt_unit (Val := Elt Ideal) arg2.view _ inb rfl inb, harg2.read_unread]
  funext y
  refine congrArg x0 (funext fun a => Fin.ext ?_)
  have : (y 0).val < 1 := (y 0).isLt
  fin_cases a <;> simp [Rect.emb, Rect.unit, ix3]
  omega

/-- After the first four stores, row `128 * r + q` of the stacked queries is head `r`'s query `q`. -/
theorem stack_first (f : arg6.view.ty.Contents (Elt Ideal)) (r : Fin 4) (q : Fin 128) (e : Fin 64) :
    arg6.view.read (Elt Ideal) (arg6.view.writes (Elt Ideal) f (kernelRun0_A.sl.HS0_4 (F := Ideal) c arg2 harg2 x0))
      (ix2 ⟨128 * r.val + q.val, by omega⟩ e) = x0 (ix3 0 q ⟨64 * r.val + e.val, by omega⟩) := by
  have key := rows_apply arg6.view f (fun r => k0_pay20 (F := Ideal) (queryTile x0 ⟨r.val, by omega⟩)) (by decide) r q e
  rw [tile_apply] at key
  refine Eq.trans ?_ key
  unfold kernelRun0_A.sl.HS0_4
  erw [load_lanes arg2 harg2 x0 0, load_lanes arg2 harg2 x0 1, load_lanes arg2 harg2 x0 2, load_lanes arg2 harg2 x0 3]
  rfl

/-- After the next four stores, over whatever was stored before, row `128 * r + q` of the stacked queries is head
    `4 + r`'s query `q`. -/
theorem stack_second (f : arg6.view.ty.Contents (Elt Ideal)) (L : List (View.Piece (Elt Ideal) S512x64 .bf16)) (r : Fin 4) (q : Fin 128) (e : Fin 64) :
    arg6.view.read (Elt Ideal) (arg6.view.writes (Elt Ideal) f
      (⟨Rect.unit ![384, 0] S128x64.size inb_S512x64_S128x64_384_0, k0_pay37 (F := Ideal) (arg2.view.readAt (Elt Ideal) (Rect.unit (s := S1x128x512) ![0, 0, 448] ![1, 128, 64] inb_S1x128x512_S1x128x64_0_0_448).toLoadRect (harg2.unread x0))⟩ ::
       ⟨Rect.unit ![256, 0] S128x64.size inb_S512x64_S128x64_256_0, k0_pay36 (F := Ideal) (arg2.view.readAt (Elt Ideal) (Rect.unit (s := S1x128x512) ![0, 0, 384] ![1, 128, 64] inb_S1x128x512_S1x128x64_0_0_384).toLoadRect (harg2.unread x0))⟩ ::
       ⟨Rect.unit ![128, 0] S128x64.size inb_S512x64_S128x64_128_0, k0_pay35 (F := Ideal) (arg2.view.readAt (Elt Ideal) (Rect.unit (s := S1x128x512) ![0, 0, 320] ![1, 128, 64] inb_S1x128x512_S1x128x64_0_0_320).toLoadRect (harg2.unread x0))⟩ ::
       ⟨Rect.unit ![0, 0] S128x64.size inb_S512x64_S128x64_0_0, k0_pay34 (F := Ideal) (arg2.view.readAt (Elt Ideal) (Rect.unit (s := S1x128x512) ![0, 0, 256] ![1, 128, 64] inb_S1x128x512_S1x128x64_0_0_256).toLoadRect (harg2.unread x0))⟩ :: L))
      (ix2 ⟨128 * r.val + q.val, by omega⟩ e) = x0 (ix3 0 q ⟨64 * (4 + r.val) + e.val, by omega⟩) := by
  have key := rows_apply arg6.view (arg6.view.writes (Elt Ideal) f L) (fun r => k0_pay20 (F := Ideal) (queryTile x0 ⟨4 + r.val, by omega⟩)) (by decide) r q e
  rw [tile_apply] at key
  refine Eq.trans ?_ key
  erw [load_lanes arg2 harg2 x0 4, load_lanes arg2 harg2 x0 5, load_lanes arg2 harg2 x0 6, load_lanes arg2 harg2 x0 7]
  rfl

/-- The three starting values of a group: any real to begin the maximum from, and two zeros. -/
theorem start_running (S : ℕ → ℝ) (W : ℕ → EReal) (R : Fin 512) (d : Fin 64) :
    Running S W 0 (k0_pay24 (F := Ideal) (ix2 R 0)) (k0_pay26 (F := Ideal) k0_pay25 (ix2 R 0)) (k0_pay27 (F := Ideal) (ix2 R d)) := by
  obtain ⟨ν, hν⟩ := ofBits_start
  have h24 : k0_pay24 (F := Ideal) (ix2 R 0) = (ν : EReal) := by rw [← hν]; pointwise [k0_pay24]
  have h26 : k0_pay26 (F := Ideal) k0_pay25 (ix2 R 0) = (0 : EReal) := by
    rw [← Ideal.ofBits_zero_f32]; pointwise [k0_pay26, k0_pay25]
  have h27 : k0_pay27 (F := Ideal) (ix2 R d) = (0 : EReal) := by
    rw [← Ideal.ofBits_zero_f32]; pointwise [k0_pay27]
  rw [h24, h26, h27]
  exact Running.start S W ν

/-- The first group's two sums after all the keys: their quotient is the softmax applied to the values. -/
theorem group_first (r : Fin 4) (q : Fin 128) (d : Fin 64) (S : ℕ → ℝ) (W : ℕ → EReal)
    (hS : ∀ t : Fin 8192, ∑ e : Fin 64, x0 (ix3 0 q ⟨64 * r.val + e.val, by omega⟩)
      * x1 (ix3 0 t ⟨0 + e.val, by omega⟩) = ((S t.val : ℝ) : EReal))
    (hV : ∀ t : Fin 8192, x2 (ix3 0 t ⟨0 + d.val, by omega⟩) = W t.val) :
    Ideal.div (kernelRun0_A.sl.v33 (F := Ideal) c i arg2 harg2 arg3 harg3 arg4 harg4 arg5 harg5 arg6 harg6 arg7 harg7 arg8 harg8 arg9 harg9 x0 x1 x2 (ix2 ⟨128 * r.val + q.val, by omega⟩ d))
      (kernelRun0_A.sl.v34 (F := Ideal) c i arg2 harg2 arg3 harg3 arg4 harg4 arg5 harg5 arg6 harg6 arg7 harg7 arg8 harg8 arg9 harg9 x0 x1 x2 (ix2 ⟨128 * r.val + q.val, by omega⟩ 0)) = weighted S W 8192 := by
  have key := loop_1 c i arg2 harg2 arg3 harg3 arg4 harg4 arg5 harg5 arg6 harg6 arg7 harg7 arg8 harg8 arg9 harg9 (k0_pay25 (F := Ideal)) (harg3.unread x1) (harg4.unread x2)
    (arg6.view.writes (Elt Ideal) arg6.view.junk (kernelRun0_A.sl.HS0_4 (F := Ideal) c arg2 harg2 x0))
    (arg7.view.writes (Elt Ideal) arg7.view.junk (kernelRun0_A.sl.HS1_1 (F := Ideal)))
    (arg8.view.writes (Elt Ideal) arg8.view.junk (kernelRun0_A.sl.HS2_1 (F := Ideal)))
    (arg9.view.writes (Elt Ideal) arg9.view.junk (kernelRun0_A.sl.HS3_1 (F := Ideal)))
    ⟨128 * r.val + q.val, by omega⟩ d S W
    (fun t => by
      rw [harg3.read_unread, ← hS t]
      exact Finset.sum_congr rfl fun e _ => congrArg (· * _) (stack_first c arg2 harg2 arg6 x0 _ r q e))
    (fun t => by rw [harg4.read_unread, ← hV t])
    (by
      have s := start_running S W ⟨128 * r.val + q.val, by omega⟩ d
      rw [← View.read_writes_full (Val := Elt Ideal) arg7.view arg7.view.junk (off := ![0, 0]) inb_S512x1_S512x1_0_0 (k0_pay24 (F := Ideal)) [],
        ← View.read_writes_full (Val := Elt Ideal) arg8.view arg8.view.junk (off := ![0, 0]) inb_S512x1_S512x1_0_0 (k0_pay26 (F := Ideal) k0_pay25) [],
        ← View.read_writes_full (Val := Elt Ideal) arg9.view arg9.view.junk (off := ![0, 0]) inb_S512x64_S512x64_0_0 (k0_pay27 (F := Ideal)) []] at s
      exact s)
    (Scf.trips k0_t1_loop.lb k0_t1_loop.ub k0_t1_loop.st) (by decide)
  rw [show 512 * Scf.trips k0_t1_loop.lb k0_t1_loop.ub k0_t1_loop.st = 8192 from by decide] at key
  have fin := key.finish (by omega)
  rw [← View.writes_append, ← View.writes_append,
    ← View.readAt_full (Val := Elt Ideal) arg8.view _ (off := ![0, 0]) inb_S512x1_S512x1_0_0,
    ← View.readAt_full (Val := Elt Ideal) arg9.view _ (off := ![0, 0]) inb_S512x64_S512x64_0_0] at fin
  exact fin

/-- The second group's two sums after all the keys, whatever the first group left in the scratch windows. -/
theorem second_running (L7 : List (View.Piece (Elt Ideal) S512x1 .f32)) (L8 : List (View.Piece (Elt Ideal) S512x1 .f32))
    (L9 : List (View.Piece (Elt Ideal) S512x64 .f32)) (r : Fin 4) (q : Fin 128) (d : Fin 64) (S : ℕ → ℝ) (W : ℕ → EReal)
    (hS : ∀ t : Fin 8192, ∑ e : Fin 64, x0 (ix3 0 q ⟨64 * (4 + r.val) + e.val, by omega⟩)
      * x1 (ix3 0 t ⟨64 + e.val, by omega⟩) = ((S t.val : ℝ) : EReal))
    (hV : ∀ t : Fin 8192, x2 (ix3 0 t ⟨64 + d.val, by omega⟩) = W t.val) :
    Ideal.div (arg9.view.readAt (Elt Ideal) (Rect.unit (s := S512x64) ![0, 0] S512x64.size inb_S512x64_S512x64_0_0).toLoadRect
        (arg9.view.writes (Elt Ideal) arg9.view.junk ((pb_k0_t2 (F := Ideal) Variants.none c none i arg2 harg2 arg3 harg3 arg4 harg4 arg5 harg5 arg6 harg6 arg7 harg7 arg8 harg8 arg9 harg9 (harg3.unread x1) (harg4.unread x2)
    (arg6.view.writes (Elt Ideal) arg6.view.junk
      (⟨Rect.unit ![384, 0] S128x64.size inb_S512x64_S128x64_384_0, k0_pay37 (F := Ideal) (arg2.view.readAt (Elt Ideal) (Rect.unit (s := S1x128x512) ![0, 0, 448] ![1, 128, 64] inb_S1x128x512_S1x128x64_0_0_448).toLoadRect (harg2.unread x0))⟩ ::
       ⟨Rect.unit ![256, 0] S128x64.size inb_S512x64_S128x64_256_0, k0_pay36 (F := Ideal) (arg2.view.readAt (Elt Ideal) (Rect.unit (s := S1x128x512) ![0, 0, 384] ![1, 128, 64] inb_S1x128x512_S1x128x64_0_0_384).toLoadRect (harg2.unread x0))⟩ ::
       ⟨Rect.unit ![128, 0] S128x64.size inb_S512x64_S128x64_128_0, k0_pay35 (F := Ideal) (arg2.view.readAt (Elt Ideal) (Rect.unit (s := S1x128x512) ![0, 0, 320] ![1, 128, 64] inb_S1x128x512_S1x128x64_0_0_320).toLoadRect (harg2.unread x0))⟩ ::
       ⟨Rect.unit ![0, 0] S128x64.size inb_S512x64_S128x64_0_0, k0_pay34 (F := Ideal) (arg2.view.readAt (Elt Ideal) (Rect.unit (s := S1x128x512) ![0, 0, 256] ![1, 128, 64] inb_S1x128x512_S1x128x64_0_0_256).toLoadRect (harg2.unread x0))⟩ :: kernelRun0_A.sl.HS0_4 (F := Ideal) c arg2 harg2 x0))
    (arg7.view.writes (Elt Ideal) arg7.view.junk (⟨Rect.unit ![0, 0] S512x1.size inb_S512x1_S512x1_0_0, k0_pay38 (F := Ideal)⟩ :: L7))
    (arg8.view.writes (Elt Ideal) arg8.view.junk (⟨Rect.unit ![0, 0] S512x1.size inb_S512x1_S512x1_0_0, k0_pay39 (F := Ideal)⟩ :: L8))
    (arg9.view.writes (Elt Ideal) arg9.view.junk (⟨Rect.unit ![0, 0] S512x64.size inb_S512x64_S512x64_0_0, k0_pay1 (F := Ideal) k0_pay40⟩ :: L9))
    (Scf.trips k0_t2_loop.lb k0_t2_loop.ub k0_t2_loop.st)).2.2
          ++ ⟨Rect.unit ![0, 0] S512x64.size inb_S512x64_S512x64_0_0, k0_pay1 (F := Ideal) k0_pay40⟩ :: L9)) (ix2 ⟨128 * r.val + q.val, by omega⟩ d))
      (arg8.view.readAt (Elt Ideal) (Rect.unit (s := S512x1) ![0, 0] S512x1.size inb_S512x1_S512x1_0_0).toLoadRect
        (arg8.view.writes (Elt Ideal) arg8.view.junk ((pb_k0_t2 (F := Ideal) Variants.none c none i arg2 harg2 arg3 harg3 arg4 harg4 arg5 harg5 arg6 harg6 arg7 harg7 arg8 harg8 arg9 harg9 (harg3.unread x1) (harg4.unread x2)
    (arg6.view.writes (Elt Ideal) arg6.view.junk
      (⟨Rect.unit ![384, 0] S128x64.size inb_S512x64_S128x64_384_0, k0_pay37 (F := Ideal) (arg2.view.readAt (Elt Ideal) (Rect.unit (s := S1x128x512) ![0, 0, 448] ![1, 128, 64] inb_S1x128x512_S1x128x64_0_0_448).toLoadRect (harg2.unread x0))⟩ ::
       ⟨Rect.unit ![256, 0] S128x64.size inb_S512x64_S128x64_256_0, k0_pay36 (F := Ideal) (arg2.view.readAt (Elt Ideal) (Rect.unit (s := S1x128x512) ![0, 0, 384] ![1, 128, 64] inb_S1x128x512_S1x128x64_0_0_384).toLoadRect (harg2.unread x0))⟩ ::
       ⟨Rect.unit ![128, 0] S128x64.size inb_S512x64_S128x64_128_0, k0_pay35 (F := Ideal) (arg2.view.readAt (Elt Ideal) (Rect.unit (s := S1x128x512) ![0, 0, 320] ![1, 128, 64] inb_S1x128x512_S1x128x64_0_0_320).toLoadRect (harg2.unread x0))⟩ ::
       ⟨Rect.unit ![0, 0] S128x64.size inb_S512x64_S128x64_0_0, k0_pay34 (F := Ideal) (arg2.view.readAt (Elt Ideal) (Rect.unit (s := S1x128x512) ![0, 0, 256] ![1, 128, 64] inb_S1x128x512_S1x128x64_0_0_256).toLoadRect (harg2.unread x0))⟩ :: kernelRun0_A.sl.HS0_4 (F := Ideal) c arg2 harg2 x0))
    (arg7.view.writes (Elt Ideal) arg7.view.junk (⟨Rect.unit ![0, 0] S512x1.size inb_S512x1_S512x1_0_0, k0_pay38 (F := Ideal)⟩ :: L7))
    (arg8.view.writes (Elt Ideal) arg8.view.junk (⟨Rect.unit ![0, 0] S512x1.size inb_S512x1_S512x1_0_0, k0_pay39 (F := Ideal)⟩ :: L8))
    (arg9.view.writes (Elt Ideal) arg9.view.junk (⟨Rect.unit ![0, 0] S512x64.size inb_S512x64_S512x64_0_0, k0_pay1 (F := Ideal) k0_pay40⟩ :: L9))
    (Scf.trips k0_t2_loop.lb k0_t2_loop.ub k0_t2_loop.st)).2.1
          ++ ⟨Rect.unit ![0, 0] S512x1.size inb_S512x1_S512x1_0_0, k0_pay39 (F := Ideal)⟩ :: L8)) (ix2 ⟨128 * r.val + q.val, by omega⟩ 0))
      = weighted S W 8192 := by
  have key := loop_2 c i arg2 harg2 arg3 harg3 arg4 harg4 arg5 harg5 arg6 harg6 arg7 harg7 arg8 harg8 arg9 harg9 (harg3.unread x1) (harg4.unread x2)
    (arg6.view.writes (Elt Ideal) arg6.view.junk
      (⟨Rect.unit ![384, 0] S128x64.size inb_S512x64_S128x64_384_0, k0_pay37 (F := Ideal) (arg2.view.readAt (Elt Ideal) (Rect.unit (s := S1x128x512) ![0, 0, 448] ![1, 128, 64] inb_S1x128x512_S1x128x64_0_0_448).toLoadRect (harg2.unread x0))⟩ ::
       ⟨Rect.unit ![256, 0] S128x64.size inb_S512x64_S128x64_256_0, k0_pay36 (F := Ideal) (arg2.view.readAt (Elt Ideal) (Rect.unit (s := S1x128x512) ![0, 0, 384] ![1, 128, 64] inb_S1x128x512_S1x128x64_0_0_384).toLoadRect (harg2.unread x0))⟩ ::
       ⟨Rect.unit ![128, 0] S128x64.size inb_S512x64_S128x64_128_0, k0_pay35 (F := Ideal) (arg2.view.readAt (Elt Ideal) (Rect.unit (s := S1x128x512) ![0, 0, 320] ![1, 128, 64] inb_S1x128x512_S1x128x64_0_0_320).toLoadRect (harg2.unread x0))⟩ ::
       ⟨Rect.unit ![0, 0] S128x64.size inb_S512x64_S128x64_0_0, k0_pay34 (F := Ideal) (arg2.view.readAt (Elt Ideal) (Rect.unit (s := S1x128x512) ![0, 0, 256] ![1, 128, 64] inb_S1x128x512_S1x128x64_0_0_256).toLoadRect (harg2.unread x0))⟩ :: kernelRun0_A.sl.HS0_4 (F := Ideal) c arg2 harg2 x0))
    (arg7.view.writes (Elt Ideal) arg7.view.junk (⟨Rect.unit ![0, 0] S512x1.size inb_S512x1_S512x1_0_0, k0_pay38 (F := Ideal)⟩ :: L7))
    (arg8.view.writes (Elt Ideal) arg8.view.junk (⟨Rect.unit ![0, 0] S512x1.size inb_S512x1_S512x1_0_0, k0_pay39 (F := Ideal)⟩ :: L8))
    (arg9.view.writes (Elt Ideal) arg9.view.junk (⟨Rect.unit ![0, 0] S512x64.size inb_S512x64_S512x64_0_0, k0_pay1 (F := Ideal) k0_pay40⟩ :: L9))
    ⟨128 * r.val + q.val, by omega⟩ d S W
    (fun t => by
      rw [harg3.read_unread, ← hS t]
      exact Finset.sum_congr rfl fun e _ => congrArg (· * _) (stack_second arg2 harg2 arg6 x0 _ _ r q e))
    (fun t => by rw [harg4.read_unread, ← hV t])
    (by
      have s := start_running S W ⟨128 * r.val + q.val, by omega⟩ d
      rw [← View.read_writes_full (Val := Elt Ideal) arg7.view arg7.view.junk (off := ![0, 0]) inb_S512x1_S512x1_0_0 (k0_pay24 (F := Ideal)) L7,
        ← View.read_writes_full (Val := Elt Ideal) arg8.view arg8.view.junk (off := ![0, 0]) inb_S512x1_S512x1_0_0 (k0_pay26 (F := Ideal) k0_pay25) L8,
        ← View.read_writes_full (Val := Elt Ideal) arg9.view arg9.view.junk (off := ![0, 0]) inb_S512x64_S512x64_0_0 (k0_pay27 (F := Ideal)) L9] at s
      exact s)
    (Scf.trips k0_t2_loop.lb k0_t2_loop.ub k0_t2_loop.st) (by decide)
  rw [show 512 * Scf.trips k0_t2_loop.lb k0_t2_loop.ub k0_t2_loop.st = 8192 from by decide] at key
  have fin := key.finish (by omega)
  rw [← View.writes_append, ← View.writes_append,
    ← View.readAt_full (Val := Elt Ideal) arg8.view _ (off := ![0, 0]) inb_S512x1_S512x1_0_0,
    ← View.readAt_full (Val := Elt Ideal) arg9.view _ (off := ![0, 0]) inb_S512x64_S512x64_0_0] at fin
  exact fin

/-- The second group's quotient is the softmax applied to the values. -/
theorem group_second (r : Fin 4) (q : Fin 128) (d : Fin 64) (S : ℕ → ℝ) (W : ℕ → EReal)
    (hS : ∀ t : Fin 8192, ∑ e : Fin 64, x0 (ix3 0 q ⟨64 * (4 + r.val) + e.val, by omega⟩)
      * x1 (ix3 0 t ⟨64 + e.val, by omega⟩) = ((S t.val : ℝ) : EReal))
    (hV : ∀ t : Fin 8192, x2 (ix3 0 t ⟨64 + d.val, by omega⟩) = W t.val) :
    Ideal.div (kernelRun0_A.sl.v86 (F := Ideal) c i arg2 harg2 arg3 harg3 arg4 harg4 arg5 harg5 arg6 harg6 arg7 harg7 arg8 harg8 arg9 harg9 x0 x1 x2 (ix2 ⟨128 * r.val + q.val, by omega⟩ d))
      (kernelRun0_A.sl.v87 (F := Ideal) c i arg2 harg2 arg3 harg3 arg4 harg4 arg5 harg5 arg6 harg6 arg7 harg7 arg8 harg8 arg9 harg9 x0 x1 x2 (ix2 ⟨128 * r.val + q.val, by omega⟩ 0)) = weighted S W 8192 :=
  second_running c i arg2 harg2 arg3 harg3 arg4 harg4 arg5 harg5 arg6 harg6 arg7 harg7 arg8 harg8 arg9 harg9 x0 x1 x2 _ _ _ r q d S W hS hV

/-- Tile `r` of a group's output: the quotient at the row `128 * r + q`. -/
def outTile (a : Vec Ideal S512x64 .f32) (l : Vec Ideal S512x1 .f32) (r : Fin 4) : Vec Ideal S1x128x64 .f32 := fun y =>
  Ideal.div (a (ix2 ⟨128 * r.val + (y 1).val, by have : (y 1).val < 128 := (y 1).isLt; omega⟩ (y 2)))
    (l (ix2 ⟨128 * r.val + (y 1).val, by have : (y 1).val < 128 := (y 1).isLt; omega⟩ 0))

theorem pay30_eq (a : Vec Ideal S512x64 .f32) (l : Vec Ideal S512x1 .f32) : k0_pay30 (F := Ideal) a l = outTile a l 0 := by
  funext y; idx_vars y; pointwise [k0_pay30, k0_pay29, outTile]
theorem pay31_eq (a : Vec Ideal S512x64 .f32) (l : Vec Ideal S512x1 .f32) : k0_pay31 (F := Ideal) a l = outTile a l 1 := by
  funext y; idx_vars y; pointwise [k0_pay31, k0_pay29, outTile]
theorem pay32_eq (a : Vec Ideal S512x64 .f32) (l : Vec Ideal S512x1 .f32) : k0_pay32 (F := Ideal) a l = outTile a l 2 := by
  funext y; idx_vars y; pointwise [k0_pay32, k0_pay29, outTile]
theorem pay33_eq (a : Vec Ideal S512x64 .f32) (l : Vec Ideal S512x1 .f32) : k0_pay33 (F := Ideal) a l = outTile a l 3 := by
  funext y; idx_vars y; pointwise [k0_pay33, k0_pay29, outTile]

theorem pay4_eq (a : Vec Ideal S512x64 .f32) (l : Vec Ideal S512x1 .f32) : k0_pay4 (F := Ideal) a l = outTile a l 0 :=
  pay30_eq a l
theorem pay5_eq (a : Vec Ideal S512x64 .f32) (l : Vec Ideal S512x1 .f32) : k0_pay5 (F := Ideal) a l = outTile a l 1 :=
  pay31_eq a l
theorem pay6_eq (a : Vec Ideal S512x64 .f32) (l : Vec Ideal S512x1 .f32) : k0_pay6 (F := Ideal) a l = outTile a l 2 :=
  pay32_eq a l
theorem pay7_eq (a : Vec Ideal S512x64 .f32) (l : Vec Ideal S512x1 .f32) : k0_pay7 (F := Ideal) a l = outTile a l 3 :=
  pay33_eq a l

/-- The eight tiles of one point, in head order. -/
def tiles (h : Fin 8) : Vec Ideal S1x128x64 .f32 :=
  if g : h.val < 4 then
    outTile (kernelRun0_A.sl.v33 (F := Ideal) c i arg2 harg2 arg3 harg3 arg4 harg4 arg5 harg5 arg6 harg6 arg7 harg7 arg8 harg8 arg9 harg9 x0 x1 x2) (kernelRun0_A.sl.v34 (F := Ideal) c i arg2 harg2 arg3 harg3 arg4 harg4 arg5 harg5 arg6 harg6 arg7 harg7 arg8 harg8 arg9 harg9 x0 x1 x2) ⟨h.val, g⟩
  else
    outTile (kernelRun0_A.sl.v86 (F := Ideal) c i arg2 harg2 arg3 harg3 arg4 harg4 arg5 harg5 arg6 harg6 arg7 harg7 arg8 harg8 arg9 harg9 x0 x1 x2) (kernelRun0_A.sl.v87 (F := Ideal) c i arg2 harg2 arg3 harg3 arg4 harg4 arg5 harg5 arg6 harg6 arg7 harg7 arg8 harg8 arg9 harg9 x0 x1 x2) ⟨h.val - 4, by omega⟩

/-- What a point writes, as its eight tiles. -/
theorem out_tiles (h : Fin 8) (q : Fin 128) (d : Fin 64) :
    out0_A_3 (F := Ideal) c i arg2 harg2 arg3 harg3 arg4 harg4 arg5 harg5 arg6 harg6 arg7 harg7 arg8 harg8 arg9 harg9 x0 x1 x2 (ix3 0 q ⟨64 * h.val + d.val, by omega⟩)
      = tiles c i arg2 harg2 arg3 harg3 arg4 harg4 arg5 harg5 arg6 harg6 arg7 harg7 arg8 harg8 arg9 harg9 x0 x1 x2 h (ix3 0 q d) := by
  refine Eq.trans ?_ (lanes_apply VO0_3 VO0_3.junk (tiles c i arg2 harg2 arg3 harg3 arg4 harg4 arg5 harg5 arg6 harg6 arg7 harg7 arg8 harg8 arg9 harg9 x0 x1 x2) (by decide) h q d)
  unfold out0_A_3 kernelRun0_A
  dsimp only
  rw [pay30_eq, pay31_eq, pay32_eq, pay33_eq]
  rw [pay4_eq, pay5_eq, pay6_eq, pay7_eq]
  rfl

/-- **What a point writes.** -/
theorem out_apply (h : Fin 8) (q : Fin 128) (d : Fin 64) (S : ℕ → ℝ) (W : ℕ → EReal)
    (hS : ∀ t : Fin 8192, ∑ e : Fin 64, x0 (ix3 0 q ⟨64 * h.val + e.val, by omega⟩)
      * x1 (ix3 0 t ⟨64 * (h.val / 4) + e.val, by omega⟩) = ((S t.val : ℝ) : EReal))
    (hV : ∀ t : Fin 8192, x2 (ix3 0 t ⟨64 * (h.val / 4) + d.val, by omega⟩) = W t.val) :
    out0_A_3 (F := Ideal) c i arg2 harg2 arg3 harg3 arg4 harg4 arg5 harg5 arg6 harg6 arg7 harg7 arg8 harg8 arg9 harg9 x0 x1 x2 (ix3 0 q ⟨64 * h.val + d.val, by omega⟩) = weighted S W 8192 := by
  rw [out_tiles]
  unfold tiles
  split
  · next g =>
    have e0 : h.val / 4 = 0 := by omega
    simp only [e0, mul_zero] at hS hV
    exact group_first c i arg2 harg2 arg3 harg3 arg4 harg4 arg5 harg5 arg6 harg6 arg7 harg7 arg8 harg8 arg9 harg9 x0 x1 x2 ⟨h.val, g⟩ q d S W hS hV
  · next g =>
    obtain ⟨r, hr⟩ : ∃ r : Fin 4, h.val = 4 + r.val := ⟨⟨h.val - 4, by omega⟩, by simp; omega⟩
    have e1 : h.val / 4 = 1 := by omega
    simp only [e1, mul_one] at hS hV
    simp only [hr] at hS
    have := group_second c i arg2 harg2 arg3 harg3 arg4 harg4 arg5 harg5 arg6 harg6 arg7 harg7 arg8 harg8 arg9 harg9 x0 x1 x2 r q d S W hS hV
    have er : (⟨h.val - 4, by omega⟩ : Fin 4) = r := Fin.ext (by simp; omega)
    rw [er]
    exact this

end Cert.KernelIdeal.Attn

end
-- ==== Proof.Array.lean ====
/-
  The kernel's result array: the blocks of the grid's points cover it, and every block is the attention's.
-/
module

public import proofs.«01_k».proof.Proof.Attention
public import proofs.«01_k».proof.Proof.Block
public import proofs.«01_k».proof.Proof.Gen.KernelIdeal.Value
public import Idealize.ShloMosaic.Lib.Pipeline.ValueKit
public import Idealize.ShloMosaic.Lib.Pipeline.Covers

@[expose] public section

set_option maxRecDepth 16384

noncomputable section

open Idealize.ShloMosaic Idealize.ShloMosaic.TcCoe
open scoped BigOperators

namespace Cert.KernelIdeal.Attn

open Cert.KernelIdeal Cert.KernelIdeal.Gen Cert.Softmax Cert.Attention

variable (m : (ℓ : Loc nD τ sig) → Buf (Elt Ideal) ℓ) (c : Dev nD)

theorem index0 : ∀ t : Fin cfg0.N, win0_0.index t = ![(grid0.coords t 0).val, (grid0.coords t 1).val, 0] := by
  decide +kernel
theorem index1 : ∀ t : Fin cfg0.N, win0_1.index t = ![(grid0.coords t 0).val, 0, 0] := by
  decide +kernel
theorem index2 : ∀ t : Fin cfg0.N, win0_2.index t = ![(grid0.coords t 0).val, 0, 0] := by
  decide +kernel
theorem index3 : ∀ t : Fin cfg0.N, win0_3.index t = ![(grid0.coords t 0).val, (grid0.coords t 1).val, 0] := by
  decide +kernel

/-- A block of the queries at coordinates. -/
theorem queries_apply (t : Fin cfg0.N) (r : Fin 128) (l : Fin 512) :
    iblk m c 0 t (ix3 0 r l) = m ((c : Thread nD τ).loc main_arg0)
      (ix3 (grid0.coords t 0) ⟨128 * (grid0.coords t 1).val + r.val, by have := (grid0.coords t 1).isLt; have : (grid0.coords t 1).val < 64 := this; omega⟩ l) := by
  blk_simp [iblk]
  rw [V_main_arg0]
  refine congrArg _ ?_
  blk_ext [index0]

/-- A block of the keys at coordinates: the whole of its batch row. -/
theorem keys_apply (t : Fin cfg0.N) (r : Fin 8192) (l : Fin 128) :
    iblk m c 1 t (ix3 0 r l) = m ((c : Thread nD τ).loc main_arg1) (ix3 (grid0.coords t 0) r l) := by
  blk_simp [iblk]
  rw [V_main_arg1]
  refine congrArg _ ?_
  blk_ext [index1]

/-- A block of the values at coordinates: the whole of its batch row. -/
theorem values_apply (t : Fin cfg0.N) (r : Fin 8192) (l : Fin 128) :
    iblk m c 2 t (ix3 0 r l) = m ((c : Thread nD τ).loc main_arg2) (ix3 (grid0.coords t 0) r l) := by
  blk_simp [iblk]
  rw [V_main_arg2]
  refine congrArg _ ?_
  blk_ext [index2]

/-- Every index of the result lies in some point's block. -/
theorem covers : (cfg0.win 3).Covers := by decide +kernel

/-- **The result array is the attention of the argument arrays**, when queries and keys are finite. -/
theorem final (hq : ∀ j, Finite (m ((c : Thread nD τ).loc main_arg0) j)) (hk : ∀ j, Finite (m ((c : Thread nD τ).loc main_arg1) j)) :
    (dats m 0 c).arrAt 3 cfg0.N
      = attn (m ((c : Thread nD τ).loc main_arg0)) (m ((c : Thread nD τ).loc main_arg1)) (m ((c : Thread nD τ).loc main_arg2)) := by
  refine (dats m 0 c).arrAt_eq_of_covers 3 _ covers fun t hf y => ?_
  blk_simp
  rw [after0_3]
  unfold outsAt0
  idx_vars y
  have hb : (grid0.coords t 1).val < 64 := (grid0.coords t 1).isLt
  obtain rfl : y0 = 0 := Subsingleton.elim _ _
  obtain ⟨h, d, rfl⟩ : ∃ (h : Fin 8) (d : Fin 64), y2 = ⟨64 * h.val + d.val, by omega⟩ :=
    ⟨⟨y2.val / 64, by omega⟩, ⟨y2.val % 64, by omega⟩, Fin.ext (by simp; omega)⟩
  have e : ((View.whole main_v0).slice (win0_3.rect t)).emb (ix3 0 y1 ⟨64 * h.val + d.val, by omega⟩)
      = ix3 (grid0.coords t 0) ⟨128 * (grid0.coords t 1).val + y1.val, by omega⟩ ⟨64 * h.val + d.val, by omega⟩ := by
    blk_ext [index3]
  rw [e]
  refine Eq.trans ?_ (attn_apply _ _ _ (grid0.coords t 0) ⟨128 * (grid0.coords t 1).val + y1.val, by omega⟩ h d).symm
  refine out_apply c _ _ _ _ _ _ _ _ _ _ _ _ _ _ _ _ _ _ _ _ h y1 d _ _ (fun k => ?_) (fun k => ?_)
  · refine Eq.trans (Finset.sum_congr rfl fun x _ => ?_) (product_eq _ _ hq hk (grid0.coords t 0) _ h k)
    rw [queries_apply, keys_apply]
  · rw [values_apply]
    exact lane_eq _ _ h d k

end Cert.KernelIdeal.Attn

end
-- ==== Proof.Ref.lean ====
/-
  The reference's attention at an index: the softmax of every query's scores, taken at once over all 8192 keys.
-/
module

public import proofs.«01_k».proof.Proof.Attention
public import proofs.«01_k».proof.Proof.Gen.ReferenceIdeal.Run

@[expose] public section

set_option maxRecDepth 16384

noncomputable section

open Idealize.ShloMosaic
open scoped BigOperators

namespace Cert.ReferenceIdeal.Attn

open Cert.ReferenceIdeal Cert.ReferenceIdeal.Gen Cert.Softmax Cert.Attention Cert.ReferenceIdeal.Facts

/-- A maximum over the last of five axes, at an index. -/
theorem reduce_max_last {n0 n1 n2 n3 n4 : ℕ} {u : Shape} (s : FVec Ideal (⟨5, ![n0, n1, n2, n3, n4]⟩ : Shape) .f32)
    (init : FVec Ideal u .f32) (h : (⟨5, ![n0, n1, n2, n3, n4]⟩ : Shape).ReducesTo [4] (⟨4, ![n0, n1, n2, n3]⟩ : Shape)) (hu : 0 < u.numel)
    (a : Fin n0) (b : Fin n1) (c : Fin n2) (d : Fin n3) :
    Host.reduce FloatOps.maximumf s init h hu (ix4 a b c d)
      = (Finset.univ : Finset (Fin n4)).fold max (init (Shape.Idx.first hu)) fun k : Fin n4 => s (ix5 a b c d k) := by
  pointwise []

theorem ofBits_neg_inf : Ideal.ofBits .f32 0xFF800000#32 = ⊥ := by simp [Ideal.ofBits, Ideal.ieee]

/-- The same maximum, compared once more with the word of `-∞`, which is below everything. -/
theorem max_last {n0 n1 n2 n3 n4 : ℕ} {u : Shape} (s : FVec Ideal (⟨5, ![n0, n1, n2, n3, n4]⟩ : Shape) .f32)
    (init : FVec Ideal u .f32) (floor : FVec Ideal (⟨4, ![n0, n1, n2, n3]⟩ : Shape) .f32)
    (h : (⟨5, ![n0, n1, n2, n3, n4]⟩ : Shape).ReducesTo [4] (⟨4, ![n0, n1, n2, n3]⟩ : Shape)) (hu : 0 < u.numel)
    (a : Fin n0) (b : Fin n1) (c : Fin n2) (d : Fin n3) (hi : init (Shape.Idx.first hu) = (⊥ : EReal))
    (hf : floor (ix4 a b c d) = (⊥ : EReal)) :
    maximumf floor (Host.reduce FloatOps.maximumf s init h hu) (ix4 a b c d)
      = (Finset.univ : Finset (Fin n4)).fold max ⊥ fun k : Fin n4 => s (ix5 a b c d k) := by
  have e : maximumf floor (Host.reduce FloatOps.maximumf s init h hu) (ix4 a b c d)
      = max (floor (ix4 a b c d)) (Host.reduce FloatOps.maximumf s init h hu (ix4 a b c d)) := rfl
  rw [e, hf, reduce_max_last, hi, max_eq_right bot_le]

variable (q : FVec Ideal S8x8192x512 .bf16) (k v : FVec Ideal S8x8192x128 .bf16)

/-- The scores, by batch row, key head, query head of that key head, query and key. -/
def scores : FVec Ideal S8x2x4x8192x8192 .f32 :=
  transpose S8x2x4x8192x8192 [0, 1, 4, 3, 2] (Host.dotGeneral dot_S8x8192x2x64_S8x8192x2x4x64_S8x2x8192x8192x4_3_4_1_13_02_02 none (shapeCast _ (extf .f32 k bitsLt_bf16_f32) shapeCasts_S8x8192x128_S8x8192x2x64) (shapeCast _ (extf .f32 q bitsLt_bf16_f32) shapeCasts_S8x8192x512_S8x8192x2x4x64)) transposes_S8x2x8192x8192x4_S8x2x4x8192x8192_0_1_4_3_2

/-- The greatest score of each query. -/
def tops (s : FVec Ideal S8x2x4x8192x8192 .f32) : FVec Ideal S8x2x4x8192 .f32 :=
  maximumf (broadcastInDim S8x2x4x8192 ![] bcast_S_S8x2x4x8192 (constant S_ .f32 0xFF800000#32)) (Host.reduce FloatOps.maximumf s (constant S_ .f32 0xFF800000#32) reducesTo_S8x2x4x8192x8192_S8x2x4x8192_d4 h_S_)

/-- The exponentials of the scores with the greatest subtracted. -/
def exps (s : FVec Ideal S8x2x4x8192x8192 .f32) : FVec Ideal S8x2x4x8192x8192 .f32 :=
  Host.exp (subf s (broadcastInDim S8x2x4x8192x8192 ![0, 1, 2, 3, 4] bcast_S8x2x4x8192x1_S8x2x4x8192x8192_0_1_2_3_4 (broadcastInDim S8x2x4x8192x1 ![0, 1, 2, 3] bcast_S8x2x4x8192_S8x2x4x8192x1_0_1_2_3 (tops s))))

/-- The weights: every exponential divided by the sum of its query's. -/
def weights (x : FVec Ideal S8x2x4x8192x8192 .f32) : FVec Ideal S8x2x4x8192x8192 .f32 :=
  Host.divf x (broadcastInDim S8x2x4x8192x8192 ![0, 1, 2, 3, 4] bcast_S8x2x4x8192x1_S8x2x4x8192x8192_0_1_2_3_4 (broadcastInDim S8x2x4x8192x1 ![0, 1, 2, 3] bcast_S8x2x4x8192_S8x2x4x8192x1_0_1_2_3 (Host.reduceAdd x (constant S_ .f32 0x00000000#32) reducesTo_S8x2x4x8192x8192_S8x2x4x8192_d4 h_S_)))

/-- The whole reference. -/
def result : FVec Ideal S8x8192x512 .f32 :=
  shapeCast _ (transpose S8x8192x2x4x64 [0, 4, 1, 3, 2] (Host.dotGeneral dot_S8x8192x2x64_S8x2x4x8192x8192_S8x2x64x4x8192_1_4_3_23_02_01 none (shapeCast _ (extf .f32 v bitsLt_bf16_f32) shapeCasts_S8x8192x128_S8x8192x2x64) (weights (exps (scores q k)))) transposes_S8x2x64x4x8192_S8x8192x2x4x64_0_4_1_3_2) shapeCasts_S8x8192x2x4x64_S8x8192x512

theorem scores_apply (b : Fin 8) (g : Fin 2) (r : Fin 4) (n t : Fin 8192) :
    scores q k (ix5 b g r n t) = product q k b n ⟨4 * g.val + r.val, by omega⟩ t := by
  pointwise [scores]
  unfold product
  refine Finset.sum_congr rfl fun x _ => ?_
  have e1 : g.val * 256 + r.val * 64 + x.val = 64 * (4 * g.val + r.val) + x.val := by omega
  have e2 : g.val * 64 + x.val = 64 * ((4 * g.val + r.val) / 4) + x.val := by omega
  simp only [e1, e2]
  exact mul_comm _ _

theorem tops_apply (s : FVec Ideal S8x2x4x8192x8192 .f32) (b : Fin 8) (g : Fin 2) (r : Fin 4) (n : Fin 8192) :
    tops s (ix4 b g r n) = (Finset.univ : Finset (Fin 8192)).fold max ⊥ fun t : Fin 8192 => s (ix5 b g r n t) := by
  unfold tops
  refine max_last s _ _ _ _ b g r n ?_ ?_
  · pointwise [ofBits_neg_inf]
  · pointwise [ofBits_neg_inf]

theorem exps_apply (s : FVec Ideal S8x2x4x8192x8192 .f32) (b : Fin 8) (g : Fin 2) (r : Fin 4) (n t : Fin 8192) :
    exps s (ix5 b g r n t) = Ideal.exp (s (ix5 b g r n t) - tops s (ix4 b g r n)) := by
  pointwise [exps]

theorem weights_apply (x : FVec Ideal S8x2x4x8192x8192 .f32) (b : Fin 8) (g : Fin 2) (r : Fin 4) (n t : Fin 8192) :
    weights x (ix5 b g r n t) = Ideal.div (x (ix5 b g r n t)) (∑ j : Fin 8192, x (ix5 b g r n j)) := by
  pointwise [weights]

theorem result_apply (b : Fin 8) (n : Fin 8192) (h : Fin 8) (d : Fin 64) :
    result q k v (ix3 b n ⟨64 * h.val + d.val, by omega⟩)
      = ∑ t : Fin 8192, v (ix3 b t ⟨64 * (h.val / 4) + d.val, by omega⟩)
          * weights (exps (scores q k)) (ix5 b ⟨h.val / 4, by omega⟩ ⟨h.val % 4, by omega⟩ n t) := by
  pointwise [result]
  refine Finset.sum_congr rfl fun x _ => ?_
  have e1 : (64 * h.val + d.val) / 256 * 64 + d.val = 64 * (h.val / 4) + d.val := by omega
  have e2 : (64 * h.val + d.val) / 256 = h.val / 4 := by omega
  have e3 : (64 * h.val + d.val) / 64 % 4 = h.val % 4 := by omega
  simp only [e2, e3]
  congr 1
  · congr 2; exact Fin.ext (by simp; omega)

/-- **The reference is the attention of its arguments**, when queries and keys are finite. -/
theorem result_eq (hq : ∀ j, Finite (q j)) (hk : ∀ j, Finite (k j)) : result q k v = attn q k v := by
  funext j
  idx_vars j
  obtain ⟨h, d, rfl⟩ : ∃ (h : Fin 8) (d : Fin 64), j2 = ⟨64 * h.val + d.val, by omega⟩ :=
    ⟨⟨j2.val / 64, by omega⟩, ⟨j2.val % 64, by omega⟩, Fin.ext (by simp; omega)⟩
  rw [result_apply, attn_apply]
  have hs : ∀ t : Fin 8192, scores q k (ix5 j0 ⟨h.val / 4, by omega⟩ ⟨h.val % 4, by omega⟩ j1 t) = ((score q k j0 j1 h t.val : ℝ) : EReal) := fun t => by
    rw [scores_apply, ← product_eq q k hq hk]
    have eh : (⟨4 * (h.val / 4) + h.val % 4, by omega⟩ : Fin 8) = h := Fin.ext (by simp; omega)
    rw [eh]
  rw [← plain_eq (score q k j0 j1 h) (lane v j0 h d) 8192 (by omega) (tops (scores q k) (ix4 j0 ⟨h.val / 4, by omega⟩ ⟨h.val % 4, by omega⟩ j1))
    (by rw [tops_apply]; simp only [hs])]
  simp only [weights_apply, exps_apply, hs, lane_eq]

end Cert.ReferenceIdeal.Attn

end
-- ==== Proof.FfnPoint.lean ====
/-
  What one point of the feed-forward grid computes from the rows it has staged: a chunk of 512 gate channels, the
  convolution over the rows before, at and after a row, the gated product with the up channels, and the product with
  the chunk of the down weights.
-/
module

public import proofs.«01_k».proof.Proof.Gen.FfnKernelIdeal.Skeleton
public import Idealize.ShloMosaic.Lib.Pointwise

@[expose] public section

set_option maxRecDepth 16384

noncomputable section

open Idealize.ShloMosaic
open scoped BigOperators

namespace Cert.Ffn

/-- The tanh form of gelu. -/
def gelu (g : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g))))))

/-- The convolution of three gate values. -/
def conv (a b c w0 w1 w2 bias : EReal) : EReal := a * w0 + b * w1 + c * w2 + bias

/-- An element of the root-mean-square normalisation of a row of 1024 values. -/
def norm (f : Fin 1024 → EReal) (e : Fin 1024) (g : EReal) : EReal :=
  f e * Ideal.rsqrt (Ideal.div (∑ k : Fin 1024, f k * f k) (Ideal.ofBits .f32 0x44800000#32) + Ideal.ofBits .f32 0x358637BD#32) * g

end Cert.Ffn

namespace Cert.FfnKernelIdeal.Point

open Cert.FfnKernelIdeal Cert.FfnKernelIdeal.Gen Cert.Ffn

/-- The gate channels of a staged row. -/
theorem gate_apply (h : Vec Ideal S1056x1024 .bf16) (w : Vec Ideal S1x1024x512 .bf16) (r : Fin 1056) (f : Fin 512) :
    k0_pay7 (F := Ideal) h w (ix2 r f) = ∑ d : Fin 1024, h (ix2 r d) * w (ix3 0 d f) := by
  pointwise [k0_pay7]

/-- The convolution of the gate channels, at a row. -/
theorem conv_apply (w : Vec Ideal S1x3x512 .f32) (a b d : Vec Ideal S1024x512 .f32) (bias : Vec Ideal S1x1x512 .f32) (p : Fin 1024) (f : Fin 512) :
    k0_pay8 (F := Ideal) w a b d bias (ix2 p f)
      = conv (a (ix2 p f)) (b (ix2 p f)) (d (ix2 p f)) (w (ix3 0 0 f)) (w (ix3 0 1 f)) (w (ix3 0 2 f)) (bias (ix3 0 0 f)) := by
  pointwise [k0_pay8, conv]

/-- The gated product of a chunk, added to what the earlier chunks gave. -/
theorem chunk_apply (g : Vec Ideal S1024x512 .f32) (h : Vec Ideal S1024x1024 .bf16) (wu : Vec Ideal S1x1024x512 .bf16)
    (acc : Vec Ideal S1024x1024 .f32) (wd : Vec Ideal S1x512x1024 .bf16) (p e : Fin 1024) :
    k0_pay1 (F := Ideal) g h wu acc wd (ix2 p e) = acc (ix2 p e)
      + ∑ f : Fin 512, gelu (g (ix2 p f)) * (∑ d : Fin 1024, h (ix2 p d) * wu (ix3 0 d f)) * wd (ix3 0 f e) := by
  pointwise [k0_pay1, gelu]

/-- The last step: the chunks' sum is normalised and added to the skipped input. -/
theorem last_apply (x acc : Vec Ideal S1024x1024 .f32) (g : Vec Ideal S1x1024 .f32) (p e : Fin 1024) :
    k0_pay2 (F := Ideal) x acc g (ix2 p e) = x (ix2 p e) + norm (fun k => acc (ix2 p k)) e (g (ix2 0 e)) := by
  pointwise [k0_pay2]
  rfl

/-- The remainder of a coordinate by 8, as the kernel computes it: with a correction for negative coordinates. -/
def rem8 (a : BitVec 32) : BitVec 32 :=
  let d := Scalar.select (Scalar.cmpi .eq 8#32 0#32) 1#32 8#32
  let r := Scalar.remsi a d
  Scalar.select (Scalar.andi (Scalar.xori (Scalar.cmpi .slt r 0#32) (Scalar.cmpi .slt d 0#32)) (Scalar.cmpi .ne r 0#32)) (Scalar.addi r d) r

theorem isFirst : ∀ i : Fin 64, Scalar.cmpi .eq (rem8 (BitVec.ofNat 32 i.val)) 0#32 = if i.val % 8 = 0 then 1#1 else 0#1 := by
  decide +kernel

theorem isLast : ∀ i : Fin 64, Scalar.cmpi .eq (rem8 (BitVec.ofNat 32 i.val)) 7#32 = if i.val % 8 = 7 then 1#1 else 0#1 := by
  decide +kernel

theorem select_zero (p : Prop) [Decidable p] (x : EReal) : Scalar.select (if p then 1#1 else 0#1) 0 x = if p then 0 else x := by
  split <;> rfl

/-- The rows before: nothing at the start of a batch row. -/
theorem before_apply (i : Fin 64) (x : Vec Ideal S1x16x1024 .bf16) (r : Fin 16) (d : Fin 1024) :
    k0_pay3 (F := Ideal) (BitVec.ofNat 32 i.val) x (ix2 r d) = if i.val % 8 = 0 then 0 else x (ix3 0 r d) := by
  rw [← select_zero, ← isFirst]
  pointwise [k0_pay3]
  rfl

/-- The rows after: nothing at the end of a batch row. -/
theorem after_apply (i : Fin 64) (x : Vec Ideal S1x16x1024 .bf16) (r : Fin 16) (d : Fin 1024) :
    k0_pay5 (F := Ideal) (Scalar.cmpi .eq (rem8 (BitVec.ofNat 32 i.val)) 7#32) (Scalar.ofBits .bf16 0x0000#16) x (ix2 r d)
      = if i.val % 8 = 7 then 0 else x (ix3 0 r d) := by
  rw [← select_zero, ← isLast]
  pointwise [k0_pay5]

/-- The rows of the block. -/
theorem rows_apply (x : Vec Ideal S1024x1024 .bf16) (r d : Fin 1024) : k0_pay4 (F := Ideal) x (ix2 r d) = x (ix2 r d) := by
  pointwise [k0_pay4]

/-- The sum starts from zero. -/
theorem zero_apply (p e : Fin 1024) : k0_pay6 (F := Ideal) (ix2 p e) = 0 := by
  rw [← Ideal.ofBits_zero_f32]; pointwise [k0_pay6]

end Cert.FfnKernelIdeal.Point

end
-- ==== Proof.FfnBlock.lean ====
/-
  What one point of the feed-forward grid leaves: the first point of a block of rows stages the rows with sixteen rows
  of each neighbour around them and starts the sum from zero, every point adds its chunk of 512 channels to the sum, and
  the last point of a block normalises the sum and adds the skipped input.
-/
module

public import proofs.«01_k».proof.Proof.FfnPoint
public import proofs.«01_k».proof.Proof.Gen.FfnKernelIdeal.Frame
public import Idealize.ShloMosaic.Lib.VecWindow

@[expose] public section

set_option maxRecDepth 16384

noncomputable section

open Idealize.ShloMosaic
open scoped BigOperators

namespace Cert.FfnKernelIdeal.Point

open Cert.FfnKernelIdeal Cert.FfnKernelIdeal.Gen Cert.Ffn

/-- 1024 rows of a taller array, from row `o` on. -/
def rows {n : ℕ} {e : EltTy} (X : Vec Ideal (⟨2, ![1056, n]⟩ : Shape) e) (o : ℕ) (ho : o + 1024 ≤ 1056) :
    Vec Ideal (⟨2, ![1024, n]⟩ : Shape) e :=
  fun y => X (ix2 ⟨o + (y 0).val, by have : (y 0).val < 1024 := (y 0).isLt; omega⟩ (y 1))

/-- The rows a block stages: sixteen rows before it, its own, and sixteen after it. -/
def staged (i : grid0.Coords) (x0 : Vec Ideal S1024x1024 .bf16) (x1 x2 : Vec Ideal S1x16x1024 .bf16) : Vec Ideal S1056x1024 .bf16 :=
  fun y =>
    if h : (y 0).val < 16 then k0_pay3 (F := Ideal) (BitVec.ofNat 32 (i 0).val) x1 (ix2 ⟨(y 0).val, h⟩ (y 1))
    else if h' : (y 0).val < 1040 then x0 (ix2 ⟨(y 0).val - 16, by omega⟩ (y 1))
    else k0_pay5 (F := Ideal) (Scalar.cmpi .eq (rem8 (BitVec.ofNat 32 (i 0).val)) 7#32) (Scalar.ofBits .bf16 0x0000#16) x2
      (ix2 ⟨(y 0).val - 1040, by have : (y 0).val < 1056 := (y 0).isLt; omega⟩ (y 1))

/-- A chunk's share of the gated product, added to the sum of the earlier chunks. -/
def step (h : Vec Ideal S1056x1024 .bf16) (wg wu : Vec Ideal S1x1024x512 .bf16) (wd : Vec Ideal S1x512x1024 .bf16)
    (cw : Vec Ideal S1x3x512 .f32) (cb : Vec Ideal S1x1x512 .f32) (acc : Vec Ideal S1024x1024 .f32) : Vec Ideal S1024x1024 .f32 :=
  k0_pay1 (F := Ideal) (k0_pay8 (F := Ideal) cw (rows (k0_pay7 (F := Ideal) h wg) 15 (by omega)) (rows (k0_pay7 (F := Ideal) h wg) 16 (by omega))
    (rows (k0_pay7 (F := Ideal) h wg) 17 (by omega)) cb) (rows h 16 (by omega)) wu acc wd

/-- The same chunk's share of staged values equal to the given ones. -/
theorem step_of {h : Vec Ideal S1056x1024 .bf16} {wg wu wu' : Vec Ideal S1x1024x512 .bf16} {wd wd' : Vec Ideal S1x512x1024 .bf16}
    {cw cw' : Vec Ideal S1x3x512 .f32} {cb cb' : Vec Ideal S1x1x512 .f32} {acc acc' : Vec Ideal S1024x1024 .f32}
    {a b d : Vec Ideal S1024x512 .f32} {h' : Vec Ideal S1024x1024 .bf16}
    (ecw : cw' = cw) (ea : a = rows (k0_pay7 (F := Ideal) h wg) 15 (by omega)) (eb : b = rows (k0_pay7 (F := Ideal) h wg) 16 (by omega))
    (ed : d = rows (k0_pay7 (F := Ideal) h wg) 17 (by omega)) (ecb : cb' = cb) (eh : h' = rows h 16 (by omega)) (eu : wu' = wu)
    (eacc : acc' = acc) (ewd : wd' = wd) :
    k0_pay1 (F := Ideal) (k0_pay8 (F := Ideal) cw' a b d cb') h' wu' acc' wd' = step h wg wu wd cw cb acc := by
  subst ecw ea eb ed ecb eh eu eacc ewd
  rfl

/-- A load of a whole staged value. -/
theorem load_all {S : Shape} {e : EltTy} (arg : Memref sig .tc .vmem S e) (harg : arg.IsWhole) (x : Vec Ideal S e)
    {off : Fin S.rank → ℕ} (inb : ∀ a, off a + S.size a ≤ S.size a) :
    arg.view.readAt (Elt Ideal) (Rect.unit off S.size inb).toLoadRect (harg.unread x) = x := by
  rw [View.readAt_full, harg.read_unread]

/-- A load of 1024 rows from row `o` on, of contents that read as `X`. -/
theorem load_rows {n : ℕ} {e : EltTy} (v : View sig .tc .vmem (⟨2, ![1056, n]⟩ : Shape) e) (f : v.ty.Contents (Elt Ideal))
    (X : Vec Ideal (⟨2, ![1056, n]⟩ : Shape) e) (hX : v.read (Elt Ideal) f = X) (o : ℕ) (ho : o + 1024 ≤ 1056)
    (inb : ∀ a, (![o, 0] : Fin 2 → ℕ) a + (![1024, n] : Fin 2 → ℕ) a ≤ (⟨2, ![1056, n]⟩ : Shape).size a) :
    v.readAt (Elt Ideal) (Rect.unit (s := (⟨2, ![1056, n]⟩ : Shape)) ![o, 0] ![1024, n] inb).toLoadRect f = rows X o ho := by
  rw [View.readAt_unit (Val := Elt Ideal) v f inb rfl inb, hX]
  funext y
  refine congrArg X (funext fun a => Fin.ext ?_)
  fin_cases a <;> simp [Rect.emb, Rect.unit, ix2]

/-- The three pieces of the staged rows read as `staged`. -/
theorem read_staged (v : View sig .tc .vmem S1056x1024 .bf16) (f : v.ty.Contents (Elt Ideal)) (i : grid0.Coords)
    (x0 : Vec Ideal S1024x1024 .bf16) (x1 x2 : Vec Ideal S1x16x1024 .bf16) :
    v.read (Elt Ideal) (v.writes (Elt Ideal) f
      [⟨Rect.unit (s := S1056x1024) ![1040, 0] ![16, 1024] inb_S1056x1024_S16x1024_1040_0,
          k0_pay5 (F := Ideal) (Scalar.cmpi .eq (rem8 (BitVec.ofNat 32 (i 0).val)) 7#32) (Scalar.ofBits .bf16 0x0000#16) x2⟩,
       ⟨Rect.unit (s := S1056x1024) ![16, 0] ![1024, 1024] inb_S1056x1024_S1024x1024_16_0, k0_pay4 (F := Ideal) x0⟩,
       ⟨Rect.unit (s := S1056x1024) ![0, 0] ![16, 1024] inb_S1056x1024_S16x1024_0_0, k0_pay3 (F := Ideal) (BitVec.ofNat 32 (i 0).val) x1⟩])
      = staged i x0 x1 x2 := by
  funext y
  idx_vars y
  unfold staged
  by_cases h : y0.val < 16
  · rw [dif_pos (show ((ix2 y0 y1 : S1056x1024.Idx) 0).val < 16 from h),
      View.read_writes_cons_unit_of_not_mem v f _ _ _ _ rfl 0 (Or.inl (by simp [ix2]; omega)),
      View.read_writes_cons_unit_of_not_mem v f _ _ _ _ rfl 0 (Or.inl (by simp [ix2]; omega))]
    exact View.read_writes_cons_unit_of_mem v f _ _ _ _ (ix2 ⟨y0.val, h⟩ y1) rfl (fun a => by fin_cases a <;> simp [ix2])
  · rw [dif_neg (show ¬ ((ix2 y0 y1 : S1056x1024.Idx) 0).val < 16 from h)]
    by_cases h' : y0.val < 1040
    · rw [dif_pos (show ((ix2 y0 y1 : S1056x1024.Idx) 0).val < 1040 from h'),
        View.read_writes_cons_unit_of_not_mem v f _ _ _ _ rfl 0 (Or.inl (by simp [ix2]; omega))]
      refine (View.read_writes_cons_unit_of_mem v f _ _ _ _ (ix2 ⟨y0.val - 16, by omega⟩ y1) rfl (fun a => by fin_cases a <;> simp [ix2]; omega)).trans ?_
      exact rows_apply x0 _ y1
    · rw [dif_neg (show ¬ ((ix2 y0 y1 : S1056x1024.Idx) 0).val < 1040 from h')]
      exact View.read_writes_cons_unit_of_mem v f _ _ _ _ (ix2 ⟨y0.val - 1040, by omega⟩ y1) rfl (fun a => by fin_cases a <;> simp [ix2]; omega)

/-- The same of loaded values equal to the given ones. -/
theorem read_pieces (v : View sig .tc .vmem S1056x1024 .bf16) (f : v.ty.Contents (Elt Ideal)) (i : grid0.Coords)
    {x0 y0 : Vec Ideal S1024x1024 .bf16} {x1 x2 y1 y2 : Vec Ideal S1x16x1024 .bf16} (e0 : y0 = x0) (e1 : y1 = x1) (e2 : y2 = x2) :
    v.read (Elt Ideal) (v.writes (Elt Ideal) f
      [⟨Rect.unit (s := S1056x1024) ![1040, 0] ![16, 1024] inb_S1056x1024_S16x1024_1040_0,
          k0_pay5 (F := Ideal) (Scalar.cmpi .eq (rem8 (BitVec.ofNat 32 (i 0).val)) 7#32) (Scalar.ofBits .bf16 0x0000#16) y2⟩,
       ⟨Rect.unit (s := S1056x1024) ![16, 0] ![1024, 1024] inb_S1056x1024_S1024x1024_16_0, k0_pay4 (F := Ideal) y0⟩,
       ⟨Rect.unit (s := S1056x1024) ![0, 0] ![16, 1024] inb_S1056x1024_S16x1024_0_0, k0_pay3 (F := Ideal) (BitVec.ofNat 32 (i 0).val) y1⟩])
      = staged i x0 x1 x2 := by
  subst e0 e1 e2
  exact read_staged v f i _ _ _

/-- The stored gate channels, of loaded values equal to the given ones. -/
theorem read_gate_of (v : View sig .tc .vmem S1056x512 .f32) (f : v.ty.Contents (Elt Ideal)) {h h' : Vec Ideal S1056x1024 .bf16}
    {w w' : Vec Ideal S1x1024x512 .bf16} (eh : h' = h) (ew : w' = w) :
    v.read (Elt Ideal) (v.writes (Elt Ideal) f [⟨Rect.unit ![0, 0] S1056x512.size inb_S1056x512_S1056x512_0_0, k0_pay7 (F := Ideal) h' w'⟩])
      = k0_pay7 (F := Ideal) h w := by
  subst eh ew
  exact View.read_writes_full (Val := Elt Ideal) v f _ _ _

/-- The stored gate channels of rows staged before and a staged chunk of the gate weights. -/
theorem read_gate (arg6 : Memref sig .tc .vmem S1x1024x512 .bf16) (harg6 : arg6.IsWhole) (arg13 : Memref sig .tc .vmem S1056x1024 .bf16)
    (harg13 : arg13.IsWhole) (v : View sig .tc .vmem S1056x512 .f32) (f : v.ty.Contents (Elt Ideal)) (w : Vec Ideal S1x1024x512 .bf16)
    (h : Vec Ideal S1056x1024 .bf16) :
    v.read (Elt Ideal) (v.writes (Elt Ideal) f [⟨Rect.unit ![0, 0] S1056x512.size inb_S1056x512_S1056x512_0_0,
      k0_pay7 (F := Ideal) (View.readAt (Elt Ideal) arg13.view (Rect.unit ![0, 0] S1056x1024.size inb_S1056x1024_S1056x1024_0_0).toLoadRect (harg13.unread h))
        (View.readAt (Elt Ideal) arg6.view (Rect.unit ![0, 0, 0] S1x1024x512.size inb_S1x1024x512_S1x1024x512_0_0_0).toLoadRect (harg6.unread w))⟩])
      = k0_pay7 (F := Ideal) h w :=
  read_gate_of v f (load_all arg13 harg13 h _) (load_all arg6 harg6 w _)

/-- The last step of loaded values equal to the given ones. -/
theorem last_of {x x' acc acc' : Vec Ideal S1024x1024 .f32} {g g' : Vec Ideal S1x1024 .f32} (ex : x' = x) (ea : acc' = acc) (eg : g' = g) :
    k0_pay2 (F := Ideal) x' acc' g' = k0_pay2 (F := Ideal) x acc g := by
  subst ex ea eg
  rfl

variable (c : Dev nD) (i : grid0.Coords)
  (arg2 : Memref sig .tc .vmem S1024x1024 .bf16) (harg2 : arg2.IsWhole)
  (arg3 : Memref sig .tc .vmem S1x16x1024 .bf16) (harg3 : arg3.IsWhole)
  (arg4 : Memref sig .tc .vmem S1x16x1024 .bf16) (harg4 : arg4.IsWhole)
  (arg5 : Memref sig .tc .vmem S1024x1024 .f32) (harg5 : arg5.IsWhole)
  (arg6 : Memref sig .tc .vmem S1x1024x512 .bf16) (harg6 : arg6.IsWhole)
  (arg7 : Memref sig .tc .vmem S1x1024x512 .bf16) (harg7 : arg7.IsWhole)
  (arg8 : Memref sig .tc .vmem S1x512x1024 .bf16) (harg8 : arg8.IsWhole)
  (arg9 : Memref sig .tc .vmem S1x3x512 .f32) (harg9 : arg9.IsWhole)
  (arg10 : Memref sig .tc .vmem S1x1x512 .f32) (harg10 : arg10.IsWhole)
  (arg11 : Memref sig .tc .vmem S1x1024 .f32) (harg11 : arg11.IsWhole)
  (arg12 : Memref sig .tc .vmem S1024x1024 .f32) (harg12 : arg12.IsWhole)
  (arg13 : Memref sig .tc .vmem S1056x1024 .bf16) (harg13 : arg13.IsWhole)
  (arg14 : Memref sig .tc .vmem S1056x512 .f32) (harg14 : arg14.IsWhole)
  (arg15 : Memref sig .tc .vmem S1024x1024 .f32) (harg15 : arg15.IsWhole)
  (x0 : Vec Ideal S1024x1024 .bf16)
  (x1 : Vec Ideal S1x16x1024 .bf16)
  (x2 : Vec Ideal S1x16x1024 .bf16)
  (x3 : Vec Ideal S1024x1024 .f32)
  (x4 : Vec Ideal S1x1024x512 .bf16)
  (x5 : Vec Ideal S1x1024x512 .bf16)
  (x6 : Vec Ideal S1x512x1024 .bf16)
  (x7 : Vec Ideal S1x3x512 .f32)
  (x8 : Vec Ideal S1x1x512 .f32)
  (x9 : Vec Ideal S1x1024 .f32)
  (xs0 : Vec Ideal S1056x1024 .bf16) (xs2 : Vec Ideal S1024x1024 .f32)

/-- A middle point adds its chunk. -/
theorem sum_B (hc0 : ¬cond0_0 i) (hc1 : ¬cond0_1 i) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs2 = step xs0 x4 x5 x6 x7 x8 xs2 := by
  unfold sout0_B_2 kernelRun0_B
  sl_unfold_words
  refine (View.read_writes_full (Val := Elt Ideal) VS0_2 _ (off := ![0, 0]) inb_S1024x1024_S1024x1024_0_0 _ _).trans ?_
  exact step_of (load_all arg9 harg9 x7 _) (load_rows arg14.view _ _ (read_gate arg6 harg6 arg13 harg13 arg14.view _ x4 xs0) 15 _ _)
    (load_rows arg14.view _ _ (read_gate arg6 harg6 arg13 harg13 arg14.view _ x4 xs0) 16 _ _)
    (load_rows arg14.view _ _ (read_gate arg6 harg6 arg13 harg13 arg14.view _ x4 xs0) 17 _ _) (load_all arg10 harg10 x8 _)
    (load_rows arg13.view _ _ (harg13.read_unread xs0) 16 _ _)
    (load_all arg7 harg7 x5 _) (load_all arg15 harg15 xs2 _) (load_all arg8 harg8 x6 _)

/-- The last point adds its chunk as well. -/
theorem sum_C (hc0 : ¬cond0_0 i) (hc1 : cond0_1 i) :
    sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs2 = step xs0 x4 x5 x6 x7 x8 xs2 := by
  unfold sout0_C_2 kernelRun0_C
  sl_unfold_words
  refine (View.read_writes_full (Val := Elt Ideal) VS0_2 _ (off := ![0, 0]) inb_S1024x1024_S1024x1024_0_0 _ _).trans ?_
  exact step_of (load_all arg9 harg9 x7 _) (load_rows arg14.view _ _ (read_gate arg6 harg6 arg13 harg13 arg14.view _ x4 xs0) 15 _ _)
    (load_rows arg14.view _ _ (read_gate arg6 harg6 arg13 harg13 arg14.view _ x4 xs0) 16 _ _)
    (load_rows arg14.view _ _ (read_gate arg6 harg6 arg13 harg13 arg14.view _ x4 xs0) 17 _ _) (load_all arg10 harg10 x8 _)
    (load_rows arg13.view _ _ (harg13.read_unread xs0) 16 _ _)
    (load_all arg7 harg7 x5 _) (load_all arg15 harg15 xs2 _) (load_all arg8 harg8 x6 _)

/-- What the last point writes out: the sum of all chunks, normalised, and the skipped input added. -/
theorem out_C (hc0 : ¬cond0_0 i) (hc1 : cond0_1 i) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs2 = k0_pay2 (F := Ideal) x3 (step xs0 x4 x5 x6 x7 x8 xs2) x9 := by
  unfold out0_C_10 kernelRun0_C
  sl_unfold_words
  refine (View.read_writes_full (Val := Elt Ideal) VO0_10 _ (off := ![0, 0]) inb_S1024x1024_S1024x1024_0_0 _ _).trans ?_
  refine last_of (load_all arg5 harg5 x3 _) ?_ (load_all arg11 harg11 x9 _)
  refine (View.readCov_full (Val := Elt Ideal) arg15.view (off := ![0, 0]) (off' := ![0, 0]) inb_S1024x1024_S1024x1024_0_0 inb_S1024x1024_S1024x1024_0_0 _ []).trans ?_
  exact step_of (load_all arg9 harg9 x7 _) (load_rows arg14.view _ _ (read_gate arg6 harg6 arg13 harg13 arg14.view _ x4 xs0) 15 _ _)
    (load_rows arg14.view _ _ (read_gate arg6 harg6 arg13 harg13 arg14.view _ x4 xs0) 16 _ _)
    (load_rows arg14.view _ _ (read_gate arg6 harg6 arg13 harg13 arg14.view _ x4 xs0) 17 _ _) (load_all arg10 harg10 x8 _)
    (load_rows arg13.view _ _ (harg13.read_unread xs0) 16 _ _)
    (load_all arg7 harg7 x5 _) (load_all arg15 harg15 xs2 _) (load_all arg8 harg8 x6 _)

/-- The first point of a block stages its rows. -/
theorem staged_A (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = staged i x0 x1 x2 := by
  unfold sout0_A_0 kernelRun0_A
  sl_unfold_words
  exact read_pieces VS0_0 _ i (load_all arg2 harg2 x0 _) (load_all arg3 harg3 x1 _) (load_all arg4 harg4 x2 _)

/-- The first point of a block adds its chunk to zero. -/
theorem sum_A (hc0 : cond0_0 i) (hc1 : ¬cond0_1 i) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = step (staged i x0 x1 x2) x4 x5 x6 x7 x8 (k0_pay6 (F := Ideal)) := by
  unfold sout0_A_2 kernelRun0_A
  sl_unfold_words
  refine (View.read_writes_full (Val := Elt Ideal) VS0_2 _ (off := ![0, 0]) inb_S1024x1024_S1024x1024_0_0 _ _).trans ?_
  have e13 := fun f => read_pieces arg13.view f i (load_all arg2 harg2 x0 inb_S1024x1024_S1024x1024_0_0)
    (load_all arg3 harg3 x1 inb_S1x16x1024_S1x16x1024_0_0_0) (load_all arg4 harg4 x2 inb_S1x16x1024_S1x16x1024_0_0_0)
  have eg := fun f => read_gate_of arg14.view f ((View.readAt_full (Val := Elt Ideal) arg13.view _ inb_S1056x1024_S1056x1024_0_0).trans (e13 arg13.view.junk))
    (load_all arg6 harg6 x4 inb_S1x1024x512_S1x1024x512_0_0_0)
  exact step_of (load_all arg9 harg9 x7 _) (load_rows arg14.view _ _ (eg _) 15 _ _) (load_rows arg14.view _ _ (eg _) 16 _ _)
    (load_rows arg14.view _ _ (eg _) 17 _ _) (load_all arg10 harg10 x8 _) (load_rows arg13.view _ _ (e13 _) 16 _ _)
    (load_all arg7 harg7 x5 _)
    (View.readCov_full (Val := Elt Ideal) arg15.view (off := ![0, 0]) (off' := ![0, 0]) inb_S1024x1024_S1024x1024_0_0 inb_S1024x1024_S1024x1024_0_0 _ [])
    (load_all arg8 harg8 x6 _)

end Cert.FfnKernelIdeal.Point

end
-- ==== Proof.FfnMath.lean ====
/-
  The feed-forward layer both programs compute, at an index: gate and up channels of a row, a convolution of the gate
  over the rows before, at and after it inside its batch row of 8192, the gated product, the down projection, and the
  normalised result added to the skipped input.
-/
module

public import proofs.«01_k».proof.Proof.FfnPoint
public import proofs.«01_k».proof.FfnKernelIdeal

@[expose] public section

set_option maxRecDepth 16384

noncomputable section

open Idealize.ShloMosaic
open scoped BigOperators

namespace Cert.Ffn

open Cert.FfnKernelIdeal

variable (hn : Vec Ideal S65536x1024 .bf16) (x1 : Vec Ideal S65536x1024 .f32) (wg wu : Vec Ideal S1024x4096 .f32)
  (cw : Vec Ideal S3x4096 .f32) (cb : Vec Ideal S4096 .f32) (wd : Vec Ideal S4096x1024 .f32) (gp : Vec Ideal S1024 .f32)

/-- A gate (or up) channel of a row. -/
def channel (w : Vec Ideal S1024x4096 .f32) (n : Fin 65536) (f : Fin 4096) : EReal :=
  ∑ d : Fin 1024, hn (ix2 n d) * w (ix2 d f)

/-- The gate channel of the row before, zero for the first row of a batch row. -/
def before (n : Fin 65536) (f : Fin 4096) : EReal :=
  if n.val % 8192 = 0 then 0 else channel hn wg ⟨n.val - 1, by omega⟩ f

/-- The gate channel of the row after, zero for the last row of a batch row. -/
def after (n : Fin 65536) (f : Fin 4096) : EReal :=
  if h : n.val % 8192 = 8191 then 0 else channel hn wg ⟨n.val + 1, by omega⟩ f

/-- The gated product, at a channel of a row. -/
def hidden (n : Fin 65536) (f : Fin 4096) : EReal :=
  gelu (conv (before hn wg n f) (channel hn wg n f) (after hn wg n f) (cw (ix2 0 f)) (cw (ix2 1 f)) (cw (ix2 2 f)) (cb (ix1 f)))
    * channel hn wu n f

/-- The down projection of the gated product. -/
def down (n : Fin 65536) (e : Fin 1024) : EReal :=
  ∑ f : Fin 4096, hidden hn wg wu cw cb n f * wd (ix2 f e)

/-- The feed-forward layer. -/
def ffn : Vec Ideal S65536x1024 .f32 := fun j =>
  x1 j + norm (down hn wg wu cw cb wd (j 0)) (j 1) (gp (ix1 (j 1)))

/-- One chunk of 512 channels of the down projection. -/
def chunk (n : Fin 65536) (e : Fin 1024) (k : ℕ) : EReal :=
  if hk : k < 8 then ∑ f : Fin 512, hidden hn wg wu cw cb n ⟨k * 512 + f.val, by omega⟩ * wd (ix2 ⟨k * 512 + f.val, by omega⟩ e) else 0

/-- The down projection is the sum of its eight chunks. -/
theorem down_eq (n : Fin 65536) (e : Fin 1024) :
    ∑ k ∈ Finset.range 8, chunk hn wg wu cw cb wd n e k = down hn wg wu cw cb wd n e := by
  rw [Finset.sum_range]
  unfold down
  rw [← (finProdFinEquiv (m := 8) (n := 512)).sum_comp, Fintype.sum_prod_type]
  refine Finset.sum_congr rfl fun k _ => ?_
  unfold chunk
  rw [dif_pos k.isLt]
  refine Finset.sum_congr rfl fun f _ => ?_
  have e1 : (⟨k.val * 512 + f.val, by omega⟩ : Fin 4096) = finProdFinEquiv (m := 8) (n := 512) (k, f) :=
    Fin.ext (by simp [finProdFinEquiv]; omega)
  rw [e1]

end Cert.Ffn

end
-- ==== Proof.FfnHost.lean ====
/-
  The arrays the feed-forward grid reads, at an index: the host operations cut the weights into chunks of 512 channels
  and the rows into groups of sixteen.
-/
module

public import proofs.«01_k».proof.Proof.FfnMath
public import proofs.«01_k».proof.Proof.Gen.FfnKernelIdeal.Frame
public import Idealize.ShloMosaic.Lib.Pipeline.ValueKit

@[expose] public section

set_option maxRecDepth 16384

noncomputable section

open Idealize.ShloMosaic Idealize.ShloMosaic.TcCoe
open scoped BigOperators

namespace Cert.FfnKernelIdeal.Point

open Cert.FfnKernelIdeal Cert.FfnKernelIdeal.Gen Cert.Ffn

variable (m : (ℓ : Loc nD τ sig) → Buf (Elt Ideal) ℓ) (c : Dev nD)

/-- Rows regrouped: row `i * b + j` becomes row `j` of group `i`. -/
theorem regroup_apply {a b d n : ℕ} {e : EltTy} (X : Vec Ideal (⟨2, ![n, d]⟩ : Shape) e)
    (h : (⟨2, ![n, d]⟩ : Shape).ShapeCasts (⟨3, ![a, b, d]⟩ : Shape)) (i : Fin a) (j : Fin b) (k : Fin d) (hn : i.val * b + j.val < n) :
    shapeCast (⟨3, ![a, b, d]⟩ : Shape) X h (ix3 i j k) = X (ix2 ⟨i.val * b + j.val, hn⟩ k) :=
  congrArg X (Shape.reshapeEquiv_eq_of_rowMajor h (by rw [Shape.rowMajor_val_three, Shape.rowMajor_val_two]; rfl))

/-- The chunks of the gate weights. -/
theorem gates_apply (k : Fin 8) (d : Fin 1024) (f : Fin 512) :
    V m c main_v2 (ix3 k d f) = m ((c : Thread nD τ).loc main_arg2) (ix2 d ⟨k.val * 512 + f.val, by omega⟩) := by
  have e : V m c main_v2 = transpose S8x1024x512 [1, 0, 2] (shapeCast S1024x8x512 (truncf .bf16 (m ((c : Thread nD τ).loc main_arg2)) bitsLt_bf16_f32 : FVec Ideal S1024x4096 .bf16) shapeCasts_S1024x4096_S1024x8x512) transposes_S1024x8x512_S8x1024x512_1_0_2 := by
    after_results <;> rfl
  rw [e]
  pointwise []

/-- The chunks of the up weights. -/
theorem ups_apply (k : Fin 8) (d : Fin 1024) (f : Fin 512) :
    V m c main_v5 (ix3 k d f) = m ((c : Thread nD τ).loc main_arg3) (ix2 d ⟨k.val * 512 + f.val, by omega⟩) := by
  have e : V m c main_v5 = transpose S8x1024x512 [1, 0, 2] (shapeCast S1024x8x512 (truncf .bf16 (m ((c : Thread nD τ).loc main_arg3)) bitsLt_bf16_f32 : FVec Ideal S1024x4096 .bf16) shapeCasts_S1024x4096_S1024x8x512) transposes_S1024x8x512_S8x1024x512_1_0_2 := by
    after_results <;> rfl
  rw [e]
  pointwise []

/-- The chunks of the down weights. -/
theorem downs_apply (k : Fin 8) (f : Fin 512) (e : Fin 1024) :
    V m c main_v7 (ix3 k f e) = m ((c : Thread nD τ).loc main_arg6) (ix2 ⟨k.val * 512 + f.val, by omega⟩ e) := by
  have e : V m c main_v7 = shapeCast S8x512x1024 (truncf .bf16 (m ((c : Thread nD τ).loc main_arg6)) bitsLt_bf16_f32 : FVec Ideal S4096x1024 .bf16) shapeCasts_S4096x1024_S8x512x1024 := by
    rfl
  rw [e]
  pointwise []

/-- The chunks of the convolution's weights. -/
theorem taps_apply (k : Fin 8) (r : Fin 3) (f : Fin 512) :
    V m c main_v9 (ix3 k r f) = m ((c : Thread nD τ).loc main_arg4) (ix2 r ⟨k.val * 512 + f.val, by omega⟩) := by
  have e : V m c main_v9 = transpose S8x3x512 [1, 0, 2] (shapeCast S3x8x512 (m ((c : Thread nD τ).loc main_arg4)) shapeCasts_S3x4096_S3x8x512) transposes_S3x8x512_S8x3x512_1_0_2 := by
    after_results <;> rfl
  rw [e]
  pointwise []

/-- The chunks of the convolution's bias. -/
theorem biases_apply (k : Fin 8) (f : Fin 512) :
    V m c main_v10 (ix3 k 0 f) = m ((c : Thread nD τ).loc main_arg5) (ix1 ⟨k.val * 512 + f.val, by omega⟩) := by
  have e : V m c main_v10 = shapeCast S8x1x512 (m ((c : Thread nD τ).loc main_arg5)) shapeCasts_S4096_S8x1x512 := by
    rfl
  rw [e]
  pointwise []

/-- The scale of the last normalisation. -/
theorem scale_apply (e : Fin 1024) :
    V m c main_v11 (ix2 0 e) = m ((c : Thread nD τ).loc main_arg7) (ix1 e) := by
  have e : V m c main_v11 = broadcastInDim S1x1024 ![1] bcast_S1024_S1x1024_1 (m ((c : Thread nD τ).loc main_arg7)) := by
    after_results <;> rfl
  rw [e]
  pointwise []

/-- The rows in groups of sixteen. -/
theorem groups_apply (a : Fin 4096) (r : Fin 16) (d : Fin 1024) :
    V m c main_v12 (ix3 a r d) = m ((c : Thread nD τ).loc main_arg0) (ix2 ⟨a.val * 16 + r.val, by omega⟩ d) := by
  have e : V m c main_v12 = shapeCast S4096x16x1024 (m ((c : Thread nD τ).loc main_arg0)) shapeCasts_S65536x1024_S4096x16x1024 := by
    rfl
  rw [e]
  exact regroup_apply _ _ a r d (by omega)

/-- A point's block of rows and its chunk of channels. -/
theorem coords : ∀ t : Fin cfg0.N, (grid0.coords t 0).val = t.val / 8 ∧ (grid0.coords t 1).val = t.val % 8 := by decide +kernel

theorem index0 : ∀ t : Fin cfg0.N, win0_0.index t = ![t.val / 8, 0] := by decide +kernel
theorem index1 : ∀ t : Fin cfg0.N, win0_1.index t = ![t.val / 8 * 64 - 1, 0, 0] := by decide +kernel
theorem index2 : ∀ t : Fin cfg0.N, win0_2.index t = ![min (t.val / 8 * 64 + 64) 4095, 0, 0] := by decide +kernel
theorem index3 : ∀ t : Fin cfg0.N, win0_3.index t = ![t.val / 8, 0] := by decide +kernel
theorem index4 : ∀ t : Fin cfg0.N, win0_4.index t = ![t.val % 8, 0, 0] := by decide +kernel
theorem index5 : ∀ t : Fin cfg0.N, win0_5.index t = ![t.val % 8, 0, 0] := by decide +kernel
theorem index6 : ∀ t : Fin cfg0.N, win0_6.index t = ![t.val % 8, 0, 0] := by decide +kernel
theorem index7 : ∀ t : Fin cfg0.N, win0_7.index t = ![t.val % 8, 0, 0] := by decide +kernel
theorem index8 : ∀ t : Fin cfg0.N, win0_8.index t = ![t.val % 8, 0, 0] := by decide +kernel
theorem index9 : ∀ t : Fin cfg0.N, win0_9.index t = ![0, 0] := by decide +kernel
theorem index10 : ∀ t : Fin cfg0.N, win0_10.index t = ![t.val / 8, 0] := by decide +kernel

theorem block_lt (t : Fin cfg0.N) : t.val / 8 < 64 := by
  have : t.val < 512 := lt_of_lt_of_eq t.isLt (show cfg0.N = 512 from N_0)
  omega

/-- A block of the rows. -/
theorem rows_block (t : Fin cfg0.N) (r d : Fin 1024) :
    iblk m c 0 t (ix2 r d) = m ((c : Thread nD τ).loc main_arg0) (ix2 ⟨1024 * (t.val / 8) + r.val, by have := block_lt t; omega⟩ d) := by
  blk_simp [iblk]
  rw [V_main_arg0]
  refine congrArg _ ?_
  blk_ext [index0]

/-- The sixteen rows before a block, where there are any. -/
theorem before_block (t : Fin cfg0.N) (h : 0 < t.val / 8) (r : Fin 16) (d : Fin 1024) :
    iblk m c 1 t (ix3 0 r d) = m ((c : Thread nD τ).loc main_arg0) (ix2 ⟨1024 * (t.val / 8) - 16 + r.val, by have := block_lt t; omega⟩ d) := by
  have hb := block_lt t
  have e := groups_apply m c ⟨t.val / 8 * 64 - 1, by omega⟩ r d
  have e1 : (⟨(t.val / 8 * 64 - 1) * 16 + r.val, by omega⟩ : Fin 65536) = ⟨1024 * (t.val / 8) - 16 + r.val, by omega⟩ := Fin.ext (by show (t.val / 8 * 64 - 1) * 16 + r.val = 1024 * (t.val / 8) - 16 + r.val; omega)
  rw [e1] at e
  rw [← e]
  blk_simp [iblk]
  refine congrArg _ ?_
  blk_ext [index1]

/-- The sixteen rows after a block, where there are any. -/
theorem after_block (t : Fin cfg0.N) (h : t.val / 8 < 63) (r : Fin 16) (d : Fin 1024) :
    iblk m c 2 t (ix3 0 r d) = m ((c : Thread nD τ).loc main_arg0) (ix2 ⟨1024 * (t.val / 8) + 1024 + r.val, by omega⟩ d) := by
  have e := groups_apply m c ⟨t.val / 8 * 64 + 64, by omega⟩ r d
  have e1 : (⟨(t.val / 8 * 64 + 64) * 16 + r.val, by omega⟩ : Fin 65536) = ⟨1024 * (t.val / 8) + 1024 + r.val, by omega⟩ := Fin.ext (by show (t.val / 8 * 64 + 64) * 16 + r.val = 1024 * (t.val / 8) + 1024 + r.val; omega)
  rw [e1] at e
  rw [← e]
  have e2 : win0_2.index t = ![t.val / 8 * 64 + 64, 0, 0] := by rw [index2, min_eq_left (by omega)]
  blk_simp [iblk]
  refine congrArg _ ?_
  blk_ext [e2]

/-- A block of the skipped input. -/
theorem skip_block (t : Fin cfg0.N) (r e : Fin 1024) :
    iblk m c 3 t (ix2 r e) = m ((c : Thread nD τ).loc main_arg1) (ix2 ⟨1024 * (t.val / 8) + r.val, by have := block_lt t; omega⟩ e) := by
  blk_simp [iblk]
  rw [V_main_arg1]
  refine congrArg _ ?_
  blk_ext [index3]

/-- A chunk of the gate weights. -/
theorem gate_block (t : Fin cfg0.N) (d : Fin 1024) (f : Fin 512) :
    iblk m c 4 t (ix3 0 d f) = m ((c : Thread nD τ).loc main_arg2) (ix2 d ⟨t.val % 8 * 512 + f.val, by omega⟩) := by
  refine Eq.trans ?_ (gates_apply m c ⟨t.val % 8, by omega⟩ d f)
  blk_simp [iblk]
  refine congrArg _ ?_
  blk_ext [index4]

/-- A chunk of the up weights. -/
theorem up_block (t : Fin cfg0.N) (d : Fin 1024) (f : Fin 512) :
    iblk m c 5 t (ix3 0 d f) = m ((c : Thread nD τ).loc main_arg3) (ix2 d ⟨t.val % 8 * 512 + f.val, by omega⟩) := by
  refine Eq.trans ?_ (ups_apply m c ⟨t.val % 8, by omega⟩ d f)
  blk_simp [iblk]
  refine congrArg _ ?_
  blk_ext [index5]

/-- A chunk of the down weights. -/
theorem down_block (t : Fin cfg0.N) (f : Fin 512) (e : Fin 1024) :
    iblk m c 6 t (ix3 0 f e) = m ((c : Thread nD τ).loc main_arg6) (ix2 ⟨t.val % 8 * 512 + f.val, by omega⟩ e) := by
  refine Eq.trans ?_ (downs_apply m c ⟨t.val % 8, by omega⟩ f e)
  blk_simp [iblk]
  refine congrArg _ ?_
  blk_ext [index6]

/-- A chunk of the convolution's weights. -/
theorem tap_block (t : Fin cfg0.N) (r : Fin 3) (f : Fin 512) :
    iblk m c 7 t (ix3 0 r f) = m ((c : Thread nD τ).loc main_arg4) (ix2 r ⟨t.val % 8 * 512 + f.val, by omega⟩) := by
  refine Eq.trans ?_ (taps_apply m c ⟨t.val % 8, by omega⟩ r f)
  blk_simp [iblk]
  refine congrArg _ ?_
  blk_ext [index7]

/-- A chunk of the convolution's bias. -/
theorem bias_block (t : Fin cfg0.N) (f : Fin 512) :
    iblk m c 8 t (ix3 0 0 f) = m ((c : Thread nD τ).loc main_arg5) (ix1 ⟨t.val % 8 * 512 + f.val, by omega⟩) := by
  refine Eq.trans ?_ (biases_apply m c ⟨t.val % 8, by omega⟩ f)
  blk_simp [iblk]
  refine congrArg _ ?_
  blk_ext [index8]

/-- The scale of the last normalisation, whole at every point. -/
theorem scale_block (t : Fin cfg0.N) (e : Fin 1024) :
    iblk m c 9 t (ix2 0 e) = m ((c : Thread nD τ).loc main_arg7) (ix1 e) := by
  refine Eq.trans ?_ (scale_apply m c e)
  blk_simp [iblk]
  refine congrArg _ ?_
  blk_ext [index9]

end Cert.FfnKernelIdeal.Point

end
-- ==== Proof.FfnArray.lean ====
/-
  The kernel's feed-forward array: the rows and the sum that the grid carries from point to point, the block that the
  last point of each block of rows writes, and the array those blocks cover.
-/
module

public import proofs.«01_k».proof.Proof.FfnBlock
public import proofs.«01_k».proof.Proof.FfnHost
public import Idealize.ShloMosaic.Lib.Pipeline.Covers
public import Idealize.ShloMosaic.Lib.Pipeline.Value

@[expose] public section

set_option maxRecDepth 16384

noncomputable section

open Idealize.ShloMosaic Idealize.ShloMosaic.TcCoe Idealize.SL.Sem
open scoped BigOperators

namespace Cert.FfnKernelIdeal.Point

open Cert.FfnKernelIdeal Cert.FfnKernelIdeal.Gen Cert.Ffn

/-- The chunk's share, at an index. -/
theorem step_apply (h : Vec Ideal S1056x1024 .bf16) (wg wu : Vec Ideal S1x1024x512 .bf16) (wd : Vec Ideal S1x512x1024 .bf16)
    (cw : Vec Ideal S1x3x512 .f32) (cb : Vec Ideal S1x1x512 .f32) (acc : Vec Ideal S1024x1024 .f32) (p e : Fin 1024) :
    step h wg wu wd cw cb acc (ix2 p e) = acc (ix2 p e) + ∑ f : Fin 512,
      gelu (conv (∑ d : Fin 1024, h (ix2 ⟨15 + p.val, by omega⟩ d) * wg (ix3 0 d f)) (∑ d : Fin 1024, h (ix2 ⟨16 + p.val, by omega⟩ d) * wg (ix3 0 d f))
          (∑ d : Fin 1024, h (ix2 ⟨17 + p.val, by omega⟩ d) * wg (ix3 0 d f)) (cw (ix3 0 0 f)) (cw (ix3 0 1 f)) (cw (ix3 0 2 f)) (cb (ix3 0 0 f)))
        * (∑ d : Fin 1024, h (ix2 ⟨16 + p.val, by omega⟩ d) * wu (ix3 0 d f)) * wd (ix3 0 f e) := by
  unfold step
  rw [chunk_apply]
  refine congrArg _ (Finset.sum_congr rfl fun f _ => ?_)
  have g (o : ℕ) (ho : o + 1024 ≤ 1056) : rows (k0_pay7 h wg) o ho (ix2 p f) = ∑ d : Fin 1024, h (ix2 ⟨o + p.val, by omega⟩ d) * wg (ix3 0 d f) :=
    gate_apply h wg ⟨o + p.val, by omega⟩ f
  have same {a a' b b' d d' : EReal} (ha : a = a') (hb : b = b') (hd : d = d') (w0 w1 w2 bias u v : EReal) :
      gelu (conv a b d w0 w1 w2 bias) * u * v = gelu (conv a' b' d' w0 w1 w2 bias) * u * v := by rw [ha, hb, hd]
  rw [conv_apply]
  exact same (g 15 (by omega)) (g 16 (by omega)) (g 17 (by omega)) _ _ _ _ _ _

variable (hn : Vec Ideal S65536x1024 .bf16)

/-- The rows a block stages, from the whole array: zero outside the block's batch row. -/
def stagedAt (b : Fin 64) : Vec Ideal S1056x1024 .bf16 := fun y =>
  if h : ((y 0).val < 16 ∧ b.val % 8 = 0) ∨ (1040 ≤ (y 0).val ∧ b.val % 8 = 7) then 0
  else hn (ix2 ⟨1024 * b.val + (y 0).val - 16, by have : (y 0).val < 1056 := (y 0).isLt; omega⟩ (y 1))

/-- The row before a row, staged. -/
theorem staged_before (b : Fin 64) (p : Fin 1024) (w : Vec Ideal S1024x4096 .f32) (f : Fin 4096) :
    ∑ d : Fin 1024, stagedAt hn b (ix2 ⟨15 + p.val, by omega⟩ d) * w (ix2 d f) = before hn w ⟨1024 * b.val + p.val, by omega⟩ f := by
  unfold before
  by_cases h : (1024 * b.val + p.val) % 8192 = 0
  · rw [if_pos h]
    refine Finset.sum_eq_zero fun d _ => ?_
    have e : stagedAt hn b (ix2 ⟨15 + p.val, by omega⟩ d) = 0 := dif_pos (Or.inl ⟨show 15 + p.val < 16 by omega, by omega⟩)
    rw [e, zero_mul]
  · rw [if_neg h]
    refine Finset.sum_congr rfl fun d _ => congrArg (· * _) ?_
    refine (dif_neg (show ¬ ((15 + p.val < 16 ∧ b.val % 8 = 0) ∨ (1040 ≤ 15 + p.val ∧ b.val % 8 = 7)) by omega)).trans ?_
    exact congrArg (fun r => hn (ix2 r d)) (Fin.ext (by show 1024 * b.val + (15 + p.val) - 16 = 1024 * b.val + p.val - 1; omega))

/-- A row, staged. -/
theorem staged_row (b : Fin 64) (p : Fin 1024) (w : Vec Ideal S1024x4096 .f32) (f : Fin 4096) :
    ∑ d : Fin 1024, stagedAt hn b (ix2 ⟨16 + p.val, by omega⟩ d) * w (ix2 d f) = channel hn w ⟨1024 * b.val + p.val, by omega⟩ f := by
  unfold channel
  refine Finset.sum_congr rfl fun d _ => congrArg (· * _) ?_
  refine (dif_neg (show ¬ ((16 + p.val < 16 ∧ b.val % 8 = 0) ∨ (1040 ≤ 16 + p.val ∧ b.val % 8 = 7)) by omega)).trans ?_
  exact congrArg (fun r => hn (ix2 r d)) (Fin.ext (by show 1024 * b.val + (16 + p.val) - 16 = 1024 * b.val + p.val; omega))

/-- The row after a row, staged. -/
theorem staged_after (b : Fin 64) (p : Fin 1024) (w : Vec Ideal S1024x4096 .f32) (f : Fin 4096) :
    ∑ d : Fin 1024, stagedAt hn b (ix2 ⟨17 + p.val, by omega⟩ d) * w (ix2 d f) = after hn w ⟨1024 * b.val + p.val, by omega⟩ f := by
  unfold after
  by_cases h : (1024 * b.val + p.val) % 8192 = 8191
  · rw [dif_pos h]
    refine Finset.sum_eq_zero fun d _ => ?_
    have e : stagedAt hn b (ix2 ⟨17 + p.val, by omega⟩ d) = 0 := dif_pos (Or.inr ⟨show 1040 ≤ 17 + p.val by omega, by omega⟩)
    rw [e, zero_mul]
  · rw [dif_neg h]
    refine Finset.sum_congr rfl fun d _ => congrArg (· * _) ?_
    refine (dif_neg (show ¬ ((17 + p.val < 16 ∧ b.val % 8 = 0) ∨ (1040 ≤ 17 + p.val ∧ b.val % 8 = 7)) by omega)).trans ?_
    exact congrArg (fun r => hn (ix2 r d)) (Fin.ext (by show 1024 * b.val + (17 + p.val) - 16 = 1024 * b.val + p.val + 1; omega))

variable (m : (ℓ : Loc nD τ sig) → Buf (Elt Ideal) ℓ) (c : Dev nD)

/-- The number of a point's block of rows. -/
def block (t : Fin cfg0.N) : Fin 64 := ⟨t.val / 8, block_lt t⟩

/-- What the first point of a block stages, from the whole array. -/
theorem staged_eq (t : Fin cfg0.N) :
    staged (grid0.coords t) (iblk m c 0 t) (iblk m c 1 t) (iblk m c 2 t) = stagedAt (m ((c : Thread nD τ).loc main_arg0)) (block t) := by
  funext y
  idx_vars y
  have hb := block_lt t
  have hc := (coords t).1
  unfold staged
  by_cases h : y0.val < 16
  · refine (dif_pos h).trans ?_
    refine (before_apply (grid0.coords t 0) (iblk m c 1 t) (⟨y0.val, h⟩ : Fin 16) y1).trans ?_
    rw [hc]
    by_cases h0 : t.val / 8 % 8 = 0
    · rw [if_pos h0]
      have e : stagedAt (m ((c : Thread nD τ).loc main_arg0)) (block t) (ix2 y0 y1) = 0 := dif_pos (Or.inl ⟨h, h0⟩)
      exact e.symm
    · rw [if_neg h0]
      refine ((before_block m c t (by omega) (⟨y0.val, h⟩ : Fin 16) y1).trans ?_).trans (dif_neg (show ¬ ((y0.val < 16 ∧ t.val / 8 % 8 = 0) ∨ (1040 ≤ y0.val ∧ t.val / 8 % 8 = 7)) by omega)).symm
      exact congrArg (fun r => m ((c : Thread nD τ).loc main_arg0) (ix2 r y1)) (Fin.ext (by show 1024 * (t.val / 8) - 16 + y0.val = 1024 * (t.val / 8) + y0.val - 16; omega))
  · refine (dif_neg h).trans ?_
    by_cases h' : y0.val < 1040
    · refine (dif_pos h').trans ?_
      refine ((rows_block m c t ⟨y0.val - 16, by omega⟩ y1).trans ?_).trans (dif_neg (show ¬ ((y0.val < 16 ∧ t.val / 8 % 8 = 0) ∨ (1040 ≤ y0.val ∧ t.val / 8 % 8 = 7)) by omega)).symm
      exact congrArg (fun r => m ((c : Thread nD τ).loc main_arg0) (ix2 r y1)) (Fin.ext (by show 1024 * (t.val / 8) + (y0.val - 16) = 1024 * (t.val / 8) + y0.val - 16; omega))
    · refine (dif_neg h').trans ?_
      have hy : y0.val < 1056 := y0.isLt
      refine (after_apply (grid0.coords t 0) (iblk m c 2 t) (⟨y0.val - 1040, by omega⟩ : Fin 16) y1).trans ?_
      rw [hc]
      by_cases h7 : t.val / 8 % 8 = 7
      · rw [if_pos h7]
        have e : stagedAt (m ((c : Thread nD τ).loc main_arg0)) (block t) (ix2 y0 y1) = 0 := dif_pos (Or.inr ⟨Nat.le_of_not_lt h', h7⟩)
        exact e.symm
      · rw [if_neg h7]
        refine ((after_block m c t (by omega) (⟨y0.val - 1040, by omega⟩ : Fin 16) y1).trans ?_).trans (dif_neg (show ¬ ((y0.val < 16 ∧ t.val / 8 % 8 = 0) ∨ (1040 ≤ y0.val ∧ t.val / 8 % 8 = 7)) by omega)).symm
        exact congrArg (fun r => m ((c : Thread nD τ).loc main_arg0) (ix2 r y1)) (Fin.ext (by show 1024 * (t.val / 8) + 1024 + (y0.val - 1040) = 1024 * (t.val / 8) + y0.val - 16; omega))

/-- A chunk of the down projection, of the arrays the program was started with. -/
def part (n : Fin 65536) (e : Fin 1024) (k : ℕ) : EReal :=
  chunk (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6)) n e k

/-- The row `p` of a point's block. -/
def row (t : Fin cfg0.N) (p : Fin 1024) : Fin 65536 := ⟨1024 * (t.val / 8) + p.val, by have := block_lt t; omega⟩

/-- What a point adds to the sum: its chunk of the down projection. -/
theorem step_eq (t : Fin cfg0.N) (acc : Vec Ideal S1024x1024 .f32) (p e : Fin 1024) :
    step (stagedAt (m ((c : Thread nD τ).loc main_arg0)) (block t)) (iblk m c 4 t) (iblk m c 5 t) (iblk m c 6 t) (iblk m c 7 t) (iblk m c 8 t) acc (ix2 p e)
      = acc (ix2 p e) + part m c (row t p) e (t.val % 8) := by
  rw [step_apply]
  unfold part chunk Cert.Ffn.hidden
  rw [dif_pos (show t.val % 8 < 8 by omega)]
  refine congrArg _ (Finset.sum_congr rfl fun f _ => ?_)
  have e1 := staged_before (m ((c : Thread nD τ).loc main_arg0)) (block t) p (m ((c : Thread nD τ).loc main_arg2)) ⟨t.val % 8 * 512 + f.val, by omega⟩
  have e2 := staged_row (m ((c : Thread nD τ).loc main_arg0)) (block t) p (m ((c : Thread nD τ).loc main_arg2)) ⟨t.val % 8 * 512 + f.val, by omega⟩
  have e3 := staged_after (m ((c : Thread nD τ).loc main_arg0)) (block t) p (m ((c : Thread nD τ).loc main_arg2)) ⟨t.val % 8 * 512 + f.val, by omega⟩
  have e4 := staged_row (m ((c : Thread nD τ).loc main_arg0)) (block t) p (m ((c : Thread nD τ).loc main_arg3)) ⟨t.val % 8 * 512 + f.val, by omega⟩
  simp only [gate_block m c t, up_block m c t, down_block m c t, tap_block m c t, bias_block m c t]
  rw [e1, e2, e3, e4]
  rfl

/-- At the first point of a block the carried rows are the block's and the sum is the chunk of that point over zero. -/
theorem first (t : Fin cfg0.N) (h0 : t.val % 8 = 0) :
    (outsAt0 m c t.val t.isLt).2.1 = stagedAt (m ((c : Thread nD τ).loc main_arg0)) (block t)
      ∧ (outsAt0 m c t.val t.isLt).2.2 = step (stagedAt (m ((c : Thread nD τ).loc main_arg0)) (block t)) (iblk m c 4 t) (iblk m c 5 t) (iblk m c 6 t)
          (iblk m c 7 t) (iblk m c 8 t) (k0_pay6 (F := Ideal)) := by
  have h1 : ¬t.val % 8 = 7 := by omega
  have e := outsAt0_A m c t h0 h1
  have e0 := congrArg (fun z => z.2.1) e
  have e2 := congrArg (fun z => z.2.2) e
  dsimp only at e0 e2
  rw [← staged_eq m c t]
  constructor
  · have s := staged_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))
    rw [s] at e0
    exact e0
  · have s := sum_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))
    rw [s] at e2
    exact e2

/-- At every other point of a block the carried rows stay and the sum grows by the point's chunk. -/
theorem later (t : Fin cfg0.N) (h0 : ¬t.val % 8 = 0) (hp : t.val - 1 < cfg0.N) :
    (outsAt0 m c t.val t.isLt).2.1 = (outsAt0 m c (t.val - 1) hp).2.1
      ∧ (outsAt0 m c t.val t.isLt).2.2 = step (outsAt0 m c (t.val - 1) hp).2.1 (iblk m c 4 t) (iblk m c 5 t) (iblk m c 6 t)
          (iblk m c 7 t) (iblk m c 8 t) (outsAt0 m c (t.val - 1) hp).2.2 := by
  by_cases h1 : t.val % 8 = 7
  · have e := outsAt0_C m c t h0 h1
    have e0 := congrArg (fun z => z.2.1) e
    have e2 := congrArg (fun z => z.2.2) e
    dsimp only at e0 e2
    have s := sum_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) hp).2.1 (outsAt0 m c (t.val - 1) hp).2.2
      (fun h => h0 ((hcond0_0 t).mp h)) ((hcond0_1 t).mpr h1)
    rw [s] at e2
    refine ⟨?_, e2⟩
    rw [e0]
    delta sout0_C_0
    rfl
  · have e := outsAt0_B m c t h0 h1
    have e0 := congrArg (fun z => z.2.1) e
    have e2 := congrArg (fun z => z.2.2) e
    dsimp only at e0 e2
    have s := sum_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) hp).2.1 (outsAt0 m c (t.val - 1) hp).2.2
      (fun h => h0 ((hcond0_0 t).mp h)) (fun h => h1 ((hcond0_1 t).mp h))
    rw [s] at e2
    refine ⟨?_, e2⟩
    rw [e0]
    delta sout0_B_0
    rfl

/-- What the last point of a block writes: the carried sum, normalised, with the skipped input added. -/
theorem last (t : Fin cfg0.N) (h1 : t.val % 8 = 7) :
    (outsAt0 m c t.val t.isLt).1 = k0_pay2 (F := Ideal) (iblk m c 3 t) (outsAt0 m c t.val t.isLt).2.2 (iblk m c 9 t) := by
  have h0 : ¬t.val % 8 = 0 := by omega
  have hp : t.val - 1 < cfg0.N := by have := t.isLt; omega
  rw [(later m c t h0 hp).2]
  have e := congrArg (fun z => z.1) (outsAt0_C m c t h0 h1)
  dsimp only at e
  have s := out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) hp).2.1 (outsAt0 m c (t.val - 1) hp).2.2
      (fun h => h0 ((hcond0_0 t).mp h)) ((hcond0_1 t).mpr h1)
  rw [s] at e
  exact e

/-- **What the grid carries**: after each point the rows of its block, and the sum of the chunks so far. -/
theorem carried (n : ℕ) : ∀ hn : n < cfg0.N,
    (outsAt0 m c n hn).2.1 = stagedAt (m ((c : Thread nD τ).loc main_arg0)) (block ⟨n, hn⟩)
      ∧ ∀ p e : Fin 1024, (outsAt0 m c n hn).2.2 (ix2 p e) = ∑ k ∈ Finset.range (n % 8 + 1), part m c (row ⟨n, hn⟩ p) e k := by
  induction n with
  | zero =>
    intro hn
    have h := first m c ⟨0, hn⟩ rfl
    refine ⟨h.1, fun p e => ?_⟩
    refine (congrFun h.2 (ix2 p e)).trans ((step_eq m c ⟨0, hn⟩ _ p e).trans ?_)
    rw [zero_apply, zero_add]
    exact (Finset.sum_range_one _).symm
  | succ n ih =>
    intro hn
    by_cases h0 : (n + 1) % 8 = 0
    · have h := first m c ⟨n + 1, hn⟩ h0
      refine ⟨h.1, fun p e => ?_⟩
      refine (congrFun h.2 (ix2 p e)).trans ((step_eq m c ⟨n + 1, hn⟩ _ p e).trans ?_)
      rw [zero_apply, zero_add]
      show part m c _ e ((n + 1) % 8) = _
      rw [h0]
      exact (Finset.sum_range_one _).symm
    · have hp : n < cfg0.N := Nat.lt_of_succ_lt hn
      have h := later m c ⟨n + 1, hn⟩ h0 hp
      have hb : block ⟨n, hp⟩ = block ⟨n + 1, hn⟩ := Fin.ext (by show n / 8 = (n + 1) / 8; omega)
      have hr (p : Fin 1024) : row ⟨n, hp⟩ p = row ⟨n + 1, hn⟩ p := Fin.ext (by show 1024 * (n / 8) + p.val = 1024 * ((n + 1) / 8) + p.val; omega)
      have i := ih hp
      rw [hb] at i
      refine ⟨h.1.trans i.1, fun p e => ?_⟩
      refine (congrFun h.2 (ix2 p e)).trans ?_
      show step (outsAt0 m c n hp).2.1 _ _ _ _ _ (outsAt0 m c n hp).2.2 (ix2 p e) = _
      rw [i.1]
      refine (step_eq m c ⟨n + 1, hn⟩ _ p e).trans ?_
      rw [i.2 p e, hr p]
      show _ + part m c _ e ((n + 1) % 8) = _
      rw [show (n + 1) % 8 = n % 8 + 1 by omega]
      exact (Finset.sum_range_succ _ _).symm

/-- Every index of the result lies in the block of some last point. -/
theorem covers : (cfg0.win 10).Covers := by decide +kernel

/-- The last point of each block is where its rows are written out. -/
theorem flushes : ∀ t : Fin cfg0.N, (cfg0.win 10).flush t → t.val % 8 = 7 := by decide +kernel

/-- **The result array is the feed-forward layer of the argument arrays.** -/
theorem final : (dats m 0 c).arrAt 10 cfg0.N
    = ffn (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_covers 10 _ covers fun t hf y => ?_
  have h7 := flushes t hf
  have hb := block_lt t
  blk_simp
  rw [after0_10, last m c t h7]
  idx_vars y
  have e : ((View.whole main_v13).slice (win0_10.rect t)).emb (ix2 y0 y1) = ix2 (row t y0) y1 := by
    blk_ext [index10, row]
  rw [e, last_apply, skip_block, scale_block]
  have hs (k : Fin 1024) := (carried m c t.val t.isLt).2 y0 k
  rw [h7] at hs
  have hd (k : Fin 1024) := (hs k).trans (down_eq _ _ _ _ _ _ (row t y0) k)
  simp only [hd]
  rfl

/-- **The kernel's run**: its result is the feed-forward layer of its arguments, which it leaves as they were. -/
theorem run_ffn (ρ : Dev nD → PrngReg) : θ_run defs (onTc (τ := τ) (main (F := Ideal))) ⟨m, fun _ => 0, ρ⟩ fun r => ∀ c : Dev nD,
    r.2.mem ((c : Thread nD τ).loc main_v13) = ffn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 10).trans (final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.FfnKernelIdeal.Point

end
-- ==== Proof.FfnRef.lean ====
/-
  The reference's feed-forward layer at an index: the gate's channels padded with one zero row at both ends of every
  batch row, three shifted slices of them mixed, and the rest as in the layer's definition.
-/
module

public import proofs.«01_k».proof.Proof.FfnMath
public import proofs.«01_k».proof.Proof.Gen.FfnReferenceIdeal.Run
public import Idealize.ShloMosaic.Lib.KernelVsHost

@[expose] public section

set_option maxRecDepth 16384

noncomputable section

open Idealize.ShloMosaic
open scoped BigOperators

namespace Cert.FfnReferenceIdeal.Point

open Cert.FfnReferenceIdeal Cert.FfnReferenceIdeal.Gen Cert.Ffn Cert.FfnReferenceIdeal.Facts

/-- Rows grouped by batch row, at an index. -/
theorem group_apply {a b d n : ℕ} {e : EltTy} (X : Vec Ideal (⟨2, ![n, d]⟩ : Shape) e)
    (h : (⟨2, ![n, d]⟩ : Shape).ShapeCasts (⟨3, ![a, b, d]⟩ : Shape)) (i : Fin a) (j : Fin b) (k : Fin d) (r : Fin n) (hr : r.val = i.val * b + j.val) :
    shapeCast (⟨3, ![a, b, d]⟩ : Shape) X h (ix3 i j k) = X (ix2 r k) :=
  congrArg X (Shape.reshapeEquiv_eq_of_rowMajor h (by
    rw [Shape.rowMajor_val_three, Shape.rowMajor_val_two]
    show r.val * d + k.val = (i.val * b + j.val) * d + k.val
    rw [hr]))

/-- Grouped rows listed one after another again, at an index. -/
theorem list_apply {a b d n : ℕ} {e : EltTy} (X : Vec Ideal (⟨3, ![a, b, d]⟩ : Shape) e)
    (h : (⟨3, ![a, b, d]⟩ : Shape).ShapeCasts (⟨2, ![n, d]⟩ : Shape)) (i : Fin a) (j : Fin b) (k : Fin d) (r : Fin n) (hr : r.val = i.val * b + j.val) :
    shapeCast (⟨2, ![n, d]⟩ : Shape) X h (ix2 r k) = X (ix3 i j k) :=
  congrArg X (Shape.reshapeEquiv_eq_of_rowMajor h (by
    rw [Shape.rowMajor_val_three, Shape.rowMajor_val_two]
    show (i.val * b + j.val) * d + k.val = r.val * d + k.val
    rw [hr]))

/-- A row of a batch row among all rows. -/
def place (b : Fin 8) (s : Fin 8192) : Fin 65536 := ⟨b.val * 8192 + s.val, by omega⟩

variable (hn : FVec Ideal S65536x1024 .bf16) (x1 : FVec Ideal S65536x1024 .f32) (wg wu : FVec Ideal S1024x4096 .f32)
  (cw : FVec Ideal S3x4096 .f32) (cb : FVec Ideal S4096 .f32) (wd : FVec Ideal S4096x1024 .f32) (gp : FVec Ideal S1024 .f32)

/-- The gate (or up) channels of all rows. -/
def channels (w : FVec Ideal S1024x4096 .f32) : FVec Ideal S8x8192x4096 .f32 :=
  Host.dotGeneral dot_S8x8192x1024_S1024x4096_S8x8192x4096_2_0_01_1_n_n none (shapeCast _ (extf .f32 hn bitsLt_bf16_f32) shapeCasts_S65536x1024_S8x8192x1024) w

/-- Channels with a zero row before the first and after the last row of every batch row. -/
def padded (g : FVec Ideal S8x8192x4096 .f32) : FVec Ideal S8x8194x4096 .f32 :=
  pad S8x8194x4096 ![0, 1, 0] ![0, 1, 0] ![0, 0, 0] g (sitofp .f32 (constantI S_ 32 0#32)) pads_S8x8192x4096_S8x8194x4096_000_110_000 h_S_

/-- One value per channel, for every row. -/
def everywhere (v : FVec Ideal S4096 .f32) : FVec Ideal S8x8192x4096 .f32 :=
  broadcastInDim S8x8192x4096 ![0, 1, 2] bcast_S1x1x4096_S8x8192x4096_0_1_2 (broadcastInDim S1x1x4096 ![2] bcast_S4096_S1x1x4096_2 v)

/-- The convolution of padded channels. -/
def mixed (p : FVec Ideal S8x8194x4096 .f32) : FVec Ideal S8x8192x4096 .f32 :=
  addf (addf (addf (mulf (extractStridedSlice S8x8192x4096 ![0, 0, 0] p slices_S8x8194x4096_S8x8192x4096_0_0_0) (everywhere (shapeCast _ (extractStridedSlice S1x4096 ![0, 0] cw slices_S3x4096_S1x4096_0_0) shapeCasts_S1x4096_S4096)))
    (mulf (extractStridedSlice S8x8192x4096 ![0, 1, 0] p slices_S8x8194x4096_S8x8192x4096_0_1_0) (everywhere (shapeCast _ (extractStridedSlice S1x4096 ![1, 0] cw slices_S3x4096_S1x4096_1_0) shapeCasts_S1x4096_S4096))))
    (mulf (extractStridedSlice S8x8192x4096 ![0, 2, 0] p slices_S8x8194x4096_S8x8192x4096_0_2_0) (everywhere (shapeCast _ (extractStridedSlice S1x4096 ![2, 0] cw slices_S3x4096_S1x4096_2_0) shapeCasts_S1x4096_S4096))))
    (everywhere cb)

/-- The gate's activation. -/
def activated (x : FVec Ideal S8x8192x4096 .f32) : FVec Ideal S8x8192x4096 .f32 :=
  mulf x (mulf (broadcastInDim S8x8192x4096 ![] bcast_S_S8x8192x4096 (constant S_ .f32 0x3F000000#32)) (addf (broadcastInDim S8x8192x4096 ![] bcast_S_S8x8192x4096 (constant S_ .f32 0x3F800000#32))
    (Host.tanh (mulf (broadcastInDim S8x8192x4096 ![] bcast_S_S8x8192x4096 (constant S_ .f32 0x3F4C422A#32)) (addf x (mulf (broadcastInDim S8x8192x4096 ![] bcast_S_S8x8192x4096 (constant S_ .f32 0x3D372713#32)) (mulf (mulf x x) x)))))))

/-- The down projection of gated channels. -/
def projected (y : FVec Ideal S8x8192x4096 .f32) : FVec Ideal S8x8192x1024 .f32 :=
  Host.dotGeneral dot_S8x8192x4096_S4096x1024_S8x8192x1024_2_0_01_1_n_n none y wd

/-- The normalisation of every row. -/
def scaled (y : FVec Ideal S8x8192x1024 .f32) : FVec Ideal S8x8192x1024 .f32 :=
  mulf (mulf y (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf y y) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 gp))

/-- The whole reference. -/
def result : FVec Ideal S65536x1024 .f32 :=
  shapeCast _ (addf (shapeCast _ x1 shapeCasts_S65536x1024_S8x8192x1024)
    (scaled gp (projected wd (mulf (activated (mixed cw cb (padded (channels hn wg)))) (channels hn wu))))) shapeCasts_S8x8192x1024_S65536x1024

/-- Channels of a row. -/
theorem channels_apply (w : FVec Ideal S1024x4096 .f32) (b : Fin 8) (s : Fin 8192) (f : Fin 4096) :
    channels hn w (ix3 b s f) = channel hn w (place b s) f := by
  have e (X : FVec Ideal S8x8192x1024 .f32) : Host.dotGeneral dot_S8x8192x1024_S1024x4096_S8x8192x4096_2_0_01_1_n_n none X w (ix3 b s f)
      = ∑ d : Fin 1024, X (ix3 b s d) * w (ix2 d f) := by pointwise []
  refine (e _).trans (Finset.sum_congr rfl fun d _ => congrArg (· * _) ?_)
  exact group_apply (e := .f32) (extf .f32 hn bitsLt_bf16_f32) shapeCasts_S65536x1024_S8x8192x1024 b s d (place b s) rfl

/-- Padded channels strictly inside a batch row. -/
theorem padded_inside (g : FVec Ideal S8x8192x4096 .f32) (b : Fin 8) (r : Fin 8194) (s : Fin 8192) (f : Fin 4096) (h : r.val = 1 + s.val) :
    padded g (ix3 b r f) = g (ix3 b s f) := by
  refine pad_apply_of_inside _ _ _ _ _ _ _ _ (ix3 b s f) fun a => ?_
  fin_cases a
  · show b.val = 0 + b.val * 1
    omega
  · show r.val = 1 + s.val * 1
    omega
  · show f.val = 0 + f.val * 1
    omega

/-- The padding is zero. -/
theorem padded_outside (g : FVec Ideal S8x8192x4096 .f32) (b : Fin 8) (r : Fin 8194) (f : Fin 4096) (h : r.val = 0 ∨ r.val = 8193) :
    padded g (ix3 b r f) = 0 := by
  refine (pad_apply_of_not_inside _ _ _ _ _ _ _ _ (1 : Fin 3) ?_).trans ?_
  · show ¬(1 ≤ r.val ∧ (r.val - 1) % 1 = 0 ∧ (r.val - 1) / 1 < 8192)
    rw [Nat.div_one]
    omega
  · pointwise []
    simp [FloatOps.sitofp]

/-- A value per channel, at a row. -/
theorem everywhere_apply (v : FVec Ideal S4096 .f32) (b : Fin 8) (s : Fin 8192) (f : Fin 4096) :
    everywhere v (ix3 b s f) = v (ix1 f) := by
  pointwise [everywhere]

/-- The convolution at a channel of a row. -/
theorem mixed_apply (p : FVec Ideal S8x8194x4096 .f32) (b : Fin 8) (s : Fin 8192) (f : Fin 4096) :
    mixed cw cb p (ix3 b s f) = conv (p (ix3 b ⟨s.val, by omega⟩ f)) (p (ix3 b ⟨1 + s.val, by omega⟩ f)) (p (ix3 b ⟨2 + s.val, by omega⟩ f))
      (cw (ix2 0 f)) (cw (ix2 1 f)) (cw (ix2 2 f)) (cb (ix1 f)) := by
  pointwise [mixed, everywhere_apply, conv]

/-- The activation at a channel of a row. -/
theorem activated_apply (x : FVec Ideal S8x8192x4096 .f32) (b : Fin 8) (s : Fin 8192) (f : Fin 4096) :
    activated x (ix3 b s f) = gelu (x (ix3 b s f)) := by
  pointwise [activated, gelu]
  rw [mul_comm (x (ix3 b s f) * x (ix3 b s f)) (x (ix3 b s f))]

/-- The down projection at an element of a row. -/
theorem projected_apply (y : FVec Ideal S8x8192x4096 .f32) (b : Fin 8) (s : Fin 8192) (e : Fin 1024) :
    projected wd y (ix3 b s e) = ∑ f : Fin 4096, y (ix3 b s f) * wd (ix2 f e) := by
  pointwise [projected]

/-- The normalisation at an element of a row. -/
theorem scaled_apply (y : FVec Ideal S8x8192x1024 .f32) (b : Fin 8) (s : Fin 8192) (e : Fin 1024) :
    scaled gp y (ix3 b s e) = norm (fun k => y (ix3 b s k)) e (gp (ix1 e)) := by
  pointwise [scaled]
  rfl

/-- The slice one row up of the padded channels: the row before. -/
theorem slice_before (b : Fin 8) (s : Fin 8192) (f : Fin 4096) :
    padded (channels hn wg) (ix3 b ⟨s.val, by omega⟩ f) = before hn wg (place b s) f := by
  unfold before
  have hv : (place b s).val = b.val * 8192 + s.val := rfl
  by_cases h : s.val = 0
  · rw [if_pos (show (place b s).val % 8192 = 0 by rw [hv]; omega)]
    exact padded_outside _ b _ f (Or.inl h)
  · rw [if_neg (show ¬(place b s).val % 8192 = 0 by rw [hv]; omega)]
    refine (padded_inside _ b _ ⟨s.val - 1, by omega⟩ f (show s.val = 1 + (s.val - 1) by omega)).trans ?_
    refine (channels_apply hn wg b _ f).trans (congrArg (fun r => channel hn wg r f) (Fin.ext ?_))
    show b.val * 8192 + (s.val - 1) = b.val * 8192 + s.val - 1
    omega

/-- The middle slice: the row itself. -/
theorem slice_middle (b : Fin 8) (s : Fin 8192) (f : Fin 4096) :
    padded (channels hn wg) (ix3 b ⟨1 + s.val, by omega⟩ f) = channel hn wg (place b s) f :=
  (padded_inside _ b _ s f rfl).trans (channels_apply hn wg b s f)

/-- The slice one row down: the row after. -/
theorem slice_after (b : Fin 8) (s : Fin 8192) (f : Fin 4096) :
    padded (channels hn wg) (ix3 b ⟨2 + s.val, by omega⟩ f) = after hn wg (place b s) f := by
  unfold after
  have hv : (place b s).val = b.val * 8192 + s.val := rfl
  by_cases h : s.val = 8191
  · rw [dif_pos (show (place b s).val % 8192 = 8191 by rw [hv]; omega)]
    exact padded_outside _ b _ f (Or.inr (show 2 + s.val = 8193 by omega))
  · rw [dif_neg (show ¬(place b s).val % 8192 = 8191 by rw [hv]; omega)]
    refine (padded_inside _ b _ ⟨s.val + 1, by omega⟩ f (show 2 + s.val = 1 + (s.val + 1) by omega)).trans ?_
    refine (channels_apply hn wg b _ f).trans (congrArg (fun r => channel hn wg r f) (Fin.ext ?_))
    show b.val * 8192 + (s.val + 1) = b.val * 8192 + s.val + 1
    omega

/-- The down projection of the gated channels, at an element of a row. -/
theorem down_apply (b : Fin 8) (s : Fin 8192) (e : Fin 1024) :
    projected wd (mulf (activated (mixed cw cb (padded (channels hn wg)))) (channels hn wu)) (ix3 b s e) = down hn wg wu cw cb wd (place b s) e := by
  rw [projected_apply]
  unfold down
  refine Finset.sum_congr rfl fun f _ => congrArg (· * _) ?_
  show activated (mixed cw cb (padded (channels hn wg))) (ix3 b s f) * channels hn wu (ix3 b s f) = _
  rw [activated_apply, mixed_apply, channels_apply, slice_before, slice_middle, slice_after]
  rfl

/-- **The reference is the feed-forward layer of its arguments.** -/
theorem result_eq : result hn x1 wg wu cw cb wd gp = ffn hn x1 wg wu cw cb wd gp := by
  funext j
  idx_vars j
  obtain ⟨b, s, rfl⟩ : ∃ (b : Fin 8) (s : Fin 8192), j0 = place b s :=
    ⟨⟨j0.val / 8192, by omega⟩, ⟨j0.val % 8192, by omega⟩, Fin.ext (by show j0.val = j0.val / 8192 * 8192 + j0.val % 8192; omega)⟩
  unfold result
  refine (list_apply (e := .f32) _ shapeCasts_S8x8192x1024_S65536x1024 b s j1 (place b s) rfl).trans ?_
  refine (congrArg₂ (· + ·) (group_apply (e := .f32) x1 shapeCasts_S65536x1024_S8x8192x1024 b s j1 (place b s) rfl) (scaled_apply gp _ b s j1)).trans ?_
  simp only [down_apply]
  rfl

end Cert.FfnReferenceIdeal.Point

end
-- ==== Proof.OutPre.lean ====
module

public import proofs.«01_k».proof.Proof.Pre

/-! What the precondition `finite_mix` says: every element of the three mixers' outputs is a real number. -/

@[expose] public section

set_option maxRecDepth 16384

noncomputable section

namespace Cert.Pre_finite_mix.Reading

open Idealize.ShloMosaic Idealize.ShloMosaic.TcCoe Cert.Attention

/-- The shapes of the precondition's broadcasts fit. -/
theorem facts : Cert.Pre_finite_mix.Facts := ⟨by decide, by decide⟩

/-- The pattern the precondition compares with is plus infinity. -/
theorem ofBits_inf : Ideal.ofBits .f32 0x7F800000#32 = ⊤ := by
  simp [Ideal.ofBits, Ideal.ieee]

variable [Cert.Pre_finite_mix.Facts]

/-- Where the precondition is all ones, every element of the three mixers' outputs is finite. -/
theorem mixers_finite (oa : Vec Ideal S65536x256 .f32) (ob : Vec Ideal S65536x512 .f32) (oc : Vec Ideal S65536x256 .f32)
    (x : Vec Ideal S65536x1024 .f32) (gh : Vec Ideal S1024 .f32) (w : Vec Ideal S1024x1024 .f32) (gp gf : Vec Ideal S1024 .f32)
    (ha : (Cert.Pre_finite_mix.fn (F := Ideal) oa ob oc x gh w gp gf).1 = fun _ => 1#1)
    (hb : (Cert.Pre_finite_mix.fn (F := Ideal) oa ob oc x gh w gp gf).2.1 = fun _ => 1#1)
    (hc : (Cert.Pre_finite_mix.fn (F := Ideal) oa ob oc x gh w gp gf).2.2 = fun _ => 1#1) :
    (∀ j, Finite (oa j)) ∧ (∀ j, Finite (ob j)) ∧ ∀ j, Finite (oc j) := by
  refine ⟨fun j => ?_, fun j => ?_, fun j => ?_⟩ <;> refine Cert.Pre_finite.Reading.finite_of_lt _ ?_ <;> rw [← ofBits_inf]
  · exact congrFun ha j
  · exact congrFun hb j
  · exact congrFun hc j

end Cert.Pre_finite_mix.Reading

end
-- ==== Proof.OutMath.lean ====
/-
  The output projection both programs compute, at an index: the three mixers' outputs side by side, each head of 64
  channels normalised on its own, the product with the projection's weights, the normalised result added to the skipped
  input, and that sum normalised once more.
-/
module

public import proofs.«01_k».proof.Proof.FfnPoint
public import proofs.«01_k».proof.Proof.Attention
public import proofs.«01_k».proof.OutKernelIdeal

@[expose] public section

set_option maxRecDepth 16384

noncomputable section

open Idealize.ShloMosaic
open scoped BigOperators

namespace Cert.Out

open Cert.OutKernelIdeal Cert.Attention

/-- The mean square of the head a channel lies in. -/
def headMean (f : Fin 1024 → EReal) (k : Fin 1024) : EReal :=
  Ideal.div (∑ d : Fin 64, f ⟨k.val / 64 * 64 + d.val, by omega⟩ * f ⟨k.val / 64 * 64 + d.val, by omega⟩) (Ideal.ofBits .f32 0x42800000#32)

/-- A channel normalised within its head. -/
def headNorm (f : Fin 1024 → EReal) (k : Fin 1024) : EReal :=
  f k * Ideal.rsqrt (headMean f k + Ideal.ofBits .f32 0x358637BD#32)

variable (oa : Vec Ideal S65536x256 .f32) (ob : Vec Ideal S65536x512 .f32) (oc : Vec Ideal S65536x256 .f32)
  (x : Vec Ideal S65536x1024 .f32) (gh : Vec Ideal S1024 .f32) (w : Vec Ideal S1024x1024 .f32) (gp gf : Vec Ideal S1024 .f32)

/-- A row of the three mixers' outputs side by side. -/
def side (n : Fin 65536) (k : Fin 1024) : EReal :=
  if h : k.val < 256 then oa (ix2 n ⟨k.val, h⟩)
  else if h' : k.val < 768 then ob (ix2 n ⟨k.val - 256, by omega⟩)
  else oc (ix2 n ⟨k.val - 768, by omega⟩)

/-- The projection of a row of normalised heads. -/
def project (n : Fin 65536) (e : Fin 1024) : EReal :=
  ∑ k : Fin 1024, headNorm (side oa ob oc n) k * gh (ix1 k) * w (ix2 k e)

/-- The normalised projection added to the skipped input. -/
def residual : Vec Ideal S65536x1024 .f32 := fun j =>
  x j + Cert.Ffn.norm (project oa ob oc gh w (j 0)) (j 1) (gp (ix1 (j 1)))

/-- The normalised sum: what the feed-forward layer reads. -/
def normed : Vec Ideal S65536x1024 .bf16 := fun j =>
  Cert.Ffn.norm (fun e => residual oa ob oc x gh w gp (ix2 (j 0) e)) (j 1) (gf (ix1 (j 1)))

/-! ## The head mean as the product with a mask -/

/-- The mask of two heads of 64 lanes: one sixty-fourth where both lanes lie in one head, zero elsewhere. -/
def mask (k l : Fin 128) : EReal := if k.val / 64 = l.val / 64 then ((1 / 64 : ℝ) : EReal) else 0

/-- The word of the reference's divisor is the number 64. -/
theorem ofBits_sixty_four : Ideal.ofBits .f32 0x42800000#32 = ((64 : ℝ) : EReal) := by
  simp [Ideal.ofBits, Ideal.ieee]
  rw [← EReal.coe_mul]; norm_num

/-- The word of zero is zero. -/
theorem ofBits_zero : Ideal.ofBits .bf16 0#16 = 0 := by
  simp [Ideal.ofBits, Ideal.ieee]

/-- The word of the table's other entry is the number 1/64. -/
theorem ofBits_mask : Ideal.ofBits .bf16 0x3C80#16 = ((1 / 64 : ℝ) : EReal) := by
  simp [Ideal.ofBits, Ideal.ieee]
  rw [← EReal.coe_mul]; norm_num

/-- The mask product of squares over two heads is the mean square of the lane's head. -/
theorem mask_sum (r : Fin 128 → ℝ) (l : Fin 128) :
    ∑ k : Fin 128, ((r k : ℝ) : EReal) * (r k : EReal) * mask k l
      = Ideal.div (∑ d : Fin 64, ((r ⟨l.val / 64 * 64 + d.val, by omega⟩ : ℝ) : EReal) * (r ⟨l.val / 64 * 64 + d.val, by omega⟩ : EReal))
          (Ideal.ofBits .f32 0x42800000#32) := by
  rw [ofBits_sixty_four, Ideal.div_coe (by norm_num), mul_comm, Cert.Softmax.coe_mul_sum _ _ (by norm_num),
    ← (finProdFinEquiv (m := 2) (n := 64)).sum_comp, Fintype.sum_prod_type,
    Finset.sum_eq_single (⟨l.val / 64, by omega⟩ : Fin 2)]
  · refine Finset.sum_congr rfl fun d _ => ?_
    have e : finProdFinEquiv (m := 2) (n := 64) (⟨l.val / 64, by omega⟩, d) = (⟨l.val / 64 * 64 + d.val, by omega⟩ : Fin 128) :=
      Fin.ext (by simp [finProdFinEquiv]; omega)
    rw [e, mask, if_pos (by show (l.val / 64 * 64 + d.val) / 64 = l.val / 64; omega), mul_comm]
  · intro h _ hne
    refine Finset.sum_eq_zero fun d _ => ?_
    have e : (finProdFinEquiv (m := 2) (n := 64) (h, d)).val / 64 = h.val := by simp [finProdFinEquiv]; omega
    rw [mask, if_neg (by rw [e]; exact fun h' => hne (Fin.ext h')), mul_zero]
  · exact fun h => absurd (Finset.mem_univ _) h

/-- A real number less itself is zero, so the second product adds nothing; the two products give the head mean. -/
theorem lanes_mean (f : Fin 1024 → EReal) (hf : ∀ k, Finite (f k)) (c : Fin 8) (l : Fin 128) :
    (∑ k : Fin 128, f ⟨c.val * 128 + k.val, by omega⟩ * f ⟨c.val * 128 + k.val, by omega⟩ * mask k l)
      + (∑ k : Fin 128, (f ⟨c.val * 128 + k.val, by omega⟩ * f ⟨c.val * 128 + k.val, by omega⟩
          - f ⟨c.val * 128 + k.val, by omega⟩ * f ⟨c.val * 128 + k.val, by omega⟩) * mask k l)
      = headMean f ⟨c.val * 128 + l.val, by omega⟩ := by
  have hr : ∃ r : Fin 1024 → ℝ, ∀ k, f k = (r k : EReal) :=
    ⟨fun k => (f k).toReal, fun k => (EReal.coe_toReal (hf k).1 (hf k).2).symm⟩
  obtain ⟨r, hr⟩ := hr
  simp only [hr, headMean]
  rw [mask_sum (fun k => r ⟨c.val * 128 + k.val, by omega⟩) l]
  have z : ∀ a : ℝ, ((a : ℝ) : EReal) * (a : EReal) - (a : EReal) * (a : EReal) = 0 := fun a => by
    rw [← EReal.coe_mul, ← EReal.coe_sub, sub_self, EReal.coe_zero]
  simp only [z, zero_mul, Finset.sum_const_zero, add_zero]
  have e : ∀ d : Fin 64, (⟨c.val * 128 + (l.val / 64 * 64 + d.val), by omega⟩ : Fin 1024)
      = ⟨(c.val * 128 + l.val) / 64 * 64 + d.val, by omega⟩ := fun d => Fin.ext (by show _ = _; simp only []; omega)
  simp only [e]

/-- A sum over 1024 channels is the sum over eight chunks of 128. -/
theorem sum_chunks (F : Fin 1024 → EReal) :
    ∑ k : Fin 1024, F k = ∑ c : Fin 8, ∑ l : Fin 128, F ⟨c.val * 128 + l.val, by omega⟩ := by
  rw [← (finProdFinEquiv (m := 8) (n := 128)).sum_comp, Fintype.sum_prod_type]
  refine Finset.sum_congr rfl fun c _ => Finset.sum_congr rfl fun l _ => congrArg F (Fin.ext ?_)
  simp [finProdFinEquiv]; omega

end Cert.Out

end
-- ==== Proof.OutPoint.lean ====
/-
  What one point of the output projection's grid computes from the rows it has staged: the share of each chunk of 128
  channels in the projection, their sum normalised and added to the skipped input, and that sum normalised once more.
-/
module

public import proofs.«01_k».proof.Proof.OutMath
public import proofs.«01_k».proof.Proof.Gen.OutKernelIdeal.Frame
public import Idealize.ShloMosaic.Lib.Pipeline.ValueKit.Tiles
public import Idealize.ShloMosaic.Lib.Pointwise

@[expose] public section

set_option maxRecDepth 16384

noncomputable section

open Idealize.ShloMosaic
open scoped BigOperators

namespace Cert.OutKernelIdeal.Point

open Cert.OutKernelIdeal Cert.OutKernelIdeal.Gen Cert.Out Cert.Attention

/-- The share of a chunk of 128 channels, at a row and a column. -/
theorem share_apply (o : Vec Ideal S512x128 .f32) (M : Vec Ideal S128x128 .bf16) (g : Vec Ideal S1x128 .f32)
    (w : Vec Ideal S128x1024 .bf16) (i : Fin 512) (e : Fin 1024) :
    k0_pay3 (F := Ideal) o M g w (ix2 i e)
      = ∑ l : Fin 128, o (ix2 i l) * Ideal.rsqrt ((∑ k : Fin 128, o (ix2 i k) * o (ix2 i k) * M (ix2 k l))
          + (∑ k : Fin 128, (o (ix2 i k) * o (ix2 i k) - o (ix2 i k) * o (ix2 i k)) * M (ix2 k l))
          + Ideal.ofBits .f32 0x358637BD#32) * g (ix2 0 l) * w (ix2 l e) := by
  pointwise [k0_pay3]

/-- The share of a chunk, when the staged row holds channels of a row of real numbers. -/
theorem share_eq (f : Fin 1024 → EReal) (hf : ∀ k, Finite (f k)) (gh W : Fin 1024 → EReal) (c : Fin 8)
    (o : Vec Ideal S512x128 .f32) (M : Vec Ideal S128x128 .bf16) (g : Vec Ideal S1x128 .f32) (w : Vec Ideal S128x1024 .bf16)
    (i : Fin 512) (e : Fin 1024) (ho : ∀ l : Fin 128, o (ix2 i l) = f ⟨c.val * 128 + l.val, by omega⟩)
    (hM : ∀ k l : Fin 128, M (ix2 k l) = mask k l) (hg : ∀ l : Fin 128, g (ix2 0 l) = gh ⟨c.val * 128 + l.val, by omega⟩)
    (hw : ∀ l : Fin 128, w (ix2 l e) = W ⟨c.val * 128 + l.val, by omega⟩) :
    k0_pay3 (F := Ideal) o M g w (ix2 i e)
      = ∑ l : Fin 128, headNorm f ⟨c.val * 128 + l.val, by omega⟩ * gh ⟨c.val * 128 + l.val, by omega⟩ * W ⟨c.val * 128 + l.val, by omega⟩ := by
  rw [share_apply]
  simp only [ho, hM, hg, hw, lanes_mean f hf c]
  rfl

/-- Rows of 1024 values scaled to mean square one, before any gain. -/
def unitRows (v : FVec Ideal S512x1024 .f32) : FVec Ideal S512x1024 .f32 :=
  mulf v (broadcastTo S512x1024 (rsqrt (addf (divf (shapeCast S512x1 (multiReduction .add [1] S512 (mulf v v) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024)

/-- An entry of the rows with unit mean square. -/
theorem unitRows_apply (v : FVec Ideal S512x1024 .f32) (i : Fin 512) (e : Fin 1024) :
    unitRows v (ix2 i e) = v (ix2 i e) * Ideal.rsqrt (Ideal.div (∑ k : Fin 1024, v (ix2 i k) * v (ix2 i k))
      (Ideal.ofBits .f32 0x44800000#32) + Ideal.ofBits .f32 0x358637BD#32) := by
  pointwise [unitRows]

/-- The skipped input and the scaled rows times their gain. -/
theorem residual_apply (x : Vec Ideal S512x1024 .f32) (g : Vec Ideal S1x1024 .f32) (v : FVec Ideal S512x1024 .f32) (i : Fin 512) (e : Fin 1024) :
    k0_pay1 (F := Ideal) x (k0_pay16 g) v (ix2 i e) = x (ix2 i e) + v (ix2 i e) * g (ix2 0 e) := by
  pointwise [k0_pay1, k0_pay16]

/-- The second normalisation of a row. -/
theorem normed_apply (x : Vec Ideal S512x1024 .f32) (g : FVec Ideal S1x1024 .f32) (v : FVec Ideal S512x1024 .f32) (g' : Vec Ideal S1x1024 .f32)
    (i : Fin 512) (e : Fin 1024) :
    k0_pay2 (F := Ideal) x g v g' (ix2 i e)
      = Cert.Ffn.norm (fun k => k0_pay1 (F := Ideal) x g v (ix2 i k)) e (g' (ix2 0 e)) := by
  pointwise [k0_pay2, Cert.Ffn.norm]

/-- Two zeros are zero everywhere. -/
theorem zeros : (![0, 0] : Fin 2 → ℕ) = fun _ => 0 := by
  funext a; fin_cases a <;> rfl

section Rows

variable (x0 : Vec Ideal S512x256 .f32) (x1 : Vec Ideal S512x512 .f32) (x2 : Vec Ideal S512x256 .f32) (x3 : Vec Ideal S512x1024 .f32)
  (x4 : Vec Ideal S1x1024 .f32) (x5 : Vec Ideal S1024x1024 .bf16) (x6 x7 : Vec Ideal S1x1024 .f32) (x8 : Vec Ideal S128x128 .bf16)

/-- The share of the chunk of channels from `o` on, read through its rectangles of the staged blocks: `a` is where the
    chunk starts in the mixer's own block, `b` where that block starts among the 1024 channels. -/
theorem chunk_share (f : Fin 1024 → EReal) (hf : ∀ k, Finite (f k)) (gh W : Fin 1024 → EReal) (i : Fin 512) (e : Fin 1024)
    (h4 : ∀ k : Fin 1024, x4 (ix2 0 k) = gh k) (h5 : ∀ k : Fin 1024, x5 (ix2 k e) = W k) (h8 : ∀ k l : Fin 128, x8 (ix2 k l) = mask k l)
    (c : Fin 8) {n : ℕ} (X : Vec Ideal (⟨2, ![512, n]⟩ : Shape) .f32) (a b o : ℕ) (hab : b + a = c.val * 128) (ho : o = c.val * 128)
    (hX : ∀ (k : Fin n) (hk : b + k.val < 1024), X (ix2 i k) = f ⟨b + k.val, hk⟩) (han : a + 128 ≤ n)
    (inb inb8 inb4 inb5) :
    k0_pay3 (F := Ideal) (View.ld X (Rect.unit (s := (⟨2, ![512, n]⟩ : Shape)) ![0, a] S512x128.size inb))
        (View.ld x8 (Rect.unit (s := S128x128) ![0, 0] S128x128.size inb8))
        (View.ld x4 (Rect.unit (s := S1x1024) ![0, o] S1x128.size inb4))
        (View.ld x5 (Rect.unit (s := S1024x1024) ![o, 0] S128x1024.size inb5)) (ix2 i e)
      = ∑ l : Fin 128, headNorm f ⟨c.val * 128 + l.val, by omega⟩ * gh ⟨c.val * 128 + l.val, by omega⟩ * W ⟨c.val * 128 + l.val, by omega⟩ := by
  subst ho
  refine share_eq f hf gh W c _ _ _ _ i e (fun l => ?_) (fun k l => ?_) (fun l => ?_) (fun l => ?_)
  · refine (View.ld_unit_apply_of (Val := Elt Ideal) X _ _ inb _ (ix2 i ⟨a + l.val, by omega⟩) (fun d => by fin_cases d <;> simp [ix2])).trans ?_
    rw [hX _ (by show b + (a + l.val) < 1024; omega)]
    exact congrArg f (Fin.ext (by show b + (a + l.val) = c.val * 128 + l.val; omega))
  · rw [View.ld_unit_apply_of (Val := Elt Ideal) x8 _ _ inb8 _ (ix2 k l) (fun d => by fin_cases d <;> simp [ix2]), h8]
  · rw [View.ld_unit_apply_of (Val := Elt Ideal) x4 _ _ inb4 _ (ix2 0 ⟨c.val * 128 + l.val, by omega⟩) (fun d => by fin_cases d <;> simp [ix2]), h4]
  · rw [View.ld_unit_apply_of (Val := Elt Ideal) x5 _ _ inb5 _ (ix2 ⟨c.val * 128 + l.val, by omega⟩ e) (fun d => by fin_cases d <;> simp [ix2]), h5]

/-- The shares of the eight chunks, added from the first on. -/
def shares : FVec Ideal S512x1024 .f32 :=
  addf (addf (addf (addf (addf (addf (addf (k0_pay3 (View.ld x0 r0_0) (View.ld x8 r0_1) (View.ld x4 r0_2) (View.ld x5 r0_3))
    (k0_pay3 (View.ld x0 r0_4) (View.ld x8 r0_1) (View.ld x4 r0_5) (View.ld x5 r0_6)))
    (k0_pay3 (View.ld x1 r0_7) (View.ld x8 r0_1) (View.ld x4 r0_8) (View.ld x5 r0_9)))
    (k0_pay3 (View.ld x1 r0_10) (View.ld x8 r0_1) (View.ld x4 r0_11) (View.ld x5 r0_12)))
    (k0_pay3 (View.ld x1 r0_13) (View.ld x8 r0_1) (View.ld x4 r0_14) (View.ld x5 r0_15)))
    (k0_pay3 (View.ld x1 r0_16) (View.ld x8 r0_1) (View.ld x4 r0_17) (View.ld x5 r0_18)))
    (k0_pay3 (View.ld x2 r0_0) (View.ld x8 r0_1) (View.ld x4 r0_19) (View.ld x5 r0_20)))
    (k0_pay3 (View.ld x2 r0_4) (View.ld x8 r0_1) (View.ld x4 r0_21) (View.ld x5 r0_22))

/-- What is scaled is the sum of the eight shares. -/
theorem scaled_eq : k0_pay19 (F := Ideal) x0 x1 x2 x3 x4 x5 x6 x7 x8 = unitRows (shares x0 x1 x2 x4 x5 x8) := rfl

variable (f : Fin 1024 → EReal) (hf : ∀ k, Finite (f k)) (gh W : Fin 1024 → EReal) (i : Fin 512) (e : Fin 1024)
  (h0 : ∀ (k : Fin 256) (hk : 0 + k.val < 1024), x0 (ix2 i k) = f ⟨0 + k.val, hk⟩) (h1 : ∀ (k : Fin 512) (hk : 256 + k.val < 1024), x1 (ix2 i k) = f ⟨256 + k.val, hk⟩)
  (h2 : ∀ (k : Fin 256) (hk : 768 + k.val < 1024), x2 (ix2 i k) = f ⟨768 + k.val, hk⟩) (h4 : ∀ k : Fin 1024, x4 (ix2 0 k) = gh k)
  (h5 : ∀ k : Fin 1024, x5 (ix2 k e) = W k) (h8 : ∀ k l : Fin 128, x8 (ix2 k l) = mask k l)

include hf h0 h1 h2 h4 h5 h8 in
/-- The eight shares add up to the projection of the row. -/
theorem shares_apply : shares x0 x1 x2 x4 x5 x8 (ix2 i e) = ∑ k : Fin 1024, headNorm f k * gh k * W k := by
  rw [sum_chunks, Fin.sum_univ_eight]
  have part := fun (c : Fin 8) {n : ℕ} => chunk_share x4 x5 x8 f hf gh W i e h4 h5 h8 c (n := n)
  exact congrArg₂ (· + ·) (congrArg₂ (· + ·) (congrArg₂ (· + ·) (congrArg₂ (· + ·) (congrArg₂ (· + ·) (congrArg₂ (· + ·) (congrArg₂ (· + ·) ((part 0 x0 0 0 0 rfl rfl h0 (by decide) _ _ _ _))
    (part 1 x0 128 0 128 rfl rfl h0 (by decide) _ _ _ _))
    (part 2 x1 0 256 256 rfl rfl h1 (by decide) _ _ _ _))
    (part 3 x1 128 256 384 rfl rfl h1 (by decide) _ _ _ _))
    (part 4 x1 256 256 512 rfl rfl h1 (by decide) _ _ _ _))
    (part 5 x1 384 256 640 rfl rfl h1 (by decide) _ _ _ _))
    (part 6 x2 0 768 768 rfl rfl h2 (by decide) _ _ _ _))
    (part 7 x2 128 768 896 rfl rfl h2 (by decide) _ _ _ _)

/-- The first result's block: the skipped input and the normalised projection. -/
theorem first_block (P : Fin 1024 → EReal) (hP : ∀ k : Fin 1024, shares x0 x1 x2 x4 x5 x8 (ix2 i k) = P k) (e : Fin 1024) :
    out0_9 (F := Ideal) x0 x1 x2 x3 x4 x5 x6 x7 x8 (ix2 i e) = x3 (ix2 i e) + Cert.Ffn.norm P e (x6 (ix2 0 e)) := by
  unfold out0_9
  rw [View.canon_unit_zero (Val := Elt Ideal) zeros inb_S512x1024_S512x1024_0_0, scaled_eq]
  refine (residual_apply _ _ _ i e).trans ?_
  rw [View.ld_unit_zero (Val := Elt Ideal) zeros inb_S512x1024_S512x1024_0_0, View.ld_unit_zero (Val := Elt Ideal) zeros inb_S1x1024_S1x1024_0_0,
    unitRows_apply]
  simp only [hP]
  rfl

/-- The second result's block: the first one's rows, normalised. -/
theorem second_block (Q : Fin 1024 → EReal) (hQ : ∀ k : Fin 1024, out0_9 (F := Ideal) x0 x1 x2 x3 x4 x5 x6 x7 x8 (ix2 i k) = Q k) (e : Fin 1024) :
    out0_10 (F := Ideal) x0 x1 x2 x3 x4 x5 x6 x7 x8 (ix2 i e) = Cert.Ffn.norm Q e (x7 (ix2 0 e)) := by
  have hQ' : ∀ k : Fin 1024, k0_pay1 (F := Ideal) (View.ld x3 r0_23) (k0_pay18 x0 x1 x2 x3 x4 x5 x6 x7 x8) (k0_pay19 x0 x1 x2 x3 x4 x5 x6 x7 x8) (ix2 i k) = Q k := fun k => by
    rw [← hQ k]
    unfold out0_9
    rw [View.canon_unit_zero (Val := Elt Ideal) zeros inb_S512x1024_S512x1024_0_0]
  unfold out0_10
  rw [View.canon_unit_zero (Val := Elt Ideal) zeros inb_S512x1024_S512x1024_0_0]
  refine (normed_apply _ _ _ _ i e).trans ?_
  rw [View.ld_unit_zero (Val := Elt Ideal) (X := x7) zeros inb_S1x1024_S1x1024_0_0]
  simp only [hQ']

end Rows

end Cert.OutKernelIdeal.Point

end
-- ==== Proof.OutTable.lean ====
/-
  The table of the mask that sums the lanes of a head: its word at two lanes of 128.
-/
module

public import proofs.«01_k».proof.OutKernelIdeal

@[expose] public section

set_option maxRecDepth 16384

namespace Cert.Out

open Cert.OutKernelIdeal

/-- The words of a row of the first head. -/
theorem upper_word (i r : ℕ) (h : i % 128 = r) (hr : r < 128) : lit0t0_0 i = if r < 64 then 0x3C80#16 else 0#16 := by
  unfold lit0t0_0
  rw [h]
  clear h
  revert r
  decide

/-- The words of a row of the second head. -/
theorem lower_word (i r : ℕ) (h : i % 128 = r) (hr : r < 128) : lit0t0_64 i = if r < 64 then 0#16 else 0x3C80#16 := by
  unfold lit0t0_64
  rw [h]
  clear h
  revert r
  decide

/-- The rows of a head are all alike. -/
theorem row_words (i q : ℕ) (h : i / 128 = q) (hq : q < 128) : lit0t i = if q < 64 then lit0t0_0 i else lit0t0_64 i := by
  unfold lit0t
  rw [h]
  obtain ⟨a, rfl⟩ : ∃ a : Fin 128, a.val = q := ⟨⟨q, hq⟩, rfl⟩
  fin_cases a <;> rfl

/-- The table of the mask, word by word. -/
theorem table_eq (k l : Fin 128) (i : ℕ) (hi : i = k.val * 128 + l.val) :
    lit0t i = if k.val / 64 = l.val / 64 then 0x3C80#16 else 0#16 := by
  rw [row_words i k.val (by omega) k.isLt]
  by_cases hk : k.val < 64
  · rw [if_pos hk, upper_word i l.val (by omega) l.isLt]
    by_cases hl : l.val < 64
    · rw [if_pos hl, if_pos (by omega)]
    · rw [if_neg hl, if_neg (by omega)]
  · rw [if_neg hk, lower_word i l.val (by omega) l.isLt]
    by_cases hl : l.val < 64
    · rw [if_pos hl, if_neg (by omega)]
    · rw [if_neg hl, if_pos (by omega)]

end Cert.Out

end
-- ==== Proof.OutArray.lean ====
/-
  The kernel's two result arrays of the output projection: the blocks of the grid's points cover them, and every block
  is the projection's.
-/
module

public import proofs.«01_k».proof.Proof.OutPoint
public import proofs.«01_k».proof.Proof.OutTable
public import Idealize.ShloMosaic.Lib.Pipeline.ValueKit
public import Idealize.ShloMosaic.Lib.Pipeline.Covers

@[expose] public section

set_option maxRecDepth 16384

noncomputable section

open Idealize.ShloMosaic Idealize.ShloMosaic.TcCoe
open scoped BigOperators

namespace Cert.OutKernelIdeal.Point

open Cert.OutKernelIdeal Cert.OutKernelIdeal.Gen Cert.Out Cert.Attention

variable (m : (ℓ : Loc nD τ sig) → Buf (Elt Ideal) ℓ) (c : Dev nD)

/-- At point `t` window 0 is its block of rows number `t`. -/
theorem index0 : ∀ t : Fin cfg0.N, win0_0.index t = ![t.val, 0] := by decide +kernel
/-- At point `t` window 1 is its block of rows number `t`. -/
theorem index1 : ∀ t : Fin cfg0.N, win0_1.index t = ![t.val, 0] := by decide +kernel
/-- At point `t` window 2 is its block of rows number `t`. -/
theorem index2 : ∀ t : Fin cfg0.N, win0_2.index t = ![t.val, 0] := by decide +kernel
/-- At point `t` window 3 is its block of rows number `t`. -/
theorem index3 : ∀ t : Fin cfg0.N, win0_3.index t = ![t.val, 0] := by decide +kernel
/-- At every point window 4 is its whole array. -/
theorem index4 : ∀ t : Fin cfg0.N, win0_4.index t = ![0, 0] := by decide +kernel
/-- At every point window 5 is its whole array. -/
theorem index5 : ∀ t : Fin cfg0.N, win0_5.index t = ![0, 0] := by decide +kernel
/-- At every point window 6 is its whole array. -/
theorem index6 : ∀ t : Fin cfg0.N, win0_6.index t = ![0, 0] := by decide +kernel
/-- At every point window 7 is its whole array. -/
theorem index7 : ∀ t : Fin cfg0.N, win0_7.index t = ![0, 0] := by decide +kernel
/-- At every point window 8 is its whole array. -/
theorem index8 : ∀ t : Fin cfg0.N, win0_8.index t = ![0, 0] := by decide +kernel
/-- At point `t` window 9 is its block of rows number `t`. -/
theorem index9 : ∀ t : Fin cfg0.N, win0_9.index t = ![t.val, 0] := by decide +kernel
/-- At point `t` window 10 is its block of rows number `t`. -/
theorem index10 : ∀ t : Fin cfg0.N, win0_10.index t = ![t.val, 0] := by decide +kernel

/-- The row `i` of a point's block. -/
def row (t : Fin cfg0.N) (i : Fin 512) : Fin 65536 := ⟨512 * t.val + i.val, by have : t.val < 128 := t.isLt; omega⟩

/-- A block of the first mixer's rows. -/
theorem first_apply (t : Fin cfg0.N) (i : Fin 512) (k : Fin 256) :
    iblk m c 0 t (ix2 i k) = m ((c : Thread nD τ).loc main_arg0) (ix2 (row t i) k) := by
  blk_simp [iblk]
  rw [V_main_arg0]
  refine congrArg _ ?_
  blk_ext [index0, row]

/-- A block of the second mixer's rows. -/
theorem second_apply (t : Fin cfg0.N) (i : Fin 512) (k : Fin 512) :
    iblk m c 1 t (ix2 i k) = m ((c : Thread nD τ).loc main_arg1) (ix2 (row t i) k) := by
  blk_simp [iblk]
  rw [V_main_arg1]
  refine congrArg _ ?_
  blk_ext [index1, row]

/-- A block of the third mixer's rows. -/
theorem third_apply (t : Fin cfg0.N) (i : Fin 512) (k : Fin 256) :
    iblk m c 2 t (ix2 i k) = m ((c : Thread nD τ).loc main_arg2) (ix2 (row t i) k) := by
  blk_simp [iblk]
  rw [V_main_arg2]
  refine congrArg _ ?_
  blk_ext [index2, row]

/-- A block of the skipped input. -/
theorem skipped_apply (t : Fin cfg0.N) (i : Fin 512) (k : Fin 1024) :
    iblk m c 3 t (ix2 i k) = m ((c : Thread nD τ).loc main_arg3) (ix2 (row t i) k) := by
  blk_simp [iblk]
  rw [V_main_arg3]
  refine congrArg _ ?_
  blk_ext [index3, row]

/-- A gain written as one row. -/
theorem gain_row (g : FVec Ideal S1024 .f32) (k : Fin 1024) : broadcastInDim S1x1024 ![1] bcast_S1024_S1x1024_1 g (ix2 0 k) = g (ix1 k) := by
  pointwise []

/-- The heads' gain. -/
theorem headGain_apply (t : Fin cfg0.N) (k : Fin 1024) : iblk m c 4 t (ix2 0 k) = m ((c : Thread nD τ).loc main_arg4) (ix1 k) := by
  have e : V m c main_v0 = broadcastInDim S1x1024 ![1] bcast_S1024_S1x1024_1 (m ((c : Thread nD τ).loc main_arg4)) := by
    after_results <;> rfl
  blk_simp [iblk]
  rw [e]
  refine (congrArg _ ?_).trans (gain_row _ k)
  blk_ext [index4]

/-- The projection's gain. -/
theorem postGain_apply (t : Fin cfg0.N) (k : Fin 1024) : iblk m c 6 t (ix2 0 k) = m ((c : Thread nD τ).loc main_arg6) (ix1 k) := by
  have e : V m c main_v2 = broadcastInDim S1x1024 ![1] bcast_S1024_S1x1024_1 (m ((c : Thread nD τ).loc main_arg6)) := by
    after_results <;> rfl
  blk_simp [iblk]
  rw [e]
  refine (congrArg _ ?_).trans (gain_row _ k)
  blk_ext [index6]

/-- The last normalisation's gain. -/
theorem nextGain_apply (t : Fin cfg0.N) (k : Fin 1024) : iblk m c 7 t (ix2 0 k) = m ((c : Thread nD τ).loc main_arg7) (ix1 k) := by
  have e : V m c main_v3 = broadcastInDim S1x1024 ![1] bcast_S1024_S1x1024_1 (m ((c : Thread nD τ).loc main_arg7)) := by
    after_results <;> rfl
  blk_simp [iblk]
  rw [e]
  refine (congrArg _ ?_).trans (gain_row _ k)
  blk_ext [index7]

/-- The projection's weights. -/
theorem weights_apply (t : Fin cfg0.N) (k e : Fin 1024) : iblk m c 5 t (ix2 k e) = m ((c : Thread nD τ).loc main_arg5) (ix2 k e) := by
  have h : V m c main_v1 = (truncf .bf16 (m ((c : Thread nD τ).loc main_arg5)) bitsLt_bf16_f32 : FVec Ideal S1024x1024 .bf16) := by
    rfl
  blk_simp [iblk]
  rw [h]
  refine congrArg (m ((c : Thread nD τ).loc main_arg5)) ?_
  blk_ext [index5]

/-- The mask. -/
theorem mask_apply (t : Fin cfg0.N) (k l : Fin 128) : iblk m c 8 t (ix2 k l) = mask k l := by
  have h : V m c main_cst = fun i => FloatOps.ofBits (F := Ideal) .bf16 (lit0 (S128x128.rowMajor i)) := by
    rfl
  have w : ∀ j : S128x128.Idx, j = ix2 k l → FloatOps.ofBits (F := Ideal) .bf16 (lit0 (S128x128.rowMajor j)) = mask k l := fun j hj => by
    subst hj
    have e : lit0 (S128x128.rowMajor (ix2 k l)) = if k.val / 64 = l.val / 64 then 0x3C80#16 else 0#16 :=
      table_eq k l _ (Shape.rowMajor_val_two _)
    rw [e]
    unfold mask
    by_cases hkl : k.val / 64 = l.val / 64
    · rw [if_pos hkl, if_pos hkl]
      exact ofBits_mask
    · rw [if_neg hkl, if_neg hkl]
      exact ofBits_zero
  blk_simp [iblk]
  rw [h]
  refine w _ ?_
  blk_ext [index8]

/-- The row of the three mixers' outputs that a row of a point's blocks holds. -/
abbrev held (t : Fin cfg0.N) (i : Fin 512) : Fin 1024 → EReal :=
  side (m ((c : Thread nD τ).loc main_arg0)) (m ((c : Thread nD τ).loc main_arg1)) (m ((c : Thread nD τ).loc main_arg2)) (row t i)

/-- The first result, of the arrays the program was started with. -/
abbrev first : Vec Ideal S65536x1024 .f32 :=
  residual (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The second result, of the arrays the program was started with. -/
abbrev second : Vec Ideal S65536x1024 .bf16 :=
  normed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))

/-- Every index of the first result lies in some point's block. -/
theorem covers9 : (cfg0.win 9).Covers := by decide +kernel

/-- Every index of the second result lies in some point's block. -/
theorem covers10 : (cfg0.win 10).Covers := by decide +kernel

section Finals

variable (ha : ∀ j, Finite (m ((c : Thread nD τ).loc main_arg0) j)) (hb : ∀ j, Finite (m ((c : Thread nD τ).loc main_arg1) j))
  (hc : ∀ j, Finite (m ((c : Thread nD τ).loc main_arg2) j))

include ha hb hc

/-- A row of real numbers stays one side by side. -/
theorem held_finite (t : Fin cfg0.N) (i : Fin 512) (k : Fin 1024) : Finite (held m c t i k) := by
  unfold held side
  split
  · exact ha _
  · split
    · exact hb _
    · exact hc _

/-- The first result's block at a point. -/
theorem first_at (t : Fin cfg0.N) (i : Fin 512) (e : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix2 i e)
      = first m c (ix2 (row t i) e) := by
  refine (first_block _ _ _ _ _ _ _ _ _ i _ (fun k => shares_apply _ _ _ _ _ _ (held m c t i) (held_finite m c ha hb hc t i)
    (fun k => m ((c : Thread nD τ).loc main_arg4) (ix1 k)) (fun d => m ((c : Thread nD τ).loc main_arg5) (ix2 d k)) i k
    (fun d hd => ?_) (fun d hd => ?_) (fun d hd => ?_) (fun d => ?_) (fun d => ?_) (fun d l => ?_)) e).trans ?_
  · rw [first_apply]
    refine Eq.trans ?_ (dif_pos (show 0 + d.val < 256 by omega)).symm
    exact congrArg (fun r => m ((c : Thread nD τ).loc main_arg0) (ix2 (row t i) r)) (Fin.ext (by show d.val = 0 + d.val; omega))
  · rw [second_apply]
    refine Eq.trans ?_ ((dif_neg (show ¬ 256 + d.val < 256 by omega)).trans (dif_pos (show 256 + d.val < 768 by omega))).symm
    exact congrArg (fun r => m ((c : Thread nD τ).loc main_arg1) (ix2 (row t i) r)) (Fin.ext (by show d.val = 256 + d.val - 256; omega))
  · rw [third_apply]
    refine Eq.trans ?_ ((dif_neg (show ¬ 768 + d.val < 256 by omega)).trans (dif_neg (show ¬ 768 + d.val < 768 by omega))).symm
    exact congrArg (fun r => m ((c : Thread nD τ).loc main_arg2) (ix2 (row t i) r)) (Fin.ext (by show d.val = 768 + d.val - 768; omega))
  · exact headGain_apply m c t d
  · exact weights_apply m c t d k
  · exact mask_apply m c t d l
  · rw [skipped_apply, postGain_apply]
    rfl

/-- **The first result array is the normalised projection added to the skipped input**, when the mixers' outputs are finite. -/
theorem final9 : (dats m 0 c).arrAt 9 cfg0.N = first m c := by
  refine (dats m 0 c).arrAt_eq_of_covers 9 _ covers9 fun t hf y => ?_
  blk_simp
  rw [after0_9]
  idx_vars y
  have e : ((View.whole main_v4_0).slice (win0_9.rect t)).emb (ix2 y0 y1) = ix2 (row t y0) y1 := by
    blk_ext [index9, row]
  rw [e]
  exact first_at m c ha hb hc t y0 y1

/-- **The second result array is the first one normalised**, when the mixers' outputs are finite. -/
theorem final10 : (dats m 0 c).arrAt 10 cfg0.N = second m c := by
  refine (dats m 0 c).arrAt_eq_of_covers 10 _ covers10 fun t hf y => ?_
  blk_simp
  rw [after0_10]
  idx_vars y
  have e : ((View.whole main_v4_1).slice (win0_10.rect t)).emb (ix2 y0 y1) = ix2 (row t y0) y1 := by
    blk_ext [index10, row]
  rw [e]
  refine (second_block _ _ _ _ _ _ _ _ _ y0 _ (fun k => first_at m c ha hb hc t y0 k) y1).trans ?_
  rw [nextGain_apply]
  rfl

end Finals

end Cert.OutKernelIdeal.Point

end
-- ==== Proof.OutRef.lean ====
/-
  The reference's output projection at an index: the mixers' outputs split into heads and put side by side, every head
  normalised, the product with the weights, and the two normalisations of whole rows.
-/
module

public import proofs.«01_k».proof.Proof.OutMath
public import proofs.«01_k».proof.Proof.Gen.OutReferenceIdeal.Run
public import Idealize.ShloMosaic.Lib.Pipeline.Value
public import Idealize.ShloMosaic.Lib.KernelVsHost

@[expose] public section

set_option maxRecDepth 16384

noncomputable section

open Idealize.ShloMosaic
open scoped BigOperators

namespace Cert.OutReferenceIdeal.Point

open Cert.OutReferenceIdeal Cert.OutReferenceIdeal.Gen Cert.Out Cert.OutReferenceIdeal.Facts

/-- Channels of a row split into heads, at an index. -/
theorem split_apply {n a b c : ℕ} {e : EltTy} (X : Vec Ideal (⟨2, ![n, c]⟩ : Shape) e)
    (h : (⟨2, ![n, c]⟩ : Shape).ShapeCasts (⟨3, ![n, a, b]⟩ : Shape)) (hc : c = a * b) (i : Fin n) (j : Fin a) (k : Fin b)
    (r : Fin c) (hr : r.val = j.val * b + k.val) :
    shapeCast (⟨3, ![n, a, b]⟩ : Shape) X h (ix3 i j k) = X (ix2 i r) :=
  congrArg X (Shape.reshapeEquiv_eq_of_rowMajor h (by
    rw [Shape.rowMajor_val_three, Shape.rowMajor_val_two]
    show i.val * c + r.val = (i.val * a + j.val) * b + k.val
    rw [hr, hc]; ring))

/-- Heads joined into the channels of a row, at an index. -/
theorem join_apply {n a b c : ℕ} {e : EltTy} (X : Vec Ideal (⟨3, ![n, a, b]⟩ : Shape) e)
    (h : (⟨3, ![n, a, b]⟩ : Shape).ShapeCasts (⟨2, ![n, c]⟩ : Shape)) (hc : c = a * b) (i : Fin n) (j : Fin a) (k : Fin b)
    (r : Fin c) (hr : r.val = j.val * b + k.val) :
    shapeCast (⟨2, ![n, c]⟩ : Shape) X h (ix2 i r) = X (ix3 i j k) :=
  congrArg X (Shape.reshapeEquiv_eq_of_rowMajor h (by
    rw [Shape.rowMajor_val_three, Shape.rowMajor_val_two]
    show (i.val * a + j.val) * b + k.val = i.val * c + r.val
    rw [hr, hc]; ring))

variable (oa : FVec Ideal S65536x256 .f32) (ob : FVec Ideal S65536x512 .f32) (oc : FVec Ideal S65536x256 .f32)
  (x : FVec Ideal S65536x1024 .f32) (gh : FVec Ideal S1024 .f32) (w : FVec Ideal S1024x1024 .f32) (gp gf : FVec Ideal S1024 .f32)

/-- The heads of the three mixers side by side. -/
def heads : FVec Ideal S65536x16x64 .f32 :=
  concatenate S65536x16x64 1 [⟨S65536x4x64, (shapeCast S65536x4x64 oa shapeCasts_S65536x256_S65536x4x64 : FVec Ideal S65536x4x64 .f32)⟩,
    ⟨S65536x8x64, (shapeCast S65536x8x64 ob shapeCasts_S65536x512_S65536x8x64 : FVec Ideal S65536x8x64 .f32)⟩,
    ⟨S65536x4x64, (shapeCast S65536x4x64 oc shapeCasts_S65536x256_S65536x4x64 : FVec Ideal S65536x4x64 .f32)⟩]
    concatenates_S65536x4x64_S65536x8x64_S65536x4x64_S65536x16x64_d1

/-- Every head normalised. -/
def normedHeads (y : FVec Ideal S65536x16x64 .f32) : FVec Ideal S65536x16x64 .f32 :=
  mulf (mulf y (broadcastInDim S65536x16x64 ![0, 1, 2] bcast_S65536x16x1_S65536x16x64_0_1_2 (Host.rsqrt (addf (Host.divf (broadcastInDim S65536x16x1 ![0, 1] bcast_S65536x16_S65536x16x1_0_1 (Host.reduceAdd (mulf y y) (constant S_ .f32 0x00000000#32) reducesTo_S65536x16x64_S65536x16_d2 h_S_)) (broadcastInDim S65536x16x1 ![] bcast_S_S65536x16x1 (constant S_ .f32 0x42800000#32))) (broadcastInDim S65536x16x1 ![] bcast_S_S65536x16x1 (constant S_ .f32 0x358637BD#32))))))
    (broadcastInDim S65536x16x64 ![0, 1, 2] bcast_S1x16x64_S65536x16x64_0_1_2 (broadcastInDim S1x16x64 ![1, 2] bcast_S16x64_S1x16x64_1_2 (shapeCast S16x64 gh shapeCasts_S1024_S16x64)))

/-- The product of joined heads with the weights. -/
def projected (y : FVec Ideal S65536x16x64 .f32) : FVec Ideal S65536x1024 .f32 :=
  Host.dotGeneral dot_S65536x1024_S1024x1024_S65536x1024_1_0_0_1_n_n none (shapeCast S65536x1024 y shapeCasts_S65536x16x64_S65536x1024) w

/-- Every row normalised. -/
def scaled (g : FVec Ideal S1024 .f32) (y : FVec Ideal S65536x1024 .f32) : FVec Ideal S65536x1024 .f32 :=
  mulf (mulf y (broadcastInDim S65536x1024 ![0, 1] bcast_S65536x1_S65536x1024_0_1 (Host.rsqrt (addf (Host.divf (broadcastInDim S65536x1 ![0] bcast_S65536_S65536x1_0 (Host.reduceAdd (mulf y y) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The reference's first result. -/
def firstResult : FVec Ideal S65536x1024 .f32 :=
  addf x (scaled gp (projected w (normedHeads gh (heads oa ob oc))))

/-- The reference's second result. -/
def secondResult : FVec Ideal S65536x1024 .bf16 :=
  truncf .bf16 (scaled gf (firstResult oa ob oc x gh w gp)) bitsLt_bf16_f32

/-- A lane of a head among the channels of a row. -/
def lane (h : Fin 16) (d : Fin 64) : Fin 1024 := ⟨h.val * 64 + d.val, by omega⟩

/-- The heads side by side are the channels side by side. -/
theorem heads_apply (n : Fin 65536) (h : Fin 16) (d : Fin 64) : heads oa ob oc (ix3 n h d) = side oa ob oc n (lane h d) := by
  have hv : (lane h d).val = h.val * 64 + d.val := rfl
  have off {p : ℕ} (a : Fin p) (b : Fin 3) (hb : b ≠ 1) : ((ix3 n a d b : Fin _) : ℕ) = (ix3 n h d b : Fin _) := by
    fin_cases b
    · rfl
    · exact absurd rfl hb
    · rfl
  unfold heads side
  by_cases h4 : h.val < 4
  · rw [dif_pos (show (lane h d).val < 256 by omega)]
    refine Eq.trans (concatenate_apply_piece (t := S65536x16x64) 1 _ _ (ix3 n h d) 0 (by show 0 < 3; decide) S65536x4x64 _ rfl rfl 0 rfl (ix3 n (⟨h.val, h4⟩ : Fin 4) d)
      (fun b hb => off _ b hb) (by show 0 + h.val = h.val; omega)) ?_
    exact split_apply (e := .f32) oa shapeCasts_S65536x256_S65536x4x64 (by decide) n _ d ⟨(lane h d).val, by omega⟩ (by show (lane h d).val = h.val * 64 + d.val; omega)
  · rw [dif_neg (show ¬ (lane h d).val < 256 by omega)]
    by_cases h12 : h.val < 12
    · rw [dif_pos (show (lane h d).val < 768 by omega)]
      refine Eq.trans (concatenate_apply_piece (t := S65536x16x64) 1 _ _ (ix3 n h d) 1 (by show 1 < 3; decide) S65536x8x64 _ rfl rfl 4 rfl (ix3 n (⟨h.val - 4, by omega⟩ : Fin 8) d)
        (fun b hb => off _ b hb) (by show 4 + (h.val - 4) = h.val; omega)) ?_
      exact split_apply (e := .f32) ob shapeCasts_S65536x512_S65536x8x64 (by decide) n _ d ⟨(lane h d).val - 256, by omega⟩ (by show (lane h d).val - 256 = (h.val - 4) * 64 + d.val; omega)
    · rw [dif_neg (show ¬ (lane h d).val < 768 by omega)]
      refine Eq.trans (concatenate_apply_piece (t := S65536x16x64) 1 _ _ (ix3 n h d) 2 (by show 2 < 3; decide) S65536x4x64 _ rfl rfl 12 rfl (ix3 n (⟨h.val - 12, by omega⟩ : Fin 4) d)
        (fun b hb => off _ b hb) (by show 12 + (h.val - 12) = h.val; omega)) ?_
      exact split_apply (e := .f32) oc shapeCasts_S65536x256_S65536x4x64 (by decide) n _ d ⟨(lane h d).val - 768, by omega⟩ (by show (lane h d).val - 768 = (h.val - 12) * 64 + d.val; omega)

/-- The gain of a head's lane. -/
theorem gain_apply (h : Fin 16) (d : Fin 64) : shapeCast S16x64 gh shapeCasts_S1024_S16x64 (ix2 h d) = gh (ix1 (lane h d)) := by
  pointwise [lane]

/-- A normalised head at a lane. -/
theorem normedHeads_apply (y : FVec Ideal S65536x16x64 .f32) (n : Fin 65536) (h : Fin 16) (d : Fin 64) :
    normedHeads gh y (ix3 n h d) = y (ix3 n h d) * Ideal.rsqrt (Ideal.div (∑ k : Fin 64, y (ix3 n h k) * y (ix3 n h k)) (Ideal.ofBits .f32 0x42800000#32)
      + Ideal.ofBits .f32 0x358637BD#32) * shapeCast S16x64 gh shapeCasts_S1024_S16x64 (ix2 h d) := by
  pointwise [normedHeads]

/-- A normalised row at an element. -/
theorem scaled_apply (g : FVec Ideal S1024 .f32) (y : FVec Ideal S65536x1024 .f32) (n : Fin 65536) (e : Fin 1024) :
    scaled g y (ix2 n e) = Cert.Ffn.norm (fun k => y (ix2 n k)) e (g (ix1 e)) := by
  pointwise [scaled]
  rfl

/-- The product with the weights at an element. -/
theorem product_apply (y : FVec Ideal S65536x1024 .f32) (n : Fin 65536) (e : Fin 1024) :
    Host.dotGeneral dot_S65536x1024_S1024x1024_S65536x1024_1_0_0_1_n_n none y w (ix2 n e) = ∑ k : Fin 1024, y (ix2 n k) * w (ix2 k e) := by
  pointwise []

/-- The projection of the normalised heads. -/
theorem projected_apply (n : Fin 65536) (e : Fin 1024) :
    projected w (normedHeads gh (heads oa ob oc)) (ix2 n e) = project oa ob oc gh w n e := by
  unfold projected project
  rw [product_apply]
  refine Finset.sum_congr rfl fun k _ => congrArg (· * _) ?_
  obtain ⟨h, d, rfl⟩ : ∃ (h : Fin 16) (d : Fin 64), k = lane h d :=
    ⟨⟨k.val / 64, by omega⟩, ⟨k.val % 64, by omega⟩, Fin.ext (by show k.val = k.val / 64 * 64 + k.val % 64; omega)⟩
  refine (join_apply (e := .f32) _ shapeCasts_S65536x16x64_S65536x1024 (by decide) n h d (lane h d) rfl).trans ?_
  rw [normedHeads_apply, gain_apply]
  simp only [heads_apply]
  unfold headNorm headMean
  have e : ∀ c : Fin 64, (⟨(lane h d).val / 64 * 64 + c.val, by have := (lane h d).isLt; omega⟩ : Fin 1024) = lane h c := fun c =>
    Fin.ext (by show (h.val * 64 + d.val) / 64 * 64 + c.val = h.val * 64 + c.val; omega)
  simp only [e]

/-- **The reference's first result is the normalised projection added to the skipped input.** -/
theorem first_eq : firstResult oa ob oc x gh w gp = residual oa ob oc x gh w gp := by
  funext j
  idx_vars j
  show x (ix2 j0 j1) + scaled gp _ (ix2 j0 j1) = _
  rw [scaled_apply]
  simp only [projected_apply]
  rfl

/-- **The reference's second result is the first one normalised.** -/
theorem second_eq : secondResult oa ob oc x gh w gp gf = normed oa ob oc x gh w gp gf := by
  funext j
  idx_vars j
  show scaled gf (firstResult oa ob oc x gh w gp) (ix2 j0 j1) = _
  rw [scaled_apply, first_eq]
  rfl

end Cert.OutReferenceIdeal.Point

end
-- ==== Proof.InMath.lean ====
/-
  The input projection: a product of normalised rows with the weights, the turn of a head's first sixteen lanes, and
  the lane tables that turn two heads side by side.
-/
module

public import proofs.«01_k».proof.Proof.FfnPoint
public import proofs.«01_k».proof.Proof.Gen.InKernelIdeal
public import Idealize.ShloMosaic.Lib.Pointwise

@[expose] public section

set_option maxRecDepth 16384

noncomputable section

open Idealize.ShloMosaic
open scoped BigOperators

namespace Cert.In

open Cert.InKernelIdeal

/-- A channel of a projected row: the row `f`, normalised with the gain `G`, times a column of the weights `W`. -/
def line (f G : Fin 1024 → EReal) (W : Fin 1024 → Fin 1792 → EReal) (o : Fin 1792) : EReal :=
  ∑ k : Fin 1024, Cert.Ffn.norm f k (G k) * W k o

/-- Four heads of 64 lanes, each turned: lane `d` below 8 with lane `d + 8` as the two coordinates of a point in the
    plane, by the angle with cosine `cs d` and sine `sn d`; lanes from 16 on stay. -/
def rope (p : Fin 256 → EReal) (cs sn : Fin 8 → EReal) (e : Fin 256) : EReal :=
  if h : e.val % 64 < 8 then p e * cs ⟨e.val % 64, h⟩ - p ⟨e.val + 8, by omega⟩ * sn ⟨e.val % 64, h⟩
  else if h' : e.val % 64 < 16 then
    p e * cs ⟨e.val % 64 - 8, by omega⟩ + p ⟨e.val - 8, by omega⟩ * sn ⟨e.val % 64 - 8, by omega⟩
  else p e

/-- The cosines laid over the lanes of a head: twice the eight cosines, then ones. -/
def laneCos (cs : Fin 8 → EReal) (d : Fin 64) : EReal :=
  if h : d.val < 8 then cs ⟨d.val, h⟩ else if h' : d.val < 16 then cs ⟨d.val - 8, by omega⟩ else 1

/-- The sines laid over the lanes of a head: the eight sines negated, the eight sines, then zeros. -/
def laneSin (sn : Fin 8 → EReal) (d : Fin 64) : EReal :=
  if h : d.val < 8 then -sn ⟨d.val, h⟩ else if h' : d.val < 16 then sn ⟨d.val - 8, by omega⟩ else 0

/-- A lane's place within its head. -/
def within (l : Fin 128) : Fin 64 := ⟨l.val % 64, by omega⟩

/-- The lane tables turn two heads side by side: `y` holds the lanes from `a` on, and each lane takes the partner eight
    lanes up or down, around the end. No value need be finite, for where a lane has no partner the table holds zero. -/
theorem lanes_rope (p : Fin 256 → EReal) (cs sn : Fin 8 → EReal) (y : Fin 128 → EReal) (a : ℕ) (ha : a % 64 = 0)
    (h256 : a + 128 ≤ 256) (hy : ∀ l : Fin 128, y l = p ⟨a + l.val, by omega⟩) (l : Fin 128) :
    y l * laneCos cs (within l)
        + (if l.val % 16 < 8 then y ⟨(l.val + 8) % 128, by omega⟩ else y ⟨(l.val + 120) % 128, by omega⟩) * laneSin sn (within l)
      = rope p cs sn ⟨a + l.val, by omega⟩ := by
  have hm : (a + l.val) % 64 = l.val % 64 := by omega
  unfold laneCos laneSin rope within
  simp only [hm]
  by_cases h8 : l.val % 64 < 8
  · rw [dif_pos h8, dif_pos h8, dif_pos h8, if_pos (by omega), mul_neg, ← sub_eq_add_neg, hy l, hy]
    congr 3
    exact Fin.ext (by show a + (l.val + 8) % 128 = a + l.val + 8; omega)
  · rw [dif_neg h8, dif_neg h8, dif_neg h8]
    by_cases h16 : l.val % 64 < 16
    · rw [dif_pos h16, dif_pos h16, dif_pos h16, if_neg (by omega), hy l, hy]
      congr 3
      exact Fin.ext (by show a + (l.val + 120) % 128 = a + l.val - 8; omega)
    · rw [dif_neg h16, dif_neg h16, dif_neg h16, mul_one, mul_zero, add_zero, hy l]

variable (x : Vec Ideal S65536x1024 .f32) (g : Vec Ideal S1024 .f32) (w : Vec Ideal S1024x1792 .f32)
  (cr sr : Vec Ideal S8192x8 .f32)

/-- A channel of the projection of row `n`. -/
def proj (n : Fin 65536) (o : Fin 1792) : EReal :=
  line (fun k => x (ix2 n k)) (fun k => g (ix1 k)) (fun k o => w (ix2 k o)) o

/-- The position within its batch row of row `n`. -/
def position (n : Fin 65536) : Fin 8192 := ⟨n.val % 8192, by omega⟩

/-- The 256 channels from `o` on of every row's projection, turned by the angles of the row's position. -/
def turnedFrom (o : ℕ) (ho : o + 256 ≤ 1792) (n : Fin 65536) (e : Fin 256) : EReal :=
  rope (fun e => proj x g w n ⟨o + e.val, by omega⟩) (fun d => cr (ix2 (position n) d)) (fun d => sr (ix2 (position n) d)) e

/-- The first mixer's queries: turned, and scaled by an eighth. -/
def queries : Vec Ideal S65536x256 .bf16 := fun j =>
  turnedFrom x g w cr sr 0 (by decide) (j 0) (j 1) * Ideal.ofBits .f32 0x3E000000#32

/-- The first mixer's keys: turned. -/
def keys : Vec Ideal S65536x256 .bf16 := fun j =>
  turnedFrom x g w cr sr 256 (by decide) (j 0) (j 1)

/-- The first mixer's values. -/
def values : Vec Ideal S65536x256 .bf16 := fun j => proj x g w (j 0) ⟨512 + (j 1).val, by have : (j 1).val < 256 := (j 1).isLt; omega⟩

/-- The second mixer's values. -/
def sharedValues : Vec Ideal S65536x128 .bf16 := fun j => proj x g w (j 0) ⟨1408 + (j 1).val, by have : (j 1).val < 128 := (j 1).isLt; omega⟩

/-- The third mixer's input. -/
def spectral : Vec Ideal S65536x256 .f32 := fun j => proj x g w (j 0) ⟨1536 + (j 1).val, by have : (j 1).val < 256 := (j 1).isLt; omega⟩

end Cert.In

end
-- ==== Proof.InPoint.lean ====
/-
  What one point of the input projection's grid computes from the blocks it has staged, for the results that pass no
  norm of their own: columns of the product of the normalised rows, turned where they are queries and keys.
-/
module

public import proofs.«01_k».proof.Proof.InMath
public import proofs.«01_k».proof.Proof.Gen.InKernelIdeal.Frame
public import Idealize.ShloMosaic.Lib.Pipeline.ValueKit.Tiles
public import Idealize.ShloMosaic.Lib.Pointwise
public import Idealize.ShloMosaic.Lib.KernelVsHost

@[expose] public section

set_option maxRecDepth 16384

noncomputable section

open Idealize.ShloMosaic
open scoped BigOperators

namespace Cert.InKernelIdeal.Point

open Cert.InKernelIdeal Cert.InKernelIdeal.Gen Cert.In

/-- Rows normalised with a gain. -/
theorem normed_apply (x : Vec Ideal S512x1024 .f32) (g : Vec Ideal S1x1024 .f32) (i : Fin 512) (k : Fin 1024) :
    k0_pay1 (F := Ideal) x g (ix2 i k) = Cert.Ffn.norm (fun k => x (ix2 i k)) k (g (ix2 0 k)) := by
  pointwise [k0_pay1, Cert.Ffn.norm]

/-- A product of rows with 256 columns of weights. -/
def product (v : FVec Ideal S512x1024 .bf16) (w : Vec Ideal S1024x256 .bf16) : FVec Ideal S512x256 .f32 :=
  matmul dot_S512x1024_S1024x256_S512x256_1_0_0_1_n_n none v (shapeCast S1024x256 w shapeCasts_S1024x256_S1024x256 : FVec Ideal S1024x256 .bf16)
    (constant S512x256 .f32 0x00000000#32)

/-- An entry of the product. -/
theorem product_apply (v : FVec Ideal S512x1024 .bf16) (w : Vec Ideal S1024x256 .bf16) (i : Fin 512) (e : Fin 256) :
    product v w (ix2 i e) = ∑ k : Fin 1024, v (ix2 i k) * w (ix2 k e) := by
  pointwise [product]

/-- The upper half of 256 columns. -/
theorem upper_apply (Y : FVec Ideal S512x256 .f32) (i : Fin 512) (e : Fin 128) :
    k0_pay59 (F := Ideal) Y (ix2 i e) = Y (ix2 i ⟨128 + e.val, by omega⟩) := by
  pointwise [k0_pay59]

/-- The lanes whose number's remainder by `p` is below `h`. -/
def lowOf (p h : BitVec 32) : IVec S1x128 1 :=
  let b : BitVec 32 := Scalar.select (Scalar.cmpi .eq p 0#32) 1#32 p
  have r : IVec S1x128 32 := remsi (iota .tc S1x128 32 [1] iota_S1x128_d1_w32) (broadcast S1x128 b)
  cmpi .slt (select (andi (xori (cmpi .slt r (broadcast S1x128 0#32))
      (broadcastTo S1x128 (broadcast S1x128 (Scalar.cmpi .slt b 0#32)) broadcasts_S1x128_S1x128)) (cmpi .ne r (broadcast S1x128 0#32)))
    (addi r (broadcast S1x128 b)) r) (broadcast S1x128 h)

/-- The lanes whose partner stands eight lanes up are the first eight of every sixteen. -/
theorem low_apply : ∀ l : Fin 128, lowOf 16#32 8#32 (ix2 0 l) = if l.val % 16 < 8 then 1#1 else 0#1 := by
  decide +kernel

/-- The lanes whose partner stands sixteen lanes up are the first sixteen of every thirty-two. -/
theorem lowHalf_apply : ∀ l : Fin 128, lowOf 32#32 16#32 (ix2 0 l) = if l.val % 32 < 16 then 1#1 else 0#1 := by
  decide +kernel

/-- Lanes side by side, turned by the lane tables: each takes the partner that the first move brings where the mask is
    set, and the one that the second move brings elsewhere. -/
def turnedBy (b : IVec S1x128 1) (up down : BitVec 32) (y C S : FVec Ideal S512x128 .f32) : FVec Ideal S512x128 .f32 :=
  addf (mulf y C) (mulf (select (broadcastTo S512x128 (shapeCast S1x128 b shapeCasts_S1x128_S1x128) broadcasts_S1x128_S512x128)
    (dynamicRotate 1 up none y rotates_S512x128_d1) (dynamicRotate 1 down none y rotates_S512x128_d1)) S)

/-- Turned lanes at a lane, where the moves are by `k` lanes up and down and the mask is set on the first `k` of every
    `2 * k` lanes. -/
theorem turnedBy_apply (b : IVec S1x128 1) (up down : BitVec 32) (k : ℕ) (h0 : 0 < k) (h128 : k < 128) (hu : up.toNat = 128 - k) (hd : down.toNat = k)
    (hb : ∀ l : Fin 128, b (ix2 0 l) = if l.val % (2 * k) < k then 1#1 else 0#1) (y C S : FVec Ideal S512x128 .f32) (i : Fin 512) (l : Fin 128) :
    turnedBy b up down y C S (ix2 i l) = y (ix2 i l) * C (ix2 i l)
      + (if l.val % (2 * k) < k then y (ix2 i ⟨(l.val + k) % 128, by omega⟩) else y (ix2 i ⟨(l.val + (128 - k)) % 128, by omega⟩)) * S (ix2 i l) := by
  have above : dynamicRotate 1 up none y rotates_S512x128_d1 (ix2 i l) = y (ix2 i ⟨(l.val + k) % 128, by omega⟩) :=
    dynamicRotate_apply _ _ _ _ _ _ fun a => by
      fin_cases a
      · rfl
      · show (l.val + k) % 128 = (l.val + 128 - up.toNat % 128) % 128
        rw [hu]
        omega
  have below : dynamicRotate 1 down none y rotates_S512x128_d1 (ix2 i l) = y (ix2 i ⟨(l.val + (128 - k)) % 128, by omega⟩) :=
    dynamicRotate_apply _ _ _ _ _ _ fun a => by
      fin_cases a
      · rfl
      · show (l.val + (128 - k)) % 128 = (l.val + 128 - down.toNat % 128) % 128
        rw [hd]
        omega
  have mask : broadcastTo S512x128 (shapeCast S1x128 b shapeCasts_S1x128_S1x128) broadcasts_S1x128_S512x128 (ix2 i l) = b (ix2 0 l) := by
    pointwise []
  show y (ix2 i l) * C (ix2 i l) + Scalar.select (broadcastTo S512x128 _ _ (ix2 i l)) (dynamicRotate 1 up none y _ (ix2 i l))
    (dynamicRotate 1 down none y _ (ix2 i l)) * S (ix2 i l) = _
  rw [above, below, mask, hb]
  by_cases h : l.val % (2 * k) < k
  · rw [if_pos h, if_pos h]; rfl
  · rw [if_neg h, if_neg h]; rfl

/-- Two heads side by side, turned by the lane tables. -/
def turned (y C S : FVec Ideal S512x128 .f32) : FVec Ideal S512x128 .f32 := turnedBy (lowOf 16#32 8#32) 120#32 8#32 y C S

/-- Two turned heads at a lane. -/
theorem turned_apply (y C S : FVec Ideal S512x128 .f32) (i : Fin 512) (l : Fin 128) :
    turned y C S (ix2 i l) = y (ix2 i l) * C (ix2 i l)
      + (if l.val % 16 < 8 then y (ix2 i ⟨(l.val + 8) % 128, by omega⟩) else y (ix2 i ⟨(l.val + 120) % 128, by omega⟩)) * S (ix2 i l) :=
  turnedBy_apply _ 120#32 8#32 8 (by decide) (by decide) (by decide) (by decide) low_apply y C S i l

/-- Two zeros are zero everywhere. -/
theorem zeros : (![0, 0] : Fin 2 → ℕ) = fun _ => 0 := by
  funext a; fin_cases a <;> rfl

section Rows

variable (x0 : Vec Ideal S512x1024 .f32) (x1 : Vec Ideal S1x1024 .f32) (x2 : Vec Ideal S1024x1792 .bf16) (x3 x4 : Vec Ideal S1x128 .f32)
  (x5 x6 x7 x8 : Vec Ideal S512x128 .f32) (x9 : Vec Ideal S128x128 .bf16)

/-- The 256 columns from `o` on of the product of the staged rows, normalised, with the staged weights. -/
theorem columns_apply (f : Fin 1024 → EReal) (G : Fin 1024 → EReal) (W : Fin 1024 → Fin 1792 → EReal) (i : Fin 512)
    (h0 : ∀ k : Fin 1024, x0 (ix2 i k) = f k) (h1 : ∀ k : Fin 1024, x1 (ix2 0 k) = G k)
    (h2 : ∀ (k : Fin 1024) (o : Fin 1792), x2 (ix2 k o) = W k o) (o : ℕ) (ho : o + 256 ≤ 1792) (inb) (e : Fin 256) :
    product (k0_pay1 (View.ld x0 r0_0) (View.ld x1 r0_1)) (View.ld x2 (Rect.unit (s := S1024x1792) ![0, o] S1024x256.size inb)) (ix2 i e)
      = line f G W ⟨o + e.val, by omega⟩ := by
  rw [product_apply]
  refine Finset.sum_congr rfl fun k _ => ?_
  rw [normed_apply, View.ld_unit_zero (Val := Elt Ideal) zeros inb_S512x1024_S512x1024_0_0,
    View.ld_unit_zero (Val := Elt Ideal) zeros inb_S1x1024_S1x1024_0_0,
    View.ld_unit_apply_of (Val := Elt Ideal) x2 _ _ inb _ (ix2 k ⟨o + e.val, by omega⟩) (fun d => by fin_cases d <;> simp [ix2]), h1, h2]
  simp only [h0]

/-- Two heads taken out of 256 columns and turned by the staged tables. -/
theorem heads_apply (Y : FVec Ideal S512x256 .f32) (p : Fin 256 → EReal) (cs sn : Fin 8 → EReal) (i : Fin 512)
    (hY : ∀ e : Fin 256, Y (ix2 i e) = p e) (h5 : ∀ l : Fin 128, x5 (ix2 i l) = laneCos cs (within l))
    (h6 : ∀ l : Fin 128, x6 (ix2 i l) = laneSin sn (within l)) (a : ℕ) (ha : a % 64 = 0) (h256 : a + 128 ≤ 256)
    (hs : Shape.Slices S512x256 ![0, a] S512x128) (l : Fin 128) :
    turned (extractStridedSlice S512x128 ![0, a] Y hs) (k0_pay2 (View.ld x5 r0_2)) (k0_pay3 (View.ld x6 r0_2)) (ix2 i l)
      = rope p cs sn ⟨a + l.val, by omega⟩ := by
  have hy : ∀ l : Fin 128, extractStridedSlice S512x128 ![0, a] Y hs (ix2 i l) = p ⟨a + l.val, by omega⟩ := fun l => by
    refine (extractStridedSlice_apply ![0, a] _ hs (ix2 i l) (ix2 i ⟨a + l.val, by omega⟩) (by intro b; fin_cases b <;> simp [ix2])).trans ?_
    exact hY _
  have e5 : k0_pay2 (F := Ideal) (View.ld x5 r0_2) (ix2 i l) = laneCos cs (within l) := by
    rw [View.ld_unit_zero (Val := Elt Ideal) zeros inb_S512x128_S512x128_0_0, ← h5 l]
    pointwise [k0_pay2]
  have e6 : k0_pay3 (F := Ideal) (View.ld x6 r0_2) (ix2 i l) = laneSin sn (within l) := by
    rw [View.ld_unit_zero (Val := Elt Ideal) zeros inb_S512x128_S512x128_0_0, ← h6 l]
    pointwise [k0_pay3]
  rw [turned_apply, e5, e6]
  exact lanes_rope p cs sn (fun l => extractStridedSlice S512x128 ![0, a] Y hs (ix2 i l)) a ha h256 hy l

variable (f : Fin 1024 → EReal) (G : Fin 1024 → EReal) (W : Fin 1024 → Fin 1792 → EReal) (cs sn : Fin 8 → EReal) (i : Fin 512)
  (h0 : ∀ k : Fin 1024, x0 (ix2 i k) = f k) (h1 : ∀ k : Fin 1024, x1 (ix2 0 k) = G k)
  (h2 : ∀ (k : Fin 1024) (o : Fin 1792), x2 (ix2 k o) = W k o) (h5 : ∀ l : Fin 128, x5 (ix2 i l) = laneCos cs (within l))
  (h6 : ∀ l : Fin 128, x6 (ix2 i l) = laneSin sn (within l))

include h0 h1 h2

/-- The block of the first mixer's values. -/
theorem values_block (e : Fin 256) :
    out0_12 (F := Ideal) x0 x1 x2 x3 x4 x5 x6 x7 x8 x9 (ix2 i e) = line f G W ⟨512 + e.val, by omega⟩ := by
  unfold out0_12
  rw [View.canon_unit_zero (Val := Elt Ideal) zeros inb_S512x256_S512x256_0_0]
  exact columns_apply x0 x1 x2 f G W i h0 h1 h2 512 (by decide) _ e

/-- The block of the third mixer's input. -/
theorem spectral_block (e : Fin 256) :
    out0_16 (F := Ideal) x0 x1 x2 x3 x4 x5 x6 x7 x8 x9 (ix2 i e) = line f G W ⟨1536 + e.val, by omega⟩ := by
  unfold out0_16
  rw [View.canon_unit_zero (Val := Elt Ideal) zeros inb_S512x256_S512x256_0_0]
  exact columns_apply x0 x1 x2 f G W i h0 h1 h2 1536 (by decide) _ e

/-- The block of the second mixer's values: the upper half of the 256 columns from 1280 on. -/
theorem sharedValues_block (e : Fin 128) :
    out0_15 (F := Ideal) x0 x1 x2 x3 x4 x5 x6 x7 x8 x9 (ix2 i e) = line f G W ⟨1408 + e.val, by omega⟩ := by
  unfold out0_15
  rw [View.canon_unit_zero (Val := Elt Ideal) zeros inb_S512x128_S512x128_0_0]
  refine (upper_apply _ i e).trans ?_
  refine (columns_apply x0 x1 x2 f G W i h0 h1 h2 1280 (by decide) _ _).trans ?_
  exact congrArg (line f G W) (Fin.ext (by show 1280 + (128 + e.val) = 1408 + e.val; omega))

include h5 h6

/-- The block of the first mixer's queries. -/
theorem queries_block (e : Fin 256) :
    out0_10 (F := Ideal) x0 x1 x2 x3 x4 x5 x6 x7 x8 x9 (ix2 i e)
      = rope (fun e => line f G W ⟨0 + e.val, by omega⟩) cs sn e * Ideal.ofBits .f32 0x3E000000#32 := by
  have part := heads_apply x5 x6 _ _ cs sn i (columns_apply x0 x1 x2 f G W i h0 h1 h2 0 (by decide) inb_S1024x1792_S1024x256_0_0) h5 h6
  unfold out0_10
  canon_tiles y h
  · idx_vars y
    obtain rfl : y0 = i := Fin.ext h0.symm
    exact congrArg (· * Ideal.ofBits .f32 0x3E000000#32)
      ((part 128 (by decide) (by decide) slices_S512x256_o0_128_S512x128 y1).trans (congrArg (rope _ cs sn) (Fin.ext h1.symm)))
  · idx_vars y
    obtain rfl : y0 = i := Fin.ext h0.symm
    exact congrArg (· * Ideal.ofBits .f32 0x3E000000#32)
      ((part 0 (by decide) (by decide) slices_S512x256_o0_0_S512x128 y1).trans (congrArg (rope _ cs sn) (Fin.ext ((Nat.zero_add _).trans h1.symm))))

/-- The block of the first mixer's keys. -/
theorem keys_block (e : Fin 256) :
    out0_11 (F := Ideal) x0 x1 x2 x3 x4 x5 x6 x7 x8 x9 (ix2 i e)
      = rope (fun e => line f G W ⟨256 + e.val, by omega⟩) cs sn e := by
  have part := heads_apply x5 x6 _ _ cs sn i (columns_apply x0 x1 x2 f G W i h0 h1 h2 256 (by decide) inb_S1024x1792_S1024x256_0_256) h5 h6
  unfold out0_11
  canon_tiles y h
  · idx_vars y
    obtain rfl : y0 = i := Fin.ext h0.symm
    exact (part 128 (by decide) (by decide) slices_S512x256_o0_128_S512x128 y1).trans (congrArg (rope _ cs sn) (Fin.ext h1.symm))
  · idx_vars y
    obtain rfl : y0 = i := Fin.ext h0.symm
    exact (part 0 (by decide) (by decide) slices_S512x256_o0_0_S512x128 y1).trans (congrArg (rope _ cs sn) (Fin.ext ((Nat.zero_add _).trans h1.symm)))

end Rows

end Cert.InKernelIdeal.Point

end
-- ==== Proof.InArray.lean ====
/-
  The kernel's result arrays of the input projection that pass no norm of their own: the blocks of the grid's points
  cover them, and every block is the projection's.
-/
module

public import proofs.«01_k».proof.Proof.InPoint
public import Idealize.ShloMosaic.Lib.Pipeline.ValueKit
public import Idealize.ShloMosaic.Lib.Pipeline.Covers

@[expose] public section

set_option maxRecDepth 16384

noncomputable section

open Idealize.ShloMosaic Idealize.ShloMosaic.TcCoe
open scoped BigOperators

namespace Cert.InKernelIdeal.Point

open Cert.InKernelIdeal Cert.InKernelIdeal.Gen Cert.In Cert.InKernelIdeal.Facts

/-- A table of 64 lanes laid over two heads. -/
theorem tile_apply (v : FVec Ideal S8192x64 .f32) (s : Fin 8192) (l : Fin 128) :
    (shapeCast S8192x128 (broadcastInDim S1x8192x2x64 ![0, 1, 2, 3] bcast_S1x8192x1x64_S1x8192x2x64_0_1_2_3
      (shapeCast S1x8192x1x64 v shapeCasts_S8192x64_S1x8192x1x64 : FVec Ideal S1x8192x1x64 .f32)) shapeCasts_S1x8192x2x64_S8192x128 : FVec Ideal S8192x128 .f32) (ix2 s l)
      = v (ix2 s (within l)) := by
  pointwise [within]

/-- The lanes' table of three pieces: eight lanes of `u`, eight of `v`, and 48 times the number `z`. -/
theorem lanes_apply (u v : FVec Ideal S8192x8 .f32) (z : BitVec 32) (s : Fin 8192) (d : Fin 64) :
    (concatenate S8192x64 1 [⟨S8192x8, u⟩, ⟨S8192x8, v⟩, ⟨S8192x48, (broadcastInDim S8192x48 ![] bcast_S_S8192x48 (constant S_ .f32 z) : FVec Ideal S8192x48 .f32)⟩]
      concatenates_S8192x8_S8192x8_S8192x48_S8192x64_d1 : FVec Ideal S8192x64 .f32) (ix2 s d)
      = if h : d.val < 8 then u (ix2 s ⟨d.val, h⟩) else if h' : d.val < 16 then v (ix2 s ⟨d.val - 8, by omega⟩) else Ideal.ofBits .f32 z := by
  have off {p : ℕ} (a : Fin p) (b : Fin 2) (hb : b ≠ 1) : ((ix2 s a b : Fin _) : ℕ) = (ix2 s d b : Fin _) := by
    fin_cases b
    · rfl
    · exact absurd rfl hb
  by_cases h8 : d.val < 8
  · rw [dif_pos h8]
    exact concatenate_apply_piece (t := S8192x64) 1 _ _ (ix2 s d) 0 (by show 0 < 3; decide) S8192x8 _ rfl rfl 0 rfl (ix2 s (⟨d.val, h8⟩ : Fin 8))
      (fun b hb => off _ b hb) (by show 0 + d.val = d.val; omega)
  · rw [dif_neg h8]
    by_cases h16 : d.val < 16
    · rw [dif_pos h16]
      exact concatenate_apply_piece (t := S8192x64) 1 _ _ (ix2 s d) 1 (by show 1 < 3; decide) S8192x8 _ rfl rfl 8 rfl (ix2 s (⟨d.val - 8, by omega⟩ : Fin 8))
        (fun b hb => off _ b hb) (by show 8 + (d.val - 8) = d.val; omega)
    · rw [dif_neg h16]
      refine Eq.trans (concatenate_apply_piece (t := S8192x64) 1 _ _ (ix2 s d) 2 (by show 2 < 3; decide) S8192x48 _ rfl rfl 16 rfl (ix2 s (⟨d.val - 16, by omega⟩ : Fin 48))
        (fun b hb => off _ b hb) (by show 16 + (d.val - 16) = d.val; omega)) ?_
      rfl

/-- The word of one. -/
theorem ofBits_one : Ideal.ofBits .f32 0x3F800000#32 = 1 := by
  simp [Ideal.ofBits, Ideal.ieee]
  rw [← EReal.coe_mul]; norm_num

/-- The word of zero. -/
theorem ofBits_nought : Ideal.ofBits .f32 0x00000000#32 = 0 := by
  simp [Ideal.ofBits, Ideal.ieee]

variable (m : (ℓ : Loc nD τ sig) → Buf (Elt Ideal) ℓ) (c : Dev nD)

/-- At point `t` window 0 is its block of rows number `t`. -/
theorem index0 : ∀ t : Fin cfg0.N, win0_0.index t = ![t.val, 0] := by decide +kernel
/-- At every point window 1 is its whole array. -/
theorem index1 : ∀ t : Fin cfg0.N, win0_1.index t = ![0, 0] := by decide +kernel
/-- At every point window 2 is its whole array. -/
theorem index2 : ∀ t : Fin cfg0.N, win0_2.index t = ![0, 0] := by decide +kernel
/-- At point `t` window 5 is the block of positions that its rows have. -/
theorem index5 : ∀ t : Fin cfg0.N, win0_5.index t = ![t.val % 16, 0] := by decide +kernel
/-- At point `t` window 6 is the block of positions that its rows have. -/
theorem index6 : ∀ t : Fin cfg0.N, win0_6.index t = ![t.val % 16, 0] := by decide +kernel
/-- At point `t` window 10 is its block of rows number `t`. -/
theorem index10 : ∀ t : Fin cfg0.N, win0_10.index t = ![t.val, 0] := by decide +kernel
/-- At point `t` window 11 is its block of rows number `t`. -/
theorem index11 : ∀ t : Fin cfg0.N, win0_11.index t = ![t.val, 0] := by decide +kernel
/-- At point `t` window 12 is its block of rows number `t`. -/
theorem index12 : ∀ t : Fin cfg0.N, win0_12.index t = ![t.val, 0] := by decide +kernel
/-- At point `t` window 15 is its block of rows number `t`. -/
theorem index15 : ∀ t : Fin cfg0.N, win0_15.index t = ![t.val, 0] := by decide +kernel
/-- At point `t` window 16 is its block of rows number `t`. -/
theorem index16 : ∀ t : Fin cfg0.N, win0_16.index t = ![t.val, 0] := by decide +kernel

/-- The row `i` of a point's block. -/
def row (t : Fin cfg0.N) (i : Fin 512) : Fin 65536 := ⟨512 * t.val + i.val, by have : t.val < 128 := t.isLt; omega⟩

/-- A block of the input's rows. -/
theorem rows_apply (t : Fin cfg0.N) (i : Fin 512) (k : Fin 1024) :
    iblk m c 0 t (ix2 i k) = m ((c : Thread nD τ).loc main_arg0) (ix2 (row t i) k) := by
  blk_simp [iblk]
  rw [V_main_arg0]
  refine congrArg _ ?_
  blk_ext [index0, row]

/-- The gain written as one row. -/
theorem gain_row (g : FVec Ideal S1024 .f32) (k : Fin 1024) : broadcastInDim S1x1024 ![1] bcast_S1024_S1x1024_1 g (ix2 0 k) = g (ix1 k) := by
  pointwise []

/-- The gain. -/
theorem gain_apply (t : Fin cfg0.N) (k : Fin 1024) : iblk m c 1 t (ix2 0 k) = m ((c : Thread nD τ).loc main_arg1) (ix1 k) := by
  have e : V m c main_v21 = broadcastInDim S1x1024 ![1] bcast_S1024_S1x1024_1 (m ((c : Thread nD τ).loc main_arg1)) := by
    after_results <;> rfl
  blk_simp [iblk]
  rw [e]
  refine (congrArg _ ?_).trans (gain_row _ k)
  blk_ext [index1]

/-- The weights. -/
theorem weights_apply (t : Fin cfg0.N) (k : Fin 1024) (o : Fin 1792) : iblk m c 2 t (ix2 k o) = m ((c : Thread nD τ).loc main_arg2) (ix2 k o) := by
  have h : V m c main_v22 = (truncf .bf16 (m ((c : Thread nD τ).loc main_arg2)) bitsLt_bf16_f32 : FVec Ideal S1024x1792 .bf16) := by
    rfl
  blk_simp [iblk]
  rw [h]
  refine congrArg (m ((c : Thread nD τ).loc main_arg2)) ?_
  blk_ext [index2]

/-- The cosines over the lanes. -/
theorem cosines_apply (t : Fin cfg0.N) (i : Fin 512) (l : Fin 128) :
    iblk m c 5 t (ix2 i l) = laneCos (fun d => m ((c : Thread nD τ).loc main_arg5) (ix2 (position (row t i)) d)) (within l) := by
  have e : V m c main_v11 = shapeCast S8192x128 (broadcastInDim S1x8192x2x64 ![0, 1, 2, 3] bcast_S1x8192x1x64_S1x8192x2x64_0_1_2_3
      (shapeCast S1x8192x1x64 (concatenate S8192x64 1 [⟨S8192x8, (m ((c : Thread nD τ).loc main_arg5) : FVec Ideal S8192x8 .f32)⟩, ⟨S8192x8, (m ((c : Thread nD τ).loc main_arg5) : FVec Ideal S8192x8 .f32)⟩,
        ⟨S8192x48, (broadcastInDim S8192x48 ![] bcast_S_S8192x48 (constant S_ .f32 0x3F800000#32) : FVec Ideal S8192x48 .f32)⟩]
        concatenates_S8192x8_S8192x8_S8192x48_S8192x64_d1 : FVec Ideal S8192x64 .f32) shapeCasts_S8192x64_S1x8192x1x64 : FVec Ideal S1x8192x1x64 .f32)) shapeCasts_S1x8192x2x64_S8192x128 := by
    after_results <;> rfl
  blk_simp [iblk]
  rw [e]
  refine (congrArg _ (?_ : _ = ix2 (position (row t i)) l)).trans ((tile_apply _ _ _).trans ((lanes_apply _ _ _ _ _).trans ?_))
  · blk_ext [index5, row, position]
  · unfold laneCos
    rw [ofBits_one]

/-- The sines over the lanes. -/
theorem sines_apply (t : Fin cfg0.N) (i : Fin 512) (l : Fin 128) :
    iblk m c 6 t (ix2 i l) = laneSin (fun d => m ((c : Thread nD τ).loc main_arg6) (ix2 (position (row t i)) d)) (within l) := by
  have e : V m c main_v14 = shapeCast S8192x128 (broadcastInDim S1x8192x2x64 ![0, 1, 2, 3] bcast_S1x8192x1x64_S1x8192x2x64_0_1_2_3
      (shapeCast S1x8192x1x64 (concatenate S8192x64 1 [⟨S8192x8, (Host.negf (m ((c : Thread nD τ).loc main_arg6)) : FVec Ideal S8192x8 .f32)⟩, ⟨S8192x8, (m ((c : Thread nD τ).loc main_arg6) : FVec Ideal S8192x8 .f32)⟩,
        ⟨S8192x48, (broadcastInDim S8192x48 ![] bcast_S_S8192x48 (constant S_ .f32 0x00000000#32) : FVec Ideal S8192x48 .f32)⟩]
        concatenates_S8192x8_S8192x8_S8192x48_S8192x64_d1 : FVec Ideal S8192x64 .f32) shapeCasts_S8192x64_S1x8192x1x64 : FVec Ideal S1x8192x1x64 .f32)) shapeCasts_S1x8192x2x64_S8192x128 := by
    after_results <;> rfl
  blk_simp [iblk]
  rw [e]
  refine (congrArg _ (?_ : _ = ix2 (position (row t i)) l)).trans ((tile_apply _ _ _).trans ((lanes_apply _ _ _ _ _).trans ?_))
  · blk_ext [index6, row, position]
  · unfold laneSin
    rw [ofBits_nought]
    rfl

/-- Every index of the first result lies in some point's block. -/
theorem covers10 : (cfg0.win 10).Covers := by decide +kernel
/-- Every index of the second result lies in some point's block. -/
theorem covers11 : (cfg0.win 11).Covers := by decide +kernel
/-- Every index of the third result lies in some point's block. -/
theorem covers12 : (cfg0.win 12).Covers := by decide +kernel
/-- Every index of the sixth result lies in some point's block. -/
theorem covers15 : (cfg0.win 15).Covers := by decide +kernel
/-- Every index of the seventh result lies in some point's block. -/
theorem covers16 : (cfg0.win 16).Covers := by decide +kernel

/-- **The first result array is the first mixer's queries.** -/
theorem final10 : (dats m 0 c).arrAt 10 cfg0.N = queries (m ((c : Thread nD τ).loc main_arg0)) (m ((c : Thread nD τ).loc main_arg1))
    (m ((c : Thread nD τ).loc main_arg2)) (m ((c : Thread nD τ).loc main_arg5)) (m ((c : Thread nD τ).loc main_arg6)) := by
  refine (dats m 0 c).arrAt_eq_of_covers 10 _ covers10 fun t hf y => ?_
  blk_simp
  rw [after0_10]
  idx_vars y
  have e : ((View.whole main_v31_0).slice (win0_10.rect t)).emb (ix2 y0 y1) = ix2 (row t y0) y1 := by
    blk_ext [index10, row]
  rw [e]
  exact queries_block _ _ _ _ _ _ _ _ _ _ _ _ _ _ _ y0 (rows_apply m c t y0) (gain_apply m c t) (weights_apply m c t)
    (cosines_apply m c t y0) (sines_apply m c t y0) y1

/-- **The second result array is the first mixer's keys.** -/
theorem final11 : (dats m 0 c).arrAt 11 cfg0.N = keys (m ((c : Thread nD τ).loc main_arg0)) (m ((c : Thread nD τ).loc main_arg1))
    (m ((c : Thread nD τ).loc main_arg2)) (m ((c : Thread nD τ).loc main_arg5)) (m ((c : Thread nD τ).loc main_arg6)) := by
  refine (dats m 0 c).arrAt_eq_of_covers 11 _ covers11 fun t hf y => ?_
  blk_simp
  rw [after0_11]
  idx_vars y
  have e : ((View.whole main_v31_1).slice (win0_11.rect t)).emb (ix2 y0 y1) = ix2 (row t y0) y1 := by
    blk_ext [index11, row]
  rw [e]
  exact keys_block _ _ _ _ _ _ _ _ _ _ _ _ _ _ _ y0 (rows_apply m c t y0) (gain_apply m c t) (weights_apply m c t)
    (cosines_apply m c t y0) (sines_apply m c t y0) y1

/-- **The third result array is the first mixer's values.** -/
theorem final12 : (dats m 0 c).arrAt 12 cfg0.N = values (m ((c : Thread nD τ).loc main_arg0)) (m ((c : Thread nD τ).loc main_arg1))
    (m ((c : Thread nD τ).loc main_arg2)) := by
  refine (dats m 0 c).arrAt_eq_of_covers 12 _ covers12 fun t hf y => ?_
  blk_simp
  rw [after0_12]
  idx_vars y
  have e : ((View.whole main_v31_2).slice (win0_12.rect t)).emb (ix2 y0 y1) = ix2 (row t y0) y1 := by
    blk_ext [index12, row]
  rw [e]
  exact values_block _ _ _ _ _ _ _ _ _ _ _ _ _ y0 (rows_apply m c t y0) (gain_apply m c t) (weights_apply m c t) y1

/-- **The sixth result array is the second mixer's values.** -/
theorem final15 : (dats m 0 c).arrAt 15 cfg0.N = sharedValues (m ((c : Thread nD τ).loc main_arg0)) (m ((c : Thread nD τ).loc main_arg1))
    (m ((c : Thread nD τ).loc main_arg2)) := by
  refine (dats m 0 c).arrAt_eq_of_covers 15 _ covers15 fun t hf y => ?_
  blk_simp
  rw [after0_15]
  idx_vars y
  have e : ((View.whole main_v31_5).slice (win0_15.rect t)).emb (ix2 y0 y1) = ix2 (row t y0) y1 := by
    blk_ext [index15, row]
  rw [e]
  exact sharedValues_block _ _ _ _ _ _ _ _ _ _ _ _ _ y0 (rows_apply m c t y0) (gain_apply m c t) (weights_apply m c t) y1

/-- **The seventh result array is the third mixer's input.** -/
theorem final16 : (dats m 0 c).arrAt 16 cfg0.N = spectral (m ((c : Thread nD τ).loc main_arg0)) (m ((c : Thread nD τ).loc main_arg1))
    (m ((c : Thread nD τ).loc main_arg2)) := by
  refine (dats m 0 c).arrAt_eq_of_covers 16 _ covers16 fun t hf y => ?_
  blk_simp
  rw [after0_16]
  idx_vars y
  have e : ((View.whole main_v31_6).slice (win0_16.rect t)).emb (ix2 y0 y1) = ix2 (row t y0) y1 := by
    blk_ext [index16, row]
  rw [e]
  exact spectral_block _ _ _ _ _ _ _ _ _ _ _ _ _ y0 (rows_apply m c t y0) (gain_apply m c t) (weights_apply m c t) y1

end Cert.InKernelIdeal.Point

end
-- ==== Proof.InRef.lean ====
/-
  The reference's input projection at an index: the normalised rows, their product with the weights, its columns grouped
  into heads, the turn of a head's first sixteen lanes, and the heads joined again.
-/
module

public import proofs.«01_k».proof.Proof.InMath
public import proofs.«01_k».proof.Proof.Gen.InReferenceIdeal.Run
public import Idealize.ShloMosaic.Lib.Pipeline.Value
public import Idealize.ShloMosaic.Lib.KernelVsHost

@[expose] public section

set_option maxRecDepth 16384

noncomputable section

open Idealize.ShloMosaic
open scoped BigOperators

namespace Cert.InReferenceIdeal.Point

open Cert.InReferenceIdeal Cert.InReferenceIdeal.Gen Cert.In Cert.InReferenceIdeal.Facts

/-- Rows of 256 channels grouped by batch row and by head, at an index. -/
theorem group_apply (X : FVec Ideal S65536x256 .f32) (b : Fin 8) (s : Fin 8192) (h : Fin 4) (d : Fin 64) (n : Fin 65536) (e : Fin 256)
    (hn : n.val = b.val * 8192 + s.val) (he : e.val = h.val * 64 + d.val) :
    (shapeCast S8x8192x4x64 X shapeCasts_S65536x256_S8x8192x4x64 : FVec Ideal S8x8192x4x64 .f32) (ix4 b s h d) = X (ix2 n e) :=
  congrArg X (Shape.reshapeEquiv_eq_of_rowMajor _ (by
    rw [Shape.rowMajor_val_four, Shape.rowMajor_val_two]
    show n.val * 256 + e.val = ((b.val * 8192 + s.val) * 4 + h.val) * 64 + d.val
    rw [hn, he]; ring))

/-- Grouped rows listed one after another again, their heads joined, at an index. -/
theorem list_apply (X : FVec Ideal S8x8192x4x64 .f32) (b : Fin 8) (s : Fin 8192) (h : Fin 4) (d : Fin 64) (n : Fin 65536) (e : Fin 256)
    (hn : n.val = b.val * 8192 + s.val) (he : e.val = h.val * 64 + d.val) :
    (shapeCast S65536x256 X shapeCasts_S8x8192x4x64_S65536x256 : FVec Ideal S65536x256 .f32) (ix2 n e) = X (ix4 b s h d) :=
  congrArg X (Shape.reshapeEquiv_eq_of_rowMajor _ (by
    rw [Shape.rowMajor_val_four, Shape.rowMajor_val_two]
    show ((b.val * 8192 + s.val) * 4 + h.val) * 64 + d.val = n.val * 256 + e.val
    rw [hn, he]; ring))

variable (x : FVec Ideal S65536x1024 .f32) (g : FVec Ideal S1024 .f32) (w : FVec Ideal S1024x1792 .f32) (cr sr : FVec Ideal S8192x8 .f32)

/-- Every row normalised. -/
def scaled : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The product of the normalised rows with the weights. -/
def projected : FVec Ideal S65536x1792 .f32 :=
  Host.dotGeneral dot_S65536x1024_S1024x1792_S65536x1792_1_0_0_1_n_n none (scaled x g) w

/-- A table's eight values of a position, the same for every batch row and head. -/
def everyHead (v : FVec Ideal S8192x8 .f32) : FVec Ideal S8x8192x4x8 .f32 :=
  broadcastInDim S8x8192x4x8 ![0, 1, 2, 3] bcast_S1x8192x1x8_S8x8192x4x8_0_1_2_3 (broadcastInDim S1x8192x1x8 ![1, 2, 3] bcast_S8192x1x8_S1x8192x1x8_1_2_3 (broadcastInDim S8192x1x8 ![0, 2] bcast_S8192x8_S8192x1x8_0_2 v))

/-- Every head's first sixteen lanes turned. -/
def rotated (H : FVec Ideal S8x8192x4x64 .f32) : FVec Ideal S8x8192x4x64 .f32 :=
  concatenate S8x8192x4x64 3 [⟨S8x8192x4x8, (subf (mulf (extractStridedSlice S8x8192x4x8 ![0, 0, 0, 0] H slices_S8x8192x4x64_S8x8192x4x8_0_0_0_0) (everyHead cr))
        (mulf (extractStridedSlice S8x8192x4x8 ![0, 0, 0, 8] H slices_S8x8192x4x64_S8x8192x4x8_0_0_0_8) (everyHead sr)) : FVec Ideal S8x8192x4x8 .f32)⟩,
      ⟨S8x8192x4x8, (addf (mulf (extractStridedSlice S8x8192x4x8 ![0, 0, 0, 8] H slices_S8x8192x4x64_S8x8192x4x8_0_0_0_8) (everyHead cr))
        (mulf (extractStridedSlice S8x8192x4x8 ![0, 0, 0, 0] H slices_S8x8192x4x64_S8x8192x4x8_0_0_0_0) (everyHead sr)) : FVec Ideal S8x8192x4x8 .f32)⟩,
      ⟨S8x8192x4x48, (extractStridedSlice S8x8192x4x48 ![0, 0, 0, 16] H slices_S8x8192x4x64_S8x8192x4x48_0_0_0_16 : FVec Ideal S8x8192x4x48 .f32)⟩]
    concatenates_S8x8192x4x8_S8x8192x4x8_S8x8192x4x48_S8x8192x4x64_d3

/-- Rows of 256 channels with every head turned. -/
def turnedRows (Y : FVec Ideal S65536x256 .f32) : FVec Ideal S65536x256 .f32 :=
  shapeCast S65536x256 (rotated cr sr (shapeCast S8x8192x4x64 Y shapeCasts_S65536x256_S8x8192x4x64)) shapeCasts_S8x8192x4x64_S65536x256

/-- A normalised row at an element. -/
theorem scaled_apply (n : Fin 65536) (e : Fin 1024) :
    scaled x g (ix2 n e) = Cert.Ffn.norm (fun k => x (ix2 n k)) e (g (ix1 e)) := by
  pointwise [scaled]
  rfl

/-- The product with the weights at an element. -/
theorem product_apply (y : FVec Ideal S65536x1024 .f32) (n : Fin 65536) (o : Fin 1792) :
    Host.dotGeneral dot_S65536x1024_S1024x1792_S65536x1792_1_0_0_1_n_n none y w (ix2 n o) = ∑ k : Fin 1024, y (ix2 n k) * w (ix2 k o) := by
  pointwise []

/-- The projection at an element. -/
theorem projected_apply (n : Fin 65536) (o : Fin 1792) : projected x g w (ix2 n o) = proj x g w n o := by
  unfold projected
  rw [product_apply]
  exact Finset.sum_congr rfl fun k _ => congrArg (· * _) (scaled_apply x g n k)

/-- A table's value at a place. -/
theorem everyHead_apply (v : FVec Ideal S8192x8 .f32) (b : Fin 8) (s : Fin 8192) (h : Fin 4) (d : Fin 8) :
    everyHead v (ix4 b s h d) = v (ix2 s d) := by
  pointwise [everyHead]

/-- Lanes of every head from `o` on. -/
theorem lanes_apply {p : ℕ} (H : FVec Ideal S8x8192x4x64 .f32) (o : ℕ) (hs : Shape.Slices S8x8192x4x64 ![0, 0, 0, o] (⟨4, ![8, 8192, 4, p]⟩ : Shape))
    (b : Fin 8) (s : Fin 8192) (h : Fin 4) (d : Fin p) (r : Fin 64) (hr : r.val = o + d.val) :
    extractStridedSlice (⟨4, ![8, 8192, 4, p]⟩ : Shape) ![0, 0, 0, o] H hs (ix4 b s h d) = H (ix4 b s h r) := by
  refine extractStridedSlice_apply ![0, 0, 0, o] H hs (ix4 b s h d) (ix4 b s h r) ?_
  intro a; fin_cases a <;> simp [ix4, hr]

/-- The turned rows at an element. -/
theorem turnedRows_apply (Y : FVec Ideal S65536x256 .f32) (n : Fin 65536) (e : Fin 256) :
    turnedRows cr sr Y (ix2 n e)
      = rope (fun e => Y (ix2 n e)) (fun d => cr (ix2 (position n) d)) (fun d => sr (ix2 (position n) d)) e := by
  obtain ⟨b, hb⟩ : ∃ b : Fin 8, n.val = b.val * 8192 + (position n).val :=
    ⟨⟨n.val / 8192, by omega⟩, by show n.val = n.val / 8192 * 8192 + n.val % 8192; omega⟩
  obtain ⟨h, hh⟩ : ∃ h : Fin 4, h.val = e.val / 64 := ⟨⟨e.val / 64, by omega⟩, rfl⟩
  set H : FVec Ideal S8x8192x4x64 .f32 := shapeCast S8x8192x4x64 Y shapeCasts_S65536x256_S8x8192x4x64 with hH
  have at_lane : ∀ (r : Fin 64) (e' : Fin 256), e'.val = h.val * 64 + r.val → H (ix4 b (position n) h r) = Y (ix2 n e') :=
    fun r e' he' => group_apply Y b (position n) h r n e' hb he'
  have off {p : ℕ} (a : Fin p) (b' : Fin 4) (hb' : b' ≠ 3) :
      ((ix4 b (position n) h a b' : Fin _) : ℕ) = (ix4 b (position n) h (⟨e.val % 64, by omega⟩ : Fin 64) b' : Fin _) := by
    fin_cases b'
    · rfl
    · rfl
    · rfl
    · exact absurd rfl hb'
  unfold turnedRows
  rw [list_apply _ b (position n) h ⟨e.val % 64, by omega⟩ n e hb (by show e.val = h.val * 64 + e.val % 64; omega), ← hH]
  unfold rotated rope
  by_cases h8 : e.val % 64 < 8
  · rw [dif_pos h8]
    refine Eq.trans (concatenate_apply_piece (t := S8x8192x4x64) 3 _ _ (ix4 b (position n) h ⟨e.val % 64, by omega⟩) 0 (by show 0 < 3; decide) S8x8192x4x8 _ rfl rfl 0 rfl
      (ix4 b (position n) h (⟨e.val % 64, h8⟩ : Fin 8)) (fun b' hb' => off _ b' hb') (by show 0 + e.val % 64 = e.val % 64; omega)) ?_
    show extractStridedSlice S8x8192x4x8 _ H _ _ * everyHead cr _ - extractStridedSlice S8x8192x4x8 _ H _ _ * everyHead sr _ = _
    rw [everyHead_apply, everyHead_apply, lanes_apply H 0 _ _ _ _ _ ⟨e.val % 64, by omega⟩ (by show e.val % 64 = 0 + e.val % 64; omega),
      lanes_apply H 8 _ _ _ _ _ ⟨e.val % 64 + 8, by omega⟩ (by show e.val % 64 + 8 = 8 + e.val % 64; omega),
      at_lane _ e (by show e.val = h.val * 64 + e.val % 64; omega),
      at_lane _ ⟨e.val + 8, by omega⟩ (by show e.val + 8 = h.val * 64 + (e.val % 64 + 8); omega)]
  · rw [dif_neg h8]
    by_cases h16 : e.val % 64 < 16
    · rw [dif_pos h16]
      refine Eq.trans (concatenate_apply_piece (t := S8x8192x4x64) 3 _ _ (ix4 b (position n) h ⟨e.val % 64, by omega⟩) 1 (by show 1 < 3; decide) S8x8192x4x8 _ rfl rfl 8 rfl
        (ix4 b (position n) h (⟨e.val % 64 - 8, by omega⟩ : Fin 8)) (fun b' hb' => off _ b' hb') (by show 8 + (e.val % 64 - 8) = e.val % 64; omega)) ?_
      show extractStridedSlice S8x8192x4x8 _ H _ _ * everyHead cr _ + extractStridedSlice S8x8192x4x8 _ H _ _ * everyHead sr _ = _
      rw [everyHead_apply, everyHead_apply, lanes_apply H 8 _ _ _ _ _ ⟨e.val % 64, by omega⟩ (by show e.val % 64 = 8 + (e.val % 64 - 8); omega),
        lanes_apply H 0 _ _ _ _ _ ⟨e.val % 64 - 8, by omega⟩ (by show e.val % 64 - 8 = 0 + (e.val % 64 - 8); omega),
        at_lane _ e (by show e.val = h.val * 64 + e.val % 64; omega),
        at_lane _ ⟨e.val - 8, by omega⟩ (by show e.val - 8 = h.val * 64 + (e.val % 64 - 8); omega)]
    · rw [dif_neg h16]
      refine Eq.trans (concatenate_apply_piece (t := S8x8192x4x64) 3 _ _ (ix4 b (position n) h ⟨e.val % 64, by omega⟩) 2 (by show 2 < 3; decide) S8x8192x4x48 _ rfl rfl 16 rfl
        (ix4 b (position n) h (⟨e.val % 64 - 16, by omega⟩ : Fin 48)) (fun b' hb' => off _ b' hb') (by show 16 + (e.val % 64 - 16) = e.val % 64; omega)) ?_
      rw [lanes_apply H 16 _ _ _ _ _ ⟨e.val % 64, by omega⟩ (by show e.val % 64 = 16 + (e.val % 64 - 16); omega),
        at_lane _ e (by show e.val = h.val * 64 + e.val % 64; omega)]

/-- Columns of all rows from `o` on. -/
theorem columns_apply {p : ℕ} (X : FVec Ideal S65536x1792 .f32) (o : ℕ) (hs : Shape.Slices S65536x1792 ![0, o] (⟨2, ![65536, p]⟩ : Shape)) (n : Fin 65536)
    (e : Fin p) (r : Fin 1792) (hr : r.val = o + e.val) :
    extractStridedSlice (⟨2, ![65536, p]⟩ : Shape) ![0, o] X hs (ix2 n e) = X (ix2 n r) := by
  refine extractStridedSlice_apply ![0, o] X hs (ix2 n e) (ix2 n r) ?_
  intro a; fin_cases a <;> simp [ix2, hr]

/-- **The reference's first result is the first mixer's queries.** -/
theorem queries_eq : truncf .bf16 (mulf (turnedRows cr sr (extractStridedSlice S65536x256 ![0, 0] (projected x g w) slices_S65536x1792_S65536x256_0_0))
    (broadcastInDim S65536x256 ![] bcast_S_S65536x256 (constant S_ .f32 0x3E000000#32))) bitsLt_bf16_f32 = queries x g w cr sr := by
  funext j
  idx_vars j
  show turnedRows cr sr _ (ix2 j0 j1) * Ideal.ofBits .f32 0x3E000000#32 = _
  rw [turnedRows_apply]
  exact congrArg (fun f => rope f _ _ j1 * Ideal.ofBits .f32 0x3E000000#32) (funext fun e =>
    (columns_apply _ 0 slices_S65536x1792_S65536x256_0_0 j0 e ⟨0 + e.val, by omega⟩ rfl).trans (projected_apply x g w j0 _))

/-- **The reference's second result is the first mixer's keys.** -/
theorem keys_eq : truncf .bf16 (turnedRows cr sr (extractStridedSlice S65536x256 ![0, 256] (projected x g w) slices_S65536x1792_S65536x256_0_256))
    bitsLt_bf16_f32 = keys x g w cr sr := by
  funext j
  idx_vars j
  show turnedRows cr sr _ (ix2 j0 j1) = _
  rw [turnedRows_apply]
  exact congrArg (fun f => rope f _ _ j1) (funext fun e =>
    (columns_apply _ 256 slices_S65536x1792_S65536x256_0_256 j0 e ⟨256 + e.val, by omega⟩ rfl).trans (projected_apply x g w j0 _))

/-- **The reference's third result is the first mixer's values.** -/
theorem values_eq : (truncf .bf16 (extractStridedSlice S65536x256 ![0, 512] (projected x g w) slices_S65536x1792_S65536x256_0_512) bitsLt_bf16_f32
    : FVec Ideal S65536x256 .bf16) = values x g w := by
  funext j
  idx_vars j
  exact (columns_apply _ 512 slices_S65536x1792_S65536x256_0_512 j0 j1 ⟨512 + j1.val, by omega⟩ rfl).trans (projected_apply x g w j0 _)

/-- **The reference's fourth result is the second mixer's values.** -/
theorem sharedValues_eq : (truncf .bf16 (extractStridedSlice S65536x128 ![0, 1408] (projected x g w) slices_S65536x1792_S65536x128_0_1408) bitsLt_bf16_f32
    : FVec Ideal S65536x128 .bf16) = sharedValues x g w := by
  funext j
  idx_vars j
  exact (columns_apply _ 1408 slices_S65536x1792_S65536x128_0_1408 j0 j1 ⟨1408 + j1.val, by omega⟩ rfl).trans (projected_apply x g w j0 _)

/-- **The reference's fifth result is the third mixer's input.** -/
theorem spectral_eq : extractStridedSlice S65536x256 ![0, 1536] (projected x g w) slices_S65536x1792_S65536x256_0_1536 = spectral x g w := by
  funext j
  idx_vars j
  exact (columns_apply _ 1536 slices_S65536x1792_S65536x256_0_1536 j0 j1 ⟨1536 + j1.val, by omega⟩ rfl).trans (projected_apply x g w j0 _)

end Cert.InReferenceIdeal.Point

end
-- ==== Proof.InHead.lean ====
/-
  Heads that get a norm of their own in the input projection: the norm of a head's 64 lanes, the turn of its two halves
  by two angles, the lane tables that turn two heads side by side, and that a normalised row's products are real numbers.
-/
module

public import proofs.«01_k».proof.Proof.InMath
public import proofs.«01_k».proof.Proof.OutMath

@[expose] public section

set_option maxRecDepth 16384

noncomputable section

open Idealize.ShloMosaic
open scoped BigOperators

namespace Cert.In

open Cert.InKernelIdeal Cert.Attention

/-- A lane of a head, normalised by the mean square of the head's lanes, times its gain. -/
def unit (f g : Fin 64 → EReal) (d : Fin 64) : EReal :=
  f d * Ideal.rsqrt (Ideal.div (∑ k : Fin 64, f k * f k) (Ideal.ofBits .f32 0x42800000#32) + Ideal.ofBits .f32 0x358637BD#32) * g d

/-- Four pieces of sixteen lanes one after another. -/
def four (p q r s : Fin 16 → EReal) (d : Fin 64) : EReal :=
  if h : d.val < 16 then p ⟨d.val, h⟩ else if h' : d.val < 32 then q ⟨d.val - 16, by omega⟩
  else if h'' : d.val < 48 then r ⟨d.val - 32, by omega⟩ else s ⟨d.val - 48, by omega⟩

/-- A head's lanes turned: in the lower half lane `d` with lane `d + 16` as the two coordinates of a point in the plane, by
    the angle of cosine `cr d` and sine `sr d`; in the upper half likewise, by the angle of `cc` and `sc`. -/
def axial (y : Fin 64 → EReal) (cr sr cc sc : Fin 16 → EReal) : Fin 64 → EReal :=
  four (fun d => y ⟨d.val, by omega⟩ * cr d - y ⟨d.val + 16, by omega⟩ * sr d)
    (fun d => y ⟨d.val + 16, by omega⟩ * cr d + y ⟨d.val, by omega⟩ * sr d)
    (fun d => y ⟨d.val + 32, by omega⟩ * cc d - y ⟨d.val + 48, by omega⟩ * sc d)
    (fun d => y ⟨d.val + 48, by omega⟩ * cc d + y ⟨d.val + 32, by omega⟩ * sc d)

/-- The lane tables turn two heads side by side: each lane of `y` takes the partner sixteen lanes up or down, around the
    end, and `Y` is the head that lane `l` lies in. -/
theorem lanes_axial (y : Fin 128 → EReal) (Y cr sr cc sc) (l : Fin 128)
    (hy : ∀ d : Fin 64, y ⟨l.val / 64 * 64 + d.val, by omega⟩ = Y d) :
    y l * four cr cr cc cc (within l)
        + (if l.val % 32 < 16 then y ⟨(l.val + 16) % 128, by omega⟩ else y ⟨(l.val + 112) % 128, by omega⟩)
          * four (fun d => -sr d) sr (fun d => -sc d) sc (within l)
      = axial Y cr sr cc sc (within l) := by
  have lane : ∀ (k : Fin 128) (d : Fin 64), k.val = l.val / 64 * 64 + d.val → y k = Y d := fun k d h =>
    (congrArg y (Fin.ext h)).trans (hy d)
  unfold axial four within
  by_cases h16 : l.val % 64 < 16
  · rw [dif_pos h16, dif_pos h16, dif_pos h16, if_pos (by omega), mul_neg, ← sub_eq_add_neg]
    rw [lane l ⟨l.val % 64, by omega⟩ (by show _ = l.val / 64 * 64 + l.val % 64; omega),
      lane ⟨(l.val + 16) % 128, by omega⟩ ⟨l.val % 64 + 16, by omega⟩ (by show (l.val + 16) % 128 = l.val / 64 * 64 + (l.val % 64 + 16); omega)]
  · rw [dif_neg h16, dif_neg h16, dif_neg h16]
    by_cases h32 : l.val % 64 < 32
    · rw [dif_pos h32, dif_pos h32, dif_pos h32, if_neg (by omega)]
      rw [lane l ⟨l.val % 64 - 16 + 16, by omega⟩ (by show _ = l.val / 64 * 64 + (l.val % 64 - 16 + 16); omega),
        lane ⟨(l.val + 112) % 128, by omega⟩ ⟨l.val % 64 - 16, by omega⟩ (by show (l.val + 112) % 128 = l.val / 64 * 64 + (l.val % 64 - 16); omega)]
    · rw [dif_neg h32, dif_neg h32, dif_neg h32]
      by_cases h48 : l.val % 64 < 48
      · rw [dif_pos h48, dif_pos h48, dif_pos h48, if_pos (by omega), mul_neg, ← sub_eq_add_neg]
        rw [lane l ⟨l.val % 64 - 32 + 32, by omega⟩ (by show _ = l.val / 64 * 64 + (l.val % 64 - 32 + 32); omega),
          lane ⟨(l.val + 16) % 128, by omega⟩ ⟨l.val % 64 - 32 + 48, by omega⟩ (by show (l.val + 16) % 128 = l.val / 64 * 64 + (l.val % 64 - 32 + 48); omega)]
      · rw [dif_neg h48, dif_neg h48, dif_neg h48, if_neg (by omega)]
        rw [lane l ⟨l.val % 64 - 48 + 48, by omega⟩ (by show _ = l.val / 64 * 64 + (l.val % 64 - 48 + 48); omega),
          lane ⟨(l.val + 112) % 128, by omega⟩ ⟨l.val % 64 - 48 + 32, by omega⟩ (by show (l.val + 112) % 128 = l.val / 64 * 64 + (l.val % 64 - 48 + 32); omega)]

/-- For real lanes of two heads, the two products with the mask, of the squares and of what is left of them, normalise
    each lane within its head. -/
theorem lanes_unit (y : Fin 128 → EReal) (hy : ∀ k, Finite (y k)) (g : Fin 64 → EReal) (l : Fin 128) :
    y l * Ideal.rsqrt ((∑ k : Fin 128, y k * y k * Cert.Out.mask k l) + (∑ k : Fin 128, (y k * y k - y k * y k) * Cert.Out.mask k l)
        + Ideal.ofBits .f32 0x358637BD#32) * g (within l)
      = unit (fun d => y ⟨l.val / 64 * 64 + d.val, by omega⟩) g (within l) := by
  obtain ⟨r, hr⟩ : ∃ r : Fin 128 → ℝ, ∀ k, y k = (r k : EReal) :=
    ⟨fun k => (y k).toReal, fun k => (EReal.coe_toReal (hy k).1 (hy k).2).symm⟩
  have z : ∀ a : ℝ, ((a : ℝ) : EReal) * (a : EReal) - (a : EReal) * (a : EReal) = 0 := fun a => by
    rw [← EReal.coe_mul, ← EReal.coe_sub, sub_self, EReal.coe_zero]
  have e : (⟨l.val / 64 * 64 + (within l).val, by have := (within l).isLt; omega⟩ : Fin 128) = l :=
    Fin.ext (by show l.val / 64 * 64 + l.val % 64 = l.val; omega)
  unfold unit
  simp only [e, hr]
  rw [Cert.Out.mask_sum r l]
  simp only [z, zero_mul, Finset.sum_const_zero, add_zero]

/-! ## A normalised row is real -/

/-- A product of real numbers is a real number. -/
theorem finite_mul {a b : EReal} (ha : Finite a) (hb : Finite b) : Finite (a * b) := by
  lift a to ℝ using ha
  lift b to ℝ using hb
  rw [← EReal.coe_mul]
  exact ⟨EReal.coe_ne_top _, EReal.coe_ne_bot _⟩

/-- A square is not negative. -/
theorem square_nonneg (a : EReal) : 0 ≤ a * a := by
  induction a with
  | bot => simp
  | coe r => rw [← EReal.coe_mul]; exact EReal.coe_nonneg.mpr (mul_self_nonneg r)
  | top => simp

/-- The square of a value that is not a real number is plus infinity. -/
theorem square_top {a : EReal} (ha : ¬ Finite a) : a * a = ⊤ := by
  induction a with
  | bot => simp
  | coe r => exact absurd ⟨EReal.coe_ne_top _, EReal.coe_ne_bot _⟩ ha
  | top => simp

/-- The word of the rows' divisor is the number 1024. -/
theorem ofBits_1024 : Ideal.ofBits .f32 0x44800000#32 = ((1024 : ℝ) : EReal) := by
  simp [Ideal.ofBits, Ideal.ieee]
  rw [← EReal.coe_mul]; norm_num

/-- The word added to the mean square is a positive number. -/
theorem ofBits_small : ∃ s : ℝ, 0 < s ∧ Ideal.ofBits .f32 0x358637BD#32 = (s : EReal) := by
  refine ⟨8796093 / 8796093022208, by positivity, ?_⟩
  simp [Ideal.ofBits, Ideal.ieee]
  rw [← EReal.coe_mul]; norm_num

/-- Every element of a normalised row is a real number if its gain is, whatever the row: where an element is infinite the
    reciprocal root is zero, and the normalised row with it. -/
theorem norm_finite (f : Fin 1024 → EReal) (e : Fin 1024) (g : EReal) (hg : Finite g) : Finite (Cert.Ffn.norm f e g) := by
  refine finite_mul ?_ hg
  obtain ⟨s, hs, h⟩ := ofBits_small
  rw [h, ofBits_1024, Ideal.div_coe (by norm_num)]
  by_cases hf : ∀ k, Finite (f k)
  · obtain ⟨r, hr⟩ : ∃ r : Fin 1024 → ℝ, ∀ k, f k = (r k : EReal) :=
      ⟨fun k => (f k).toReal, fun k => (EReal.coe_toReal (hf k).1 (hf k).2).symm⟩
    have pos : 0 < (∑ k : Fin 1024, r k * r k) * (1 / 1024) + s :=
      add_pos_of_nonneg_of_pos (mul_nonneg (Finset.sum_nonneg fun k _ => mul_self_nonneg _) (by norm_num)) hs
    have sum : ∑ k : Fin 1024, f k * f k = ((∑ k : Fin 1024, r k * r k : ℝ) : EReal) := by
      rw [Cert.Softmax.coe_sum]
      exact Finset.sum_congr rfl fun k _ => by rw [hr, EReal.coe_mul]
    rw [sum, ← EReal.coe_mul, ← EReal.coe_add, Ideal.rsqrt_coe, if_neg (not_lt.mpr pos.le), if_neg pos.ne']
    exact finite_mul (hf e) ⟨EReal.coe_ne_top _, EReal.coe_ne_bot _⟩
  · obtain ⟨k, hk⟩ := not_forall.mp hf
    have top : ∑ k : Fin 1024, f k * f k = ⊤ := by
      refine top_le_iff.mp ?_
      rw [← square_top hk]
      exact Finset.single_le_sum (f := fun k => f k * f k) (fun i _ => square_nonneg (f i)) (Finset.mem_univ k)
    rw [top, EReal.top_mul_coe_of_pos (by norm_num), EReal.top_add_coe, Ideal.rsqrt_top, mul_zero]
    exact ⟨EReal.zero_ne_top, EReal.zero_ne_bot⟩

/-- A channel of a projected row is a real number if the gains and the channel's weights are. -/
theorem line_finite (f G : Fin 1024 → EReal) (W : Fin 1024 → Fin 1792 → EReal) (o : Fin 1792) (hG : ∀ k, Finite (G k)) (hW : ∀ k, Finite (W k o)) :
    Finite (line f G W o) := by
  have h : ∀ k, Finite (Cert.Ffn.norm f k (G k) * W k o) := fun k => finite_mul (norm_finite f k _ (hG k)) (hW k)
  have e : line f G W o = ((∑ k : Fin 1024, (Cert.Ffn.norm f k (G k) * W k o).toReal : ℝ) : EReal) := by
    rw [Cert.Softmax.coe_sum]
    exact Finset.sum_congr rfl fun k _ => (EReal.coe_toReal (h k).1 (h k).2).symm
  rw [e]
  exact ⟨EReal.coe_ne_top _, EReal.coe_ne_bot _⟩

/-! ## The second mixer's queries and keys -/

/-- Lanes from `o` on, grouped by heads, each head normalised and turned: lane `e`. -/
def headLane (p : Fin 1792 → EReal) (g : Fin 64 → EReal) (cr sr cc sc : Fin 16 → EReal) (o : ℕ) (e : ℕ) (h : o + e / 64 * 64 + 64 ≤ 1792) : EReal :=
  axial (unit (fun d => p ⟨o + e / 64 * 64 + d.val, by omega⟩) g) cr sr cc sc ⟨e % 64, by omega⟩

variable (x : Vec Ideal S65536x1024 .f32) (g : Vec Ideal S1024 .f32) (w : Vec Ideal S1024x1792 .f32) (gh : Vec Ideal S64 .f32)
  (cr sr cc sc : Vec Ideal S8192x16 .f32)

/-- The channels from `o` on of every row's projection, each head normalised with the gain `gh` and turned by the angles
    of the row's position. -/
def headsFrom (o : ℕ) (n : Fin 65536) (e : ℕ) (h : o + e / 64 * 64 + 64 ≤ 1792) : EReal :=
  headLane (proj x g w n) (fun d => gh (ix1 d)) (fun d => cr (ix2 (position n) d)) (fun d => sr (ix2 (position n) d))
    (fun d => cc (ix2 (position n) d)) (fun d => sc (ix2 (position n) d)) o e h

/-- The second mixer's queries, scaled by an eighth. -/
def gridQueries : Vec Ideal S65536x512 .bf16 := fun j =>
  headsFrom x g w gh cr sr cc sc 768 (j 0) (j 1).val (by have : (j 1).val < 512 := (j 1).isLt; omega) * Ideal.ofBits .f32 0x3E000000#32

/-- The second mixer's keys. -/
def gridKeys : Vec Ideal S65536x128 .bf16 := fun j =>
  headsFrom x g w gh cr sr cc sc 1280 (j 0) (j 1).val (by have : (j 1).val < 128 := (j 1).isLt; omega)

end Cert.In

end
-- ==== Proof.InHeadPoint.lean ====
/-
  What one point of the input projection's grid computes from the blocks it has staged, for the second mixer's queries and
  keys: columns of the product of the normalised rows, each head normalised by the product with the mask and then turned.
-/
module

public import proofs.«01_k».proof.Proof.InHead
public import proofs.«01_k».proof.Proof.InPoint

@[expose] public section

set_option maxRecDepth 16384

noncomputable section

open Idealize.ShloMosaic
open scoped BigOperators

namespace Cert.InKernelIdeal.Point

open Cert.InKernelIdeal Cert.InKernelIdeal.Gen Cert.In Cert.Attention

/-- Two heads side by side, each normalised by the product of its squares with the mask, times the gain. -/
def unitHeads (o : FVec Ideal S512x128 .f32) (g : FVec Ideal S1x128 .f32) (M : Vec Ideal S128x128 .bf16) : FVec Ideal S512x128 .f32 :=
  mulf (mulf o (rsqrt (addf (addf
      (matmul (φ₂ := .bf16) dot_S512x128_S128x128_S512x128_1_0_0_1_n_n none (truncf .bf16 (mulf o o) bitsLt_bf16_f32 : FVec Ideal S512x128 .bf16) M (constant S512x128 .f32 0x00000000#32))
      (matmul (φ₂ := .bf16) dot_S512x128_S128x128_S512x128_1_0_0_1_n_n none (truncf .bf16 (subf (mulf o o) (extf .f32 (truncf .bf16 (mulf o o) bitsLt_bf16_f32 : FVec Ideal S512x128 .bf16) bitsLt_bf16_f32)) bitsLt_bf16_f32 : FVec Ideal S512x128 .bf16) M (constant S512x128 .f32 0x00000000#32)))
      (broadcast S512x128 (Scalar.ofBits .f32 0x358637BD#32)))))
    (broadcastTo S512x128 g broadcasts_S1x128_S512x128)

/-- Two normalised heads at a lane. -/
theorem unitHeads_apply (o : FVec Ideal S512x128 .f32) (g : FVec Ideal S1x128 .f32) (M : Vec Ideal S128x128 .bf16) (i : Fin 512) (l : Fin 128) :
    unitHeads o g M (ix2 i l)
      = o (ix2 i l) * Ideal.rsqrt ((∑ k : Fin 128, o (ix2 i k) * o (ix2 i k) * M (ix2 k l))
          + (∑ k : Fin 128, (o (ix2 i k) * o (ix2 i k) - o (ix2 i k) * o (ix2 i k)) * M (ix2 k l))
          + Ideal.ofBits .f32 0x358637BD#32) * g (ix2 0 l) := by
  pointwise [unitHeads]

/-- Two heads side by side, both halves of each turned by the lane tables. -/
def turnedHalves (y C S : FVec Ideal S512x128 .f32) : FVec Ideal S512x128 .f32 := turnedBy (lowOf 32#32 16#32) 112#32 16#32 y C S

/-- Two heads with turned halves at a lane. -/
theorem turnedHalves_apply (y C S : FVec Ideal S512x128 .f32) (i : Fin 512) (l : Fin 128) :
    turnedHalves y C S (ix2 i l) = y (ix2 i l) * C (ix2 i l)
      + (if l.val % 32 < 16 then y (ix2 i ⟨(l.val + 16) % 128, by omega⟩) else y (ix2 i ⟨(l.val + 112) % 128, by omega⟩)) * S (ix2 i l) :=
  turnedBy_apply _ 112#32 16#32 16 (by decide) (by decide) (by decide) (by decide) lowHalf_apply y C S i l

section Rows

variable (x0 : Vec Ideal S512x1024 .f32) (x1 : Vec Ideal S1x1024 .f32) (x2 : Vec Ideal S1024x1792 .bf16) (x3 x4 : Vec Ideal S1x128 .f32)
  (x5 x6 x7 x8 : Vec Ideal S512x128 .f32) (x9 : Vec Ideal S128x128 .bf16)

/-- Two heads taken out of 256 columns, normalised with a gain and turned by the staged tables: `p` holds a row's channels,
    `o` is where the 256 columns begin, `a` where the two heads begin within them. -/
theorem normedHeads_apply (Y : FVec Ideal S512x256 .f32) (p : Fin 1792 → EReal) (g : Fin 64 → EReal) (cr sr cc sc : Fin 16 → EReal) (i : Fin 512)
    (o : ℕ) (ho : o + 256 ≤ 1792) (hY : ∀ e : Fin 256, Y (ix2 i e) = p ⟨o + e.val, by omega⟩)
    (x : FVec Ideal S1x128 .f32) (hx : ∀ l : Fin 128, x (ix2 0 l) = g (within l))
    (h7 : ∀ l : Fin 128, x7 (ix2 i l) = four cr cr cc cc (within l))
    (h8 : ∀ l : Fin 128, x8 (ix2 i l) = four (fun d => -sr d) sr (fun d => -sc d) sc (within l))
    (h9 : ∀ k l : Fin 128, x9 (ix2 k l) = Cert.Out.mask k l) (a : ℕ) (ha : a % 64 = 0) (h256 : a + 128 ≤ 256)
    (hp : ∀ k : Fin 128, Finite (p ⟨o + (a + k.val), by omega⟩)) (hs : Shape.Slices S512x256 ![0, a] S512x128) (o' : ℕ) (e : ℕ) (h : o' + e / 64 * 64 + 64 ≤ 1792) (l : Fin 128) (ho' : o' % 64 = o % 64)
    (he : o' + e = o + a + l.val) (hm : e % 64 = l.val % 64) :
    turnedHalves (unitHeads (extractStridedSlice S512x128 ![0, a] Y hs) x (View.ld x9 r0_11)) (k0_pay4 (View.ld x7 r0_2)) (k0_pay5 (View.ld x8 r0_2)) (ix2 i l)
      = headLane p g cr sr cc sc o' e h := by
  have hy : ∀ l : Fin 128, extractStridedSlice S512x128 ![0, a] Y hs (ix2 i l) = p ⟨o + (a + l.val), by omega⟩ := fun l => by
    refine (extractStridedSlice_apply ![0, a] _ hs (ix2 i l) (ix2 i ⟨a + l.val, by omega⟩) (by intro b; fin_cases b <;> simp [ix2])).trans ?_
    exact hY _
  have e7 : k0_pay4 (F := Ideal) (View.ld x7 r0_2) (ix2 i l) = four cr cr cc cc (within l) := by
    rw [View.ld_unit_zero (Val := Elt Ideal) zeros inb_S512x128_S512x128_0_0, ← h7 l]
    pointwise [k0_pay4]
  have e8 : k0_pay5 (F := Ideal) (View.ld x8 r0_2) (ix2 i l) = four (fun d => -sr d) sr (fun d => -sc d) sc (within l) := by
    rw [View.ld_unit_zero (Val := Elt Ideal) zeros inb_S512x128_S512x128_0_0, ← h8 l]
    pointwise [k0_pay5]
  have u : ∀ l : Fin 128, unitHeads (extractStridedSlice S512x128 ![0, a] Y hs) x (View.ld x9 r0_11) (ix2 i l)
      = unit (fun d => p ⟨o + (a + (l.val / 64 * 64 + d.val)), by omega⟩) g (within l) := fun l => by
    rw [unitHeads_apply, View.ld_unit_zero (Val := Elt Ideal) zeros inb_S128x128_S128x128_0_0]
    simp only [hy, h9, hx]
    exact lanes_unit (fun k => p ⟨o + (a + k.val), by omega⟩) hp g l
  rw [turnedHalves_apply, e7, e8]
  refine (lanes_axial (fun l => unitHeads (extractStridedSlice S512x128 ![0, a] Y hs) x (View.ld x9 r0_11) (ix2 i l))
    (unit (fun d => p ⟨o' + e / 64 * 64 + d.val, by omega⟩) g) cr sr cc sc l (fun d => ?_)).trans ?_
  · refine (u _).trans ?_
    have f : (fun d' : Fin 64 => p ⟨o + (a + ((l.val / 64 * 64 + d.val) / 64 * 64 + d'.val)), by omega⟩)
        = fun d' : Fin 64 => p ⟨o' + e / 64 * 64 + d'.val, by omega⟩ :=
      funext fun d' => congrArg p (Fin.ext (by show _ = _; simp only []; omega))
    have w : within ⟨l.val / 64 * 64 + d.val, by omega⟩ = d := Fin.ext (by show (l.val / 64 * 64 + d.val) % 64 = d.val; omega)
    rw [w]
    exact congrArg (fun f => unit f g d) f
  · exact congrArg (axial _ cr sr cc sc) (Fin.ext hm.symm)

variable (f : Fin 1024 → EReal) (G : Fin 1024 → EReal) (W : Fin 1024 → Fin 1792 → EReal) (gq gk : Fin 64 → EReal) (cr sr cc sc : Fin 16 → EReal)
  (i : Fin 512) (h0 : ∀ k : Fin 1024, x0 (ix2 i k) = f k) (h1 : ∀ k : Fin 1024, x1 (ix2 0 k) = G k)
  (h2 : ∀ (k : Fin 1024) (o : Fin 1792), x2 (ix2 k o) = W k o)
  (h3 : ∀ l : Fin 128, x3 (ix2 0 l) = gq (within l)) (h4 : ∀ l : Fin 128, x4 (ix2 0 l) = gk (within l))
  (h7 : ∀ l : Fin 128, x7 (ix2 i l) = four cr cr cc cc (within l))
  (h8 : ∀ l : Fin 128, x8 (ix2 i l) = four (fun d => -sr d) sr (fun d => -sc d) sc (within l))
  (h9 : ∀ k l : Fin 128, x9 (ix2 k l) = Cert.Out.mask k l)
  (hG : ∀ k, Finite (G k)) (hW : ∀ (k : Fin 1024) (o : Fin 1792), 768 ≤ o.val → o.val < 1408 → Finite (W k o))

include h0 h1 h2 h7 h8 h9 hG hW

include h3 in
/-- The block of the second mixer's queries. -/
theorem gridQueries_block (e : Fin 512) :
    out0_13 (F := Ideal) x0 x1 x2 x3 x4 x5 x6 x7 x8 x9 (ix2 i e)
      = headLane (line f G W) gq cr sr cc sc 768 e.val (by omega) * Ideal.ofBits .f32 0x3E000000#32 := by
  have gain : ∀ l : Fin 128, k0_pay25 (F := Ideal) (View.ld x3 r0_9) (ix2 0 l) = gq (within l) := fun l => by
    rw [View.ld_unit_zero (Val := Elt Ideal) zeros inb_S1x128_S1x128_0_0, ← h3 l]
    pointwise [k0_pay25]
  have part := fun (o : ℕ) (ho : o + 256 ≤ 1792) (lo : 768 ≤ o) (hi : o + 256 ≤ 1280) (inb) (a : ℕ) (ha : a % 64 = 0) (h256 : a + 128 ≤ 256) =>
    normedHeads_apply x7 x8 x9 _ (line f G W) gq cr sr cc sc i o ho (columns_apply x0 x1 x2 f G W i h0 h1 h2 o ho inb)
      (k0_pay25 (F := Ideal) (View.ld x3 r0_9)) gain h7 h8 h9 a ha h256
      (fun k => line_finite f G W _ hG fun j => hW j _ (by show 768 ≤ o + (a + k.val); omega) (by show o + (a + k.val) < 1408; omega))
  unfold out0_13
  canon_tiles y h
  · idx_vars y
    obtain rfl : y0 = i := Fin.ext h0.symm
    exact congrArg (· * Ideal.ofBits .f32 0x3E000000#32)
      (part 1024 (by decide) (by decide) (by decide) inb_S1024x1792_S1024x256_0_1024 128 (by decide) (by decide) slices_S512x256_o0_128_S512x128 768 e.val _ y1 (by decide) (by omega) (by omega))
  · idx_vars y
    obtain rfl : y0 = i := Fin.ext h0.symm
    exact congrArg (· * Ideal.ofBits .f32 0x3E000000#32)
      (part 1024 (by decide) (by decide) (by decide) inb_S1024x1792_S1024x256_0_1024 0 (by decide) (by decide) slices_S512x256_o0_0_S512x128 768 e.val _ y1 (by decide) (by omega) (by omega))
  · idx_vars y
    obtain rfl : y0 = i := Fin.ext h0.symm
    exact congrArg (· * Ideal.ofBits .f32 0x3E000000#32)
      (part 768 (by decide) (by decide) (by decide) inb_S1024x1792_S1024x256_0_768 128 (by decide) (by decide) slices_S512x256_o0_128_S512x128 768 e.val _ y1 (by decide) (by omega) (by omega))
  · idx_vars y
    obtain rfl : y0 = i := Fin.ext h0.symm
    exact congrArg (· * Ideal.ofBits .f32 0x3E000000#32)
      (part 768 (by decide) (by decide) (by decide) inb_S1024x1792_S1024x256_0_768 0 (by decide) (by decide) slices_S512x256_o0_0_S512x128 768 e.val _ y1 (by decide) (by omega) (by omega))

include h4 in
/-- The block of the second mixer's keys: the lower half of the 256 columns from 1280 on. -/
theorem gridKeys_block (e : Fin 128) :
    out0_14 (F := Ideal) x0 x1 x2 x3 x4 x5 x6 x7 x8 x9 (ix2 i e)
      = headLane (line f G W) gk cr sr cc sc 1280 e.val (by omega) := by
  have gain : ∀ l : Fin 128, k0_pay26 (F := Ideal) (View.ld x4 r0_9) (ix2 0 l) = gk (within l) := fun l => by
    rw [View.ld_unit_zero (Val := Elt Ideal) zeros inb_S1x128_S1x128_0_0, ← h4 l]
    pointwise [k0_pay26]
  unfold out0_14
  rw [View.canon_unit_zero (Val := Elt Ideal) zeros inb_S512x128_S512x128_0_0]
  exact normedHeads_apply x7 x8 x9 _ (line f G W) gk cr sr cc sc i 1280 (by decide)
    (columns_apply x0 x1 x2 f G W i h0 h1 h2 1280 (by decide) inb_S1024x1792_S1024x256_0_1280)
    (k0_pay26 (F := Ideal) (View.ld x4 r0_9)) gain h7 h8 h9 0 (by decide) (by decide)
    (fun k => line_finite f G W _ hG fun j => hW j _ (by show 768 ≤ 1280 + (0 + k.val); omega) (by show 1280 + (0 + k.val) < 1408; omega))
    slices_S512x256_o0_0_S512x128 1280 e.val _ e (by decide) (by omega) rfl

end Rows

end Cert.InKernelIdeal.Point

end
-- ==== Proof.InTable.lean ====
/-
  The input projection's table of the mask that sums the lanes of a head: its word at two lanes of 128.
-/
module

public import proofs.«01_k».proof.InKernelIdeal

@[expose] public section

set_option maxRecDepth 16384

namespace Cert.In

open Cert.InKernelIdeal

/-- The words of a row of the first head. -/
theorem upper_word (i r : ℕ) (h : i % 128 = r) (hr : r < 128) : lit0t0_0 i = if r < 64 then 0x3C80#16 else 0#16 := by
  unfold lit0t0_0
  rw [h]
  clear h
  revert r
  decide

/-- The words of a row of the second head. -/
theorem lower_word (i r : ℕ) (h : i % 128 = r) (hr : r < 128) : lit0t0_64 i = if r < 64 then 0#16 else 0x3C80#16 := by
  unfold lit0t0_64
  rw [h]
  clear h
  revert r
  decide

/-- The rows of a head are all alike. -/
theorem row_words (i q : ℕ) (h : i / 128 = q) (hq : q < 128) : lit0t i = if q < 64 then lit0t0_0 i else lit0t0_64 i := by
  unfold lit0t
  rw [h]
  obtain ⟨a, rfl⟩ : ∃ a : Fin 128, a.val = q := ⟨⟨q, hq⟩, rfl⟩
  fin_cases a <;> rfl

/-- The table of the mask, word by word. -/
theorem table_eq (k l : Fin 128) (i : ℕ) (hi : i = k.val * 128 + l.val) :
    lit0t i = if k.val / 64 = l.val / 64 then 0x3C80#16 else 0#16 := by
  rw [row_words i k.val (by omega) k.isLt]
  by_cases hk : k.val < 64
  · rw [if_pos hk, upper_word i l.val (by omega) l.isLt]
    by_cases hl : l.val < 64
    · rw [if_pos hl, if_pos (by omega)]
    · rw [if_neg hl, if_neg (by omega)]
  · rw [if_neg hk, lower_word i l.val (by omega) l.isLt]
    by_cases hl : l.val < 64
    · rw [if_pos hl, if_neg (by omega)]
    · rw [if_neg hl, if_pos (by omega)]

end Cert.In

end
-- ==== Proof.InHeadArray.lean ====
/-
  The kernel's result arrays of the input projection whose heads get a norm of their own: the blocks of the grid's points
  cover them, and every block holds the second mixer's queries and keys.
-/
module

public import proofs.«01_k».proof.Proof.InHeadPoint
public import proofs.«01_k».proof.Proof.InArray
public import proofs.«01_k».proof.Proof.InTable

@[expose] public section

set_option maxRecDepth 16384

noncomputable section

open Idealize.ShloMosaic Idealize.ShloMosaic.TcCoe
open scoped BigOperators

namespace Cert.InKernelIdeal.Point

open Cert.InKernelIdeal Cert.InKernelIdeal.Gen Cert.In Cert.InKernelIdeal.Facts Cert.Attention

/-- The lanes' table of four pieces of sixteen lanes. -/
theorem pieces_apply (p q r u : FVec Ideal S8192x16 .f32) (s : Fin 8192) (d : Fin 64) :
    (concatenate S8192x64 1 [⟨S8192x16, p⟩, ⟨S8192x16, q⟩, ⟨S8192x16, r⟩, ⟨S8192x16, u⟩]
      concatenates_S8192x16_S8192x16_S8192x16_S8192x16_S8192x64_d1 : FVec Ideal S8192x64 .f32) (ix2 s d)
      = four (fun d => p (ix2 s d)) (fun d => q (ix2 s d)) (fun d => r (ix2 s d)) (fun d => u (ix2 s d)) d := by
  have off (a : Fin 16) (b : Fin 2) (hb : b ≠ 1) : ((ix2 s a b : Fin _) : ℕ) = (ix2 s d b : Fin _) := by
    fin_cases b
    · rfl
    · exact absurd rfl hb
  unfold four
  by_cases h16 : d.val < 16
  · rw [dif_pos h16]
    exact concatenate_apply_piece (t := S8192x64) 1 _ _ (ix2 s d) 0 (by show 0 < 4; decide) S8192x16 _ rfl rfl 0 rfl (ix2 s (⟨d.val, h16⟩ : Fin 16))
      (fun b hb => off _ b hb) (by show 0 + d.val = d.val; omega)
  · rw [dif_neg h16]
    by_cases h32 : d.val < 32
    · rw [dif_pos h32]
      exact concatenate_apply_piece (t := S8192x64) 1 _ _ (ix2 s d) 1 (by show 1 < 4; decide) S8192x16 _ rfl rfl 16 rfl (ix2 s (⟨d.val - 16, by omega⟩ : Fin 16))
        (fun b hb => off _ b hb) (by show 16 + (d.val - 16) = d.val; omega)
    · rw [dif_neg h32]
      by_cases h48 : d.val < 48
      · rw [dif_pos h48]
        exact concatenate_apply_piece (t := S8192x64) 1 _ _ (ix2 s d) 2 (by show 2 < 4; decide) S8192x16 _ rfl rfl 32 rfl (ix2 s (⟨d.val - 32, by omega⟩ : Fin 16))
          (fun b hb => off _ b hb) (by show 32 + (d.val - 32) = d.val; omega)
      · rw [dif_neg h48]
        exact concatenate_apply_piece (t := S8192x64) 1 _ _ (ix2 s d) 3 (by show 3 < 4; decide) S8192x16 _ rfl rfl 48 rfl (ix2 s (⟨d.val - 48, by omega⟩ : Fin 16))
          (fun b hb => off _ b hb) (by show 48 + (d.val - 48) = d.val; omega)

/-- A head's gain laid over two heads. -/
theorem twice_apply (v : FVec Ideal S64 .f32) (l : Fin 128) :
    (shapeCast S1x128 (broadcastInDim S1x1x2x64 ![0, 1, 2, 3] bcast_S1x1x1x64_S1x1x2x64_0_1_2_3
      (shapeCast S1x1x1x64 (broadcastInDim S1x64 ![1] bcast_S64_S1x64_1 v) shapeCasts_S1x64_S1x1x1x64 : FVec Ideal S1x1x1x64 .f32)) shapeCasts_S1x1x2x64_S1x128 : FVec Ideal S1x128 .f32) (ix2 0 l)
      = v (ix1 (within l)) := by
  pointwise [within]

variable (m : (ℓ : Loc nD τ sig) → Buf (Elt Ideal) ℓ) (c : Dev nD)

/-- At every point window 3 is its whole array. -/
theorem index3 : ∀ t : Fin cfg0.N, win0_3.index t = ![0, 0] := by decide +kernel
/-- At every point window 4 is its whole array. -/
theorem index4 : ∀ t : Fin cfg0.N, win0_4.index t = ![0, 0] := by decide +kernel
/-- At point `t` window 7 is the block of positions that its rows have. -/
theorem index7 : ∀ t : Fin cfg0.N, win0_7.index t = ![t.val % 16, 0] := by decide +kernel
/-- At point `t` window 8 is the block of positions that its rows have. -/
theorem index8 : ∀ t : Fin cfg0.N, win0_8.index t = ![t.val % 16, 0] := by decide +kernel
/-- At every point window 9 is its whole array. -/
theorem index9 : ∀ t : Fin cfg0.N, win0_9.index t = ![0, 0] := by decide +kernel
/-- At point `t` window 13 is its block of rows number `t`. -/
theorem index13 : ∀ t : Fin cfg0.N, win0_13.index t = ![t.val, 0] := by decide +kernel
/-- At point `t` window 14 is its block of rows number `t`. -/
theorem index14 : ∀ t : Fin cfg0.N, win0_14.index t = ![t.val, 0] := by decide +kernel

/-- The gain of the queries' heads. -/
theorem queryGain_apply (t : Fin cfg0.N) (l : Fin 128) : iblk m c 3 t (ix2 0 l) = m ((c : Thread nD τ).loc main_arg3) (ix1 (within l)) := by
  have e : V m c main_v26 = shapeCast S1x128 (broadcastInDim S1x1x2x64 ![0, 1, 2, 3] bcast_S1x1x1x64_S1x1x2x64_0_1_2_3
      (shapeCast S1x1x1x64 (broadcastInDim S1x64 ![1] bcast_S64_S1x64_1 (m ((c : Thread nD τ).loc main_arg3) : FVec Ideal S64 .f32)) shapeCasts_S1x64_S1x1x1x64 : FVec Ideal S1x1x1x64 .f32)) shapeCasts_S1x1x2x64_S1x128 := by
    after_results <;> rfl
  blk_simp [iblk]
  rw [e]
  refine (congrArg _ ?_).trans (twice_apply _ l)
  blk_ext [index3]

/-- The gain of the keys' heads. -/
theorem keyGain_apply (t : Fin cfg0.N) (l : Fin 128) : iblk m c 4 t (ix2 0 l) = m ((c : Thread nD τ).loc main_arg4) (ix1 (within l)) := by
  have e : V m c main_v30 = shapeCast S1x128 (broadcastInDim S1x1x2x64 ![0, 1, 2, 3] bcast_S1x1x1x64_S1x1x2x64_0_1_2_3
      (shapeCast S1x1x1x64 (broadcastInDim S1x64 ![1] bcast_S64_S1x64_1 (m ((c : Thread nD τ).loc main_arg4) : FVec Ideal S64 .f32)) shapeCasts_S1x64_S1x1x1x64 : FVec Ideal S1x1x1x64 .f32)) shapeCasts_S1x1x2x64_S1x128 := by
    after_results <;> rfl
  blk_simp [iblk]
  rw [e]
  refine (congrArg _ ?_).trans (twice_apply _ l)
  blk_ext [index4]

/-- The cosines of the two halves over the lanes. -/
theorem halfCosines_apply (t : Fin cfg0.N) (i : Fin 512) (l : Fin 128) :
    iblk m c 7 t (ix2 i l) = four (fun d => m ((c : Thread nD τ).loc main_arg7) (ix2 (position (row t i)) d)) (fun d => m ((c : Thread nD τ).loc main_arg7) (ix2 (position (row t i)) d))
      (fun d => m ((c : Thread nD τ).loc main_arg9) (ix2 (position (row t i)) d)) (fun d => m ((c : Thread nD τ).loc main_arg9) (ix2 (position (row t i)) d)) (within l) := by
  have e : V m c main_v17 = shapeCast S8192x128 (broadcastInDim S1x8192x2x64 ![0, 1, 2, 3] bcast_S1x8192x1x64_S1x8192x2x64_0_1_2_3
      (shapeCast S1x8192x1x64 (concatenate S8192x64 1 [⟨S8192x16, (m ((c : Thread nD τ).loc main_arg7) : FVec Ideal S8192x16 .f32)⟩, ⟨S8192x16, (m ((c : Thread nD τ).loc main_arg7) : FVec Ideal S8192x16 .f32)⟩,
        ⟨S8192x16, (m ((c : Thread nD τ).loc main_arg9) : FVec Ideal S8192x16 .f32)⟩, ⟨S8192x16, (m ((c : Thread nD τ).loc main_arg9) : FVec Ideal S8192x16 .f32)⟩]
        concatenates_S8192x16_S8192x16_S8192x16_S8192x16_S8192x64_d1 : FVec Ideal S8192x64 .f32) shapeCasts_S8192x64_S1x8192x1x64 : FVec Ideal S1x8192x1x64 .f32)) shapeCasts_S1x8192x2x64_S8192x128 := by
    after_results <;> rfl
  blk_simp [iblk]
  rw [e]
  refine (congrArg _ (?_ : _ = ix2 (position (row t i)) l)).trans ((tile_apply _ _ _).trans (pieces_apply _ _ _ _ _ _))
  blk_ext [index7, row, position]

/-- The sines of the two halves over the lanes. -/
theorem halfSines_apply (t : Fin cfg0.N) (i : Fin 512) (l : Fin 128) :
    iblk m c 8 t (ix2 i l) = four (fun d => -(show EReal from m ((c : Thread nD τ).loc main_arg8) (ix2 (position (row t i)) d))) (fun d => m ((c : Thread nD τ).loc main_arg8) (ix2 (position (row t i)) d))
      (fun d => -(show EReal from m ((c : Thread nD τ).loc main_arg10) (ix2 (position (row t i)) d))) (fun d => m ((c : Thread nD τ).loc main_arg10) (ix2 (position (row t i)) d)) (within l) := by
  have e : V m c main_v20 = shapeCast S8192x128 (broadcastInDim S1x8192x2x64 ![0, 1, 2, 3] bcast_S1x8192x1x64_S1x8192x2x64_0_1_2_3
      (shapeCast S1x8192x1x64 (concatenate S8192x64 1 [⟨S8192x16, (Host.negf (m ((c : Thread nD τ).loc main_arg8)) : FVec Ideal S8192x16 .f32)⟩, ⟨S8192x16, (m ((c : Thread nD τ).loc main_arg8) : FVec Ideal S8192x16 .f32)⟩,
        ⟨S8192x16, (Host.negf (m ((c : Thread nD τ).loc main_arg10)) : FVec Ideal S8192x16 .f32)⟩, ⟨S8192x16, (m ((c : Thread nD τ).loc main_arg10) : FVec Ideal S8192x16 .f32)⟩]
        concatenates_S8192x16_S8192x16_S8192x16_S8192x16_S8192x64_d1 : FVec Ideal S8192x64 .f32) shapeCasts_S8192x64_S1x8192x1x64 : FVec Ideal S1x8192x1x64 .f32)) shapeCasts_S1x8192x2x64_S8192x128 := by
    after_results <;> rfl
  blk_simp [iblk]
  rw [e]
  refine (congrArg _ (?_ : _ = ix2 (position (row t i)) l)).trans ((tile_apply _ _ _).trans ((pieces_apply _ _ _ _ _ _).trans ?_))
  · blk_ext [index8, row, position]
  · rfl

/-- The mask. -/
theorem mask_apply (t : Fin cfg0.N) (k l : Fin 128) : iblk m c 9 t (ix2 k l) = Cert.Out.mask k l := by
  have h : V m c main_cst = fun i => FloatOps.ofBits (F := Ideal) .bf16 (lit0 (S128x128.rowMajor i)) := by
    rfl
  have w : ∀ j : S128x128.Idx, j = ix2 k l → FloatOps.ofBits (F := Ideal) .bf16 (lit0 (S128x128.rowMajor j)) = Cert.Out.mask k l := fun j hj => by
    subst hj
    have e : lit0 (S128x128.rowMajor (ix2 k l)) = if k.val / 64 = l.val / 64 then 0x3C80#16 else 0#16 :=
      table_eq k l _ (Shape.rowMajor_val_two _)
    rw [e]
    unfold Cert.Out.mask
    by_cases hkl : k.val / 64 = l.val / 64
    · rw [if_pos hkl, if_pos hkl]
      exact Cert.Out.ofBits_mask
    · rw [if_neg hkl, if_neg hkl]
      exact Cert.Out.ofBits_zero
  blk_simp [iblk]
  rw [h]
  refine w _ ?_
  blk_ext [index9]

/-- Every index of the fourth result lies in some point's block. -/
theorem covers13 : (cfg0.win 13).Covers := by decide +kernel
/-- Every index of the fifth result lies in some point's block. -/
theorem covers14 : (cfg0.win 14).Covers := by decide +kernel

section Finals

variable (hg : ∀ k : Fin 1024, Finite (m ((c : Thread nD τ).loc main_arg1) (ix1 k)))
  (hw : ∀ (k : Fin 1024) (o : Fin 1792), 768 ≤ o.val → o.val < 1408 → Finite (m ((c : Thread nD τ).loc main_arg2) (ix2 k o)))

include hg hw

/-- **The fourth result array is the second mixer's queries.** -/
theorem final13 : (dats m 0 c).arrAt 13 cfg0.N = gridQueries (m ((c : Thread nD τ).loc main_arg0)) (m ((c : Thread nD τ).loc main_arg1))
    (m ((c : Thread nD τ).loc main_arg2)) (m ((c : Thread nD τ).loc main_arg3)) (m ((c : Thread nD τ).loc main_arg7)) (m ((c : Thread nD τ).loc main_arg8))
    (m ((c : Thread nD τ).loc main_arg9)) (m ((c : Thread nD τ).loc main_arg10)) := by
  refine (dats m 0 c).arrAt_eq_of_covers 13 _ covers13 fun t hf y => ?_
  blk_simp
  rw [after0_13]
  idx_vars y
  have e : ((View.whole main_v31_3).slice (win0_13.rect t)).emb (ix2 y0 y1) = ix2 (row t y0) y1 := by
    blk_ext [index13, row]
  rw [e]
  exact gridQueries_block _ _ _ _ _ _ _ _ _ _ _ _ _ _ _ _ _ _ y0 (rows_apply m c t y0) (gain_apply m c t) (weights_apply m c t)
    (queryGain_apply m c t) (halfCosines_apply m c t y0) (halfSines_apply m c t y0) (mask_apply m c t) hg hw y1

/-- **The fifth result array is the second mixer's keys.** -/
theorem final14 : (dats m 0 c).arrAt 14 cfg0.N = gridKeys (m ((c : Thread nD τ).loc main_arg0)) (m ((c : Thread nD τ).loc main_arg1))
    (m ((c : Thread nD τ).loc main_arg2)) (m ((c : Thread nD τ).loc main_arg4)) (m ((c : Thread nD τ).loc main_arg7)) (m ((c : Thread nD τ).loc main_arg8))
    (m ((c : Thread nD τ).loc main_arg9)) (m ((c : Thread nD τ).loc main_arg10)) := by
  refine (dats m 0 c).arrAt_eq_of_covers 14 _ covers14 fun t hf y => ?_
  blk_simp
  rw [after0_14]
  idx_vars y
  have e : ((View.whole main_v31_4).slice (win0_14.rect t)).emb (ix2 y0 y1) = ix2 (row t y0) y1 := by
    blk_ext [index14, row]
  rw [e]
  exact gridKeys_block _ _ _ _ _ _ _ _ _ _ _ _ _ _ _ _ _ _ y0 (rows_apply m c t y0) (gain_apply m c t) (weights_apply m c t)
    (keyGain_apply m c t) (halfCosines_apply m c t y0) (halfSines_apply m c t y0) (mask_apply m c t) hg hw y1

end Finals

end Cert.InKernelIdeal.Point

end
-- ==== Proof.InHeadRef.lean ====
/-
  The reference's heads that get a norm of their own, at an index: the norm of every head, the turn of a head's two halves,
  and the heads joined into the channels of a row again. `a` is the number of heads of a row.
-/
module

public import proofs.«01_k».proof.Proof.InHead
public import proofs.«01_k».proof.Proof.InRef

@[expose] public section

set_option maxRecDepth 16384

noncomputable section

open Idealize.ShloMosaic
open scoped BigOperators

namespace Cert.InReferenceIdeal.Point

open Cert.InReferenceIdeal Cert.InReferenceIdeal.Gen Cert.In Cert.InReferenceIdeal.Facts

/-- `a` heads of `p` lanes at every position of every batch row. -/
abbrev Heads (a p : ℕ) : Shape := ⟨4, ![8, 8192, a, p]⟩

/-- Rows of `c` channels, as many as `a` heads have. -/
abbrev Rows (c : ℕ) : Shape := ⟨2, ![65536, c]⟩

/-- Rows grouped by batch row and by head, at an index. -/
theorem grouped_apply {a c : ℕ} (X : FVec Ideal (Rows c) .f32) (hc : c = a * 64) (hs : (Rows c).ShapeCasts (Heads a 64)) (b : Fin 8) (s : Fin 8192)
    (h : Fin a) (d : Fin 64) (n : Fin 65536) (e : Fin c) (hn : n.val = b.val * 8192 + s.val) (he : e.val = h.val * 64 + d.val) :
    (shapeCast (Heads a 64) X hs : FVec Ideal (Heads a 64) .f32) (ix4 b s h d) = X (ix2 n e) :=
  congrArg X (Shape.reshapeEquiv_eq_of_rowMajor _ (by
    rw [Shape.rowMajor_val_four, Shape.rowMajor_val_two]
    show n.val * c + e.val = ((b.val * 8192 + s.val) * a + h.val) * 64 + d.val
    rw [hn, he, hc]; ring))

/-- Grouped rows listed one after another again, their heads joined, at an index. -/
theorem listed_apply {a c : ℕ} (X : FVec Ideal (Heads a 64) .f32) (hc : c = a * 64) (hs : (Heads a 64).ShapeCasts (Rows c)) (b : Fin 8) (s : Fin 8192)
    (h : Fin a) (d : Fin 64) (n : Fin 65536) (e : Fin c) (hn : n.val = b.val * 8192 + s.val) (he : e.val = h.val * 64 + d.val) :
    (shapeCast (Rows c) X hs : FVec Ideal (Rows c) .f32) (ix2 n e) = X (ix4 b s h d) :=
  congrArg X (Shape.reshapeEquiv_eq_of_rowMajor _ (by
    rw [Shape.rowMajor_val_four, Shape.rowMajor_val_two]
    show ((b.val * 8192 + s.val) * a + h.val) * 64 + d.val = n.val * c + e.val
    rw [hn, he, hc]; ring))

/-- `q` lanes of every head from `o` on. -/
theorem part_apply {a p q : ℕ} (H : FVec Ideal (Heads a p) .f32) (o : ℕ) (hs : Shape.Slices (Heads a p) ![0, 0, 0, o] (Heads a q))
    (b : Fin 8) (s : Fin 8192) (h : Fin a) (d : Fin q) (r : Fin p) (hr : r.val = o + d.val) :
    extractStridedSlice (Heads a q) ![0, 0, 0, o] H hs (ix4 b s h d) = H (ix4 b s h r) := by
  refine extractStridedSlice_apply ![0, 0, 0, o] H hs (ix4 b s h d) (ix4 b s h r) ?_
  intro i; fin_cases i <;> simp [ix4, hr]

/-- A half of every head, its lanes turned by an angle each: lane `d` and lane `d + 16` are the two coordinates. -/
def halfTurned {a : ℕ} (y : FVec Ideal (Heads a 32) .f32) (C S : FVec Ideal (Heads a 16) .f32) (h0 : Shape.Slices (Heads a 32) ![0, 0, 0, 0] (Heads a 16))
    (h16 : Shape.Slices (Heads a 32) ![0, 0, 0, 16] (Heads a 16)) (hc : Shape.Concatenates [Heads a 16, Heads a 16] (Heads a 32) 3) : FVec Ideal (Heads a 32) .f32 :=
  concatenate (Heads a 32) 3 [⟨Heads a 16, (subf (mulf (extractStridedSlice (Heads a 16) ![0, 0, 0, 0] y h0) C)
        (mulf (extractStridedSlice (Heads a 16) ![0, 0, 0, 16] y h16) S) : FVec Ideal (Heads a 16) .f32)⟩,
      ⟨Heads a 16, (addf (mulf (extractStridedSlice (Heads a 16) ![0, 0, 0, 16] y h16) C)
        (mulf (extractStridedSlice (Heads a 16) ![0, 0, 0, 0] y h0) S) : FVec Ideal (Heads a 16) .f32)⟩] hc

/-- A turned half at a lane of its lower sixteen. -/
theorem halfTurned_low {a : ℕ} (y : FVec Ideal (Heads a 32) .f32) (C S : FVec Ideal (Heads a 16) .f32) (h0 h16 hc) (b : Fin 8) (s : Fin 8192) (h : Fin a)
    (d : Fin 16) (r : Fin 32) (hr : r.val = d.val) :
    halfTurned y C S h0 h16 hc (ix4 b s h r)
      = y (ix4 b s h ⟨d.val, by omega⟩) * C (ix4 b s h d) - y (ix4 b s h ⟨d.val + 16, by omega⟩) * S (ix4 b s h d) := by
  refine Eq.trans (concatenate_apply_piece (t := Heads a 32) 3 _ _ (ix4 b s h r) 0 (by show 0 < 2; decide) (Heads a 16) _ rfl rfl 0 rfl
    (ix4 b s h d) (fun i hi => ?_) (by show 0 + d.val = r.val; omega)) ?_
  · fin_cases i
    · rfl
    · rfl
    · rfl
    · exact absurd rfl hi
  · show extractStridedSlice _ _ y _ _ * C _ - extractStridedSlice _ _ y _ _ * S _ = _
    rw [part_apply y 0 h0 b s h d ⟨d.val, by omega⟩ (by show d.val = 0 + d.val; omega),
      part_apply y 16 h16 b s h d ⟨d.val + 16, by omega⟩ (by show d.val + 16 = 16 + d.val; omega)]

/-- A turned half at a lane of its upper sixteen. -/
theorem halfTurned_high {a : ℕ} (y : FVec Ideal (Heads a 32) .f32) (C S : FVec Ideal (Heads a 16) .f32) (h0 h16 hc) (b : Fin 8) (s : Fin 8192) (h : Fin a)
    (d : Fin 16) (r : Fin 32) (hr : r.val = 16 + d.val) :
    halfTurned y C S h0 h16 hc (ix4 b s h r)
      = y (ix4 b s h ⟨d.val + 16, by omega⟩) * C (ix4 b s h d) + y (ix4 b s h ⟨d.val, by omega⟩) * S (ix4 b s h d) := by
  refine Eq.trans (concatenate_apply_piece (t := Heads a 32) 3 _ _ (ix4 b s h r) 1 (by show 1 < 2; decide) (Heads a 16) _ rfl rfl 16 rfl
    (ix4 b s h d) (fun i hi => ?_) (by show 16 + d.val = r.val; omega)) ?_
  · fin_cases i
    · rfl
    · rfl
    · rfl
    · exact absurd rfl hi
  · show extractStridedSlice _ _ y _ _ * C _ + extractStridedSlice _ _ y _ _ * S _ = _
    rw [part_apply y 0 h0 b s h d ⟨d.val, by omega⟩ (by show d.val = 0 + d.val; omega),
      part_apply y 16 h16 b s h d ⟨d.val + 16, by omega⟩ (by show d.val + 16 = 16 + d.val; omega)]

/-- Both halves of every head turned, the lower one by the angles of `Cr` and `Sr`, the upper one by those of `Cc` and `Sc`. -/
def axialTurned {a : ℕ} (y : FVec Ideal (Heads a 64) .f32) (Cr Sr Cc Sc : FVec Ideal (Heads a 16) .f32) (h0 : Shape.Slices (Heads a 32) ![0, 0, 0, 0] (Heads a 16))
    (h16 : Shape.Slices (Heads a 32) ![0, 0, 0, 16] (Heads a 16)) (hc : Shape.Concatenates [Heads a 16, Heads a 16] (Heads a 32) 3)
    (k0 : Shape.Slices (Heads a 64) ![0, 0, 0, 0] (Heads a 32)) (k32 : Shape.Slices (Heads a 64) ![0, 0, 0, 32] (Heads a 32))
    (kc : Shape.Concatenates [Heads a 32, Heads a 32] (Heads a 64) 3) : FVec Ideal (Heads a 64) .f32 :=
  concatenate (Heads a 64) 3 [⟨Heads a 32, (halfTurned (extractStridedSlice (Heads a 32) ![0, 0, 0, 0] y k0) Cr Sr h0 h16 hc : FVec Ideal (Heads a 32) .f32)⟩,
    ⟨Heads a 32, (halfTurned (extractStridedSlice (Heads a 32) ![0, 0, 0, 32] y k32) Cc Sc h0 h16 hc : FVec Ideal (Heads a 32) .f32)⟩] kc

/-- A head with both halves turned at a lane. -/
theorem axialTurned_apply {a : ℕ} (y : FVec Ideal (Heads a 64) .f32) (Cr Sr Cc Sc : FVec Ideal (Heads a 16) .f32) (h0 h16 hc k0 k32 kc) (b : Fin 8) (s : Fin 8192)
    (h : Fin a) (d : Fin 64) :
    axialTurned y Cr Sr Cc Sc h0 h16 hc k0 k32 kc (ix4 b s h d)
      = axial (fun d => y (ix4 b s h d)) (fun d => Cr (ix4 b s h d)) (fun d => Sr (ix4 b s h d)) (fun d => Cc (ix4 b s h d)) (fun d => Sc (ix4 b s h d)) d := by
  have off {p : ℕ} (d' : Fin p) (i : Fin 4) (hi : i ≠ 3) : ((ix4 b s h d' i : Fin _) : ℕ) = (ix4 b s h d i : Fin _) := by
    fin_cases i
    · rfl
    · rfl
    · rfl
    · exact absurd rfl hi
  have low : ∀ r : Fin 32, r.val = d.val → axialTurned y Cr Sr Cc Sc h0 h16 hc k0 k32 kc (ix4 b s h d)
      = halfTurned (extractStridedSlice (Heads a 32) ![0, 0, 0, 0] y k0) Cr Sr h0 h16 hc (ix4 b s h r) := fun r hr =>
    concatenate_apply_piece (t := Heads a 64) 3 _ _ (ix4 b s h d) 0 (by show 0 < 2; decide) (Heads a 32) _ rfl rfl 0 rfl
      (ix4 b s h r) (fun i hi => off _ i hi) (by show 0 + r.val = d.val; omega)
  have high : ∀ r : Fin 32, 32 + r.val = d.val → axialTurned y Cr Sr Cc Sc h0 h16 hc k0 k32 kc (ix4 b s h d)
      = halfTurned (extractStridedSlice (Heads a 32) ![0, 0, 0, 32] y k32) Cc Sc h0 h16 hc (ix4 b s h r) := fun r hr =>
    concatenate_apply_piece (t := Heads a 64) 3 _ _ (ix4 b s h d) 1 (by show 1 < 2; decide) (Heads a 32) _ rfl rfl 32 rfl
      (ix4 b s h r) (fun i hi => off _ i hi) (by show 32 + r.val = d.val; omega)
  unfold axial four
  by_cases c16 : d.val < 16
  · rw [dif_pos c16, low ⟨d.val, by omega⟩ rfl, halfTurned_low _ _ _ _ _ _ b s h ⟨d.val, c16⟩ _ rfl,
      part_apply y 0 k0 b s h _ ⟨d.val, by omega⟩ (by show d.val = 0 + d.val; omega),
      part_apply y 0 k0 b s h _ ⟨d.val + 16, by omega⟩ (by show d.val + 16 = 0 + (d.val + 16); omega)]
  · rw [dif_neg c16]
    by_cases c32 : d.val < 32
    · rw [dif_pos c32, low ⟨d.val, by omega⟩ rfl, halfTurned_high _ _ _ _ _ _ b s h ⟨d.val - 16, by omega⟩ _ (by show d.val = 16 + (d.val - 16); omega),
        part_apply y 0 k0 b s h _ ⟨d.val - 16 + 16, by omega⟩ (by show d.val - 16 + 16 = 0 + (d.val - 16 + 16); omega),
        part_apply y 0 k0 b s h _ ⟨d.val - 16, by omega⟩ (by show d.val - 16 = 0 + (d.val - 16); omega)]
    · rw [dif_neg c32]
      by_cases c48 : d.val < 48
      · rw [dif_pos c48, high ⟨d.val - 32, by omega⟩ (by show 32 + (d.val - 32) = d.val; omega),
          halfTurned_low _ _ _ _ _ _ b s h ⟨d.val - 32, by omega⟩ _ rfl,
          part_apply y 32 k32 b s h _ ⟨d.val - 32 + 32, by omega⟩ (by show d.val - 32 + 32 = 32 + (d.val - 32); omega),
          part_apply y 32 k32 b s h _ ⟨d.val - 32 + 48, by omega⟩ (by show d.val - 32 + 48 = 32 + (d.val - 32 + 16); omega)]
      · rw [dif_neg c48, high ⟨d.val - 32, by omega⟩ (by show 32 + (d.val - 32) = d.val; omega),
          halfTurned_high _ _ _ _ _ _ b s h ⟨d.val - 48, by omega⟩ _ (by show d.val - 32 = 16 + (d.val - 48); omega),
          part_apply y 32 k32 b s h _ ⟨d.val - 48 + 48, by omega⟩ (by show d.val - 48 + 48 = 32 + (d.val - 48 + 16); omega),
          part_apply y 32 k32 b s h _ ⟨d.val - 48 + 32, by omega⟩ (by show d.val - 48 + 32 = 32 + (d.val - 48); omega)]

/-- Heads of a row joined, at a channel, where the channels before the heads were turned are known: those of the 1792
    from `o` on, every head normalised. -/
theorem joined_apply {a c : ℕ} (y : FVec Ideal (Heads a 64) .f32) (Cr Sr Cc Sc : FVec Ideal (Heads a 16) .f32) (h0 h16 hc k0 k32 kc) (hr : c = a * 64)
    (hs : (Heads a 64).ShapeCasts (Rows c)) (p : Fin 65536 → Fin 1792 → EReal) (g : Fin 64 → EReal) (cr sr cc sc : FVec Ideal S8192x16 .f32)
    (hcr : ∀ b s h d, Cr (ix4 b s h d) = cr (ix2 s d)) (hsr : ∀ b s h d, Sr (ix4 b s h d) = sr (ix2 s d))
    (hcc : ∀ b s h d, Cc (ix4 b s h d) = cc (ix2 s d)) (hsc : ∀ b s h d, Sc (ix4 b s h d) = sc (ix2 s d)) (o : ℕ) (ho : o + c ≤ 1792)
    (hy : ∀ (b : Fin 8) (s : Fin 8192) (h : Fin a) (n : Fin 65536) (hb : n.val = b.val * 8192 + s.val) (d : Fin 64),
      y (ix4 b s h d) = unit (fun d => p n ⟨o + h.val * 64 + d.val, by have := h.isLt; have := d.isLt; omega⟩) g d)
    (n : Fin 65536) (e : Fin c) (he : o + e.val / 64 * 64 + 64 ≤ 1792) :
    (shapeCast (Rows c) (axialTurned y Cr Sr Cc Sc h0 h16 hc k0 k32 kc) hs : FVec Ideal (Rows c) .f32) (ix2 n e)
      = headLane (p n) g (fun d => cr (ix2 (position n) d)) (fun d => sr (ix2 (position n) d)) (fun d => cc (ix2 (position n) d))
          (fun d => sc (ix2 (position n) d)) o e.val he := by
  obtain ⟨b, hb⟩ : ∃ b : Fin 8, n.val = b.val * 8192 + (position n).val :=
    ⟨⟨n.val / 8192, by omega⟩, by show n.val = n.val / 8192 * 8192 + n.val % 8192; omega⟩
  have hlt : e.val / 64 < a := by have := e.isLt; omega
  rw [listed_apply _ hr hs b (position n) ⟨e.val / 64, hlt⟩ ⟨e.val % 64, by omega⟩ n e hb (by show e.val = e.val / 64 * 64 + e.val % 64; omega),
    axialTurned_apply]
  simp only [hcr, hsr, hcc, hsc, hy b (position n) ⟨e.val / 64, hlt⟩ n hb]
  rfl

variable (x : FVec Ideal S65536x1024 .f32) (g : FVec Ideal S1024 .f32) (w : FVec Ideal S1024x1792 .f32) (gh : FVec Ideal S64 .f32)
  (cr sr cc sc : FVec Ideal S8192x16 .f32)

/-- A table's sixteen values of a position, the same for every batch row and each of the eight heads. -/
def overQueries (v : FVec Ideal S8192x16 .f32) : FVec Ideal S8x8192x8x16 .f32 :=
  broadcastInDim S8x8192x8x16 ![0, 1, 2, 3] bcast_S1x8192x1x16_S8x8192x8x16_0_1_2_3 (broadcastInDim S1x8192x1x16 ![1, 2, 3] bcast_S8192x1x16_S1x8192x1x16_1_2_3 (broadcastInDim S8192x1x16 ![0, 2] bcast_S8192x16_S8192x1x16_0_2 v))

/-- A table's sixteen values of a position, the same for every batch row and both heads. -/
def overKeys (v : FVec Ideal S8192x16 .f32) : FVec Ideal S8x8192x2x16 .f32 :=
  broadcastInDim S8x8192x2x16 ![0, 1, 2, 3] bcast_S1x8192x1x16_S8x8192x2x16_0_1_2_3 (broadcastInDim S1x8192x1x16 ![1, 2, 3] bcast_S8192x1x16_S1x8192x1x16_1_2_3 (broadcastInDim S8192x1x16 ![0, 2] bcast_S8192x16_S8192x1x16_0_2 v))

/-- A table over the eight heads at a place. -/
theorem overQueries_apply (v : FVec Ideal S8192x16 .f32) (b : Fin 8) (s : Fin 8192) (h : Fin 8) (d : Fin 16) : overQueries v (ix4 b s h d) = v (ix2 s d) := by
  pointwise [overQueries]

/-- A table over the two heads at a place. -/
theorem overKeys_apply (v : FVec Ideal S8192x16 .f32) (b : Fin 8) (s : Fin 8192) (h : Fin 2) (d : Fin 16) : overKeys v (ix4 b s h d) = v (ix2 s d) := by
  pointwise [overKeys]

/-- Eight heads, each normalised. -/
def normedQueries (y : FVec Ideal S8x8192x8x64 .f32) : FVec Ideal S8x8192x8x64 .f32 :=
  mulf (mulf y (broadcastInDim S8x8192x8x64 ![0, 1, 2, 3] bcast_S8x8192x8x1_S8x8192x8x64_0_1_2_3 (Host.rsqrt (addf (Host.divf (broadcastInDim S8x8192x8x1 ![0, 1, 2] bcast_S8x8192x8_S8x8192x8x1_0_1_2 (Host.reduceAdd (mulf y y) (constant S_ .f32 0x00000000#32) reducesTo_S8x8192x8x64_S8x8192x8_d3 h_S_)) (broadcastInDim S8x8192x8x1 ![] bcast_S_S8x8192x8x1 (constant S_ .f32 0x42800000#32))) (broadcastInDim S8x8192x8x1 ![] bcast_S_S8x8192x8x1 (constant S_ .f32 0x358637BD#32)))))) (broadcastInDim S8x8192x8x64 ![0, 1, 2, 3] bcast_S1x1x1x64_S8x8192x8x64_0_1_2_3 (broadcastInDim S1x1x1x64 ![3] bcast_S64_S1x1x1x64_3 gh))

/-- Two heads, each normalised. -/
def normedKeys (y : FVec Ideal S8x8192x2x64 .f32) : FVec Ideal S8x8192x2x64 .f32 :=
  mulf (mulf y (broadcastInDim S8x8192x2x64 ![0, 1, 2, 3] bcast_S8x8192x2x1_S8x8192x2x64_0_1_2_3 (Host.rsqrt (addf (Host.divf (broadcastInDim S8x8192x2x1 ![0, 1, 2] bcast_S8x8192x2_S8x8192x2x1_0_1_2 (Host.reduceAdd (mulf y y) (constant S_ .f32 0x00000000#32) reducesTo_S8x8192x2x64_S8x8192x2_d3 h_S_)) (broadcastInDim S8x8192x2x1 ![] bcast_S_S8x8192x2x1 (constant S_ .f32 0x42800000#32))) (broadcastInDim S8x8192x2x1 ![] bcast_S_S8x8192x2x1 (constant S_ .f32 0x358637BD#32)))))) (broadcastInDim S8x8192x2x64 ![0, 1, 2, 3] bcast_S1x1x1x64_S8x8192x2x64_0_1_2_3 (broadcastInDim S1x1x1x64 ![3] bcast_S64_S1x1x1x64_3 gh))

/-- One of eight normalised heads at a lane. -/
theorem normedQueries_apply (y : FVec Ideal S8x8192x8x64 .f32) (b : Fin 8) (s : Fin 8192) (h : Fin 8) (d : Fin 64) :
    normedQueries gh y (ix4 b s h d) = unit (fun d => y (ix4 b s h d)) (fun d => gh (ix1 d)) d := by
  pointwise [normedQueries]
  rfl

/-- One of two normalised heads at a lane. -/
theorem normedKeys_apply (y : FVec Ideal S8x8192x2x64 .f32) (b : Fin 8) (s : Fin 8192) (h : Fin 2) (d : Fin 64) :
    normedKeys gh y (ix4 b s h d) = unit (fun d => y (ix4 b s h d)) (fun d => gh (ix1 d)) d := by
  pointwise [normedKeys]
  rfl

/-- Channels of the projection grouped into heads, at a lane. -/
theorem channels_apply {a c : ℕ} (hr : c = a * 64) (o : ℕ) (ho : o + c ≤ 1792) (hs : Shape.Slices S65536x1792 ![0, o] (Rows c)) (hh : (Rows c).ShapeCasts (Heads a 64))
    (b : Fin 8) (s : Fin 8192) (h : Fin a) (d : Fin 64) (n : Fin 65536) (hn : n.val = b.val * 8192 + s.val) :
    (shapeCast (Heads a 64) (extractStridedSlice (Rows c) ![0, o] (projected x g w) hs) hh : FVec Ideal (Heads a 64) .f32) (ix4 b s h d)
      = proj x g w n ⟨o + h.val * 64 + d.val, by have := h.isLt; have := d.isLt; omega⟩ := by
  have he : h.val * 64 + d.val < c := by have := h.isLt; have := d.isLt; omega
  rw [grouped_apply _ hr hh b s h d n ⟨h.val * 64 + d.val, he⟩ hn rfl,
    columns_apply _ o hs n ⟨h.val * 64 + d.val, he⟩ ⟨o + h.val * 64 + d.val, by omega⟩ (by show o + h.val * 64 + d.val = o + (h.val * 64 + d.val); omega)]
  exact projected_apply x g w n _

/-- **The reference's fourth result is the second mixer's queries.** -/
theorem gridQueries_eq : truncf .bf16 (mulf (shapeCast S65536x512 (axialTurned (a := 8)
      (normedQueries gh (shapeCast S8x8192x8x64 (extractStridedSlice S65536x512 ![0, 768] (projected x g w) slices_S65536x1792_S65536x512_0_768) shapeCasts_S65536x512_S8x8192x8x64))
      (overQueries cr) (overQueries sr) (overQueries cc) (overQueries sc)
      slices_S8x8192x8x32_S8x8192x8x16_0_0_0_0 slices_S8x8192x8x32_S8x8192x8x16_0_0_0_16 concatenates_S8x8192x8x16_S8x8192x8x16_S8x8192x8x32_d3
      slices_S8x8192x8x64_S8x8192x8x32_0_0_0_0 slices_S8x8192x8x64_S8x8192x8x32_0_0_0_32 concatenates_S8x8192x8x32_S8x8192x8x32_S8x8192x8x64_d3)
      shapeCasts_S8x8192x8x64_S65536x512) (broadcastInDim S65536x512 ![] bcast_S_S65536x512 (constant S_ .f32 0x3E000000#32))) bitsLt_bf16_f32
      = gridQueries x g w gh cr sr cc sc := by
  funext j
  idx_vars j
  refine congrArg (· * Ideal.ofBits .f32 0x3E000000#32) (joined_apply (a := 8) (c := 512) _ _ _ _ _
    slices_S8x8192x8x32_S8x8192x8x16_0_0_0_0 slices_S8x8192x8x32_S8x8192x8x16_0_0_0_16 concatenates_S8x8192x8x16_S8x8192x8x16_S8x8192x8x32_d3
    slices_S8x8192x8x64_S8x8192x8x32_0_0_0_0 slices_S8x8192x8x64_S8x8192x8x32_0_0_0_32 concatenates_S8x8192x8x32_S8x8192x8x32_S8x8192x8x64_d3 rfl shapeCasts_S8x8192x8x64_S65536x512
    (proj x g w) (fun d => gh (ix1 d)) cr sr cc sc (overQueries_apply cr) (overQueries_apply sr) (overQueries_apply cc) (overQueries_apply sc) 768 (by decide)
    (fun b s h n hb d => ?_) j0 j1 (by have := j1.isLt; omega))
  rw [normedQueries_apply]
  exact congrArg (fun f => unit f (fun d => gh (ix1 d)) d) (funext fun d =>
    channels_apply x g w (a := 8) (c := 512) rfl 768 (by decide) slices_S65536x1792_S65536x512_0_768 shapeCasts_S65536x512_S8x8192x8x64 b s h d n hb)

/-- **The reference's fifth result is the second mixer's keys.** -/
theorem gridKeys_eq : truncf .bf16 (shapeCast S65536x128 (axialTurned (a := 2)
      (normedKeys gh (shapeCast S8x8192x2x64 (extractStridedSlice S65536x128 ![0, 1280] (projected x g w) slices_S65536x1792_S65536x128_0_1280) shapeCasts_S65536x128_S8x8192x2x64))
      (overKeys cr) (overKeys sr) (overKeys cc) (overKeys sc)
      slices_S8x8192x2x32_S8x8192x2x16_0_0_0_0 slices_S8x8192x2x32_S8x8192x2x16_0_0_0_16 concatenates_S8x8192x2x16_S8x8192x2x16_S8x8192x2x32_d3
      slices_S8x8192x2x64_S8x8192x2x32_0_0_0_0 slices_S8x8192x2x64_S8x8192x2x32_0_0_0_32 concatenates_S8x8192x2x32_S8x8192x2x32_S8x8192x2x64_d3)
      shapeCasts_S8x8192x2x64_S65536x128 : FVec Ideal S65536x128 .f32) bitsLt_bf16_f32
      = gridKeys x g w gh cr sr cc sc := by
  funext j
  idx_vars j
  refine joined_apply (a := 2) (c := 128) _ _ _ _ _
    slices_S8x8192x2x32_S8x8192x2x16_0_0_0_0 slices_S8x8192x2x32_S8x8192x2x16_0_0_0_16 concatenates_S8x8192x2x16_S8x8192x2x16_S8x8192x2x32_d3
    slices_S8x8192x2x64_S8x8192x2x32_0_0_0_0 slices_S8x8192x2x64_S8x8192x2x32_0_0_0_32 concatenates_S8x8192x2x32_S8x8192x2x32_S8x8192x2x64_d3 rfl shapeCasts_S8x8192x2x64_S65536x128
    (proj x g w) (fun d => gh (ix1 d)) cr sr cc sc (overKeys_apply cr) (overKeys_apply sr) (overKeys_apply cc) (overKeys_apply sc) 1280 (by decide)
    (fun b s h n hb d => ?_) j0 j1 (by have := j1.isLt; omega)
  rw [normedKeys_apply]
  exact congrArg (fun f => unit f (fun d => gh (ix1 d)) d) (funext fun d =>
    channels_apply x g w (a := 2) (c := 128) rfl 1280 (by decide) slices_S65536x1792_S65536x128_0_1280 shapeCasts_S65536x128_S8x8192x2x64 b s h d n hb)

end Cert.InReferenceIdeal.Point

end
-- ==== Proof.InPre.lean ====
module

public import proofs.«01_k».proof.Proof.OutPre
public import proofs.«01_k».proof.Pre_finite_gain

/-! What the precondition `finite_gain` says: the gain of the rows and the weights of the second mixer's queries and keys are
    real numbers. -/

@[expose] public section

set_option maxRecDepth 16384

noncomputable section

namespace Cert.Pre_finite_gain.Reading

open Idealize.ShloMosaic Idealize.ShloMosaic.TcCoe Cert.Attention

/-- The shapes of the precondition's broadcasts and of its slice fit. -/
theorem facts : Cert.Pre_finite_gain.Facts := ⟨by decide, by decide, by decide⟩

variable [Cert.Pre_finite_gain.Facts]

/-- Where the precondition is all ones, the gains and the weights of the channels 768 to 1407 are finite. -/
theorem gains_finite (x : Vec Ideal S65536x1024 .f32) (g : Vec Ideal S1024 .f32) (w : Vec Ideal S1024x1792 .f32) (gq gk : Vec Ideal S64 .f32)
    (ct st : Vec Ideal S8192x8 .f32) (cr sr cc sc : Vec Ideal S8192x16 .f32)
    (ha : (Cert.Pre_finite_gain.fn (F := Ideal) x g w gq gk ct st cr sr cc sc).1 = fun _ => 1#1)
    (hb : (Cert.Pre_finite_gain.fn (F := Ideal) x g w gq gk ct st cr sr cc sc).2 = fun _ => 1#1) :
    (∀ k : Fin 1024, Finite (g (ix1 k))) ∧ ∀ (k : Fin 1024) (o : Fin 1792), 768 ≤ o.val → o.val < 1408 → Finite (w (ix2 k o)) := by
  refine ⟨fun k => Cert.Pre_finite.Reading.finite_of_lt _ ?_, fun k o h768 h1408 => Cert.Pre_finite.Reading.finite_of_lt _ ?_⟩ <;>
    rw [← Cert.Pre_finite_mix.Reading.ofBits_inf]
  · exact congrFun ha (ix1 k)
  · have e : extractStridedSlice S1024x640 ![0, 768] w Facts.slices_S1024x1792_S1024x640_0_768 (ix2 k (⟨o.val - 768, by omega⟩ : Fin 640)) = w (ix2 k o) := by
      refine extractStridedSlice_apply ![0, 768] w _ (ix2 k (⟨o.val - 768, by omega⟩ : Fin 640)) (ix2 k o) ?_
      intro a
      fin_cases a
      · simp [ix2]
      · show o.val = 768 + (o.val - 768)
        omega
    rw [← e]
    exact congrFun hb (ix2 k (⟨o.val - 768, by omega⟩ : Fin 640))

end Cert.Pre_finite_gain.Reading

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.OutReferenceIdeal.Run
public import proofs.«01_k».proof.Proof.Gen.OutKernelIdeal.Value
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.InReferenceIdeal.Run
public import proofs.«01_k».proof.Proof.Gen.InKernelIdeal.Value
public import proofs.«01_k».proof.Proof.Pre
public import proofs.«01_k».proof.Proof.Array
public import proofs.«01_k».proof.Proof.Ref
public import proofs.«01_k».proof.Proof.FfnArray
public import proofs.«01_k».proof.Proof.FfnRef
public import proofs.«01_k».proof.Proof.OutPre
public import proofs.«01_k».proof.Proof.OutArray
public import proofs.«01_k».proof.Proof.OutRef
public import proofs.«01_k».proof.Proof.InArray
public import proofs.«01_k».proof.Proof.InRef
public import proofs.«01_k».proof.Proof.InHeadArray
public import proofs.«01_k».proof.Proof.InHeadRef
public import proofs.«01_k».proof.Proof.InPre
public import Idealize.ShloMosaic.Lib.Quiescent
public import Idealize.ShloMosaic.Adequacy
public import Idealize.ShloMosaic.Init

@[expose] public section

noncomputable section

namespace Cert.Proof

open Idealize.ShloMosaic Idealize.SL.Sem

/-- Every execution of the reference ends, with every counter at zero. -/
theorem quiescent_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From the same finite queries and keys and the same values, the kernel and the reference end with the
    same result: the attention of the arguments. -/
theorem algebraic [Cert.Pre_finite.Facts] : Cert.algebraic_KernelIdeal_ReferenceIdeal_pre_finite := by
  intro m ρ m' ρ' hpre hagree
  have hq := fun c => Cert.Pre_finite.Reading.queries_finite _ _ _ (hpre c).1
  have hk := fun c => Cert.Pre_finite.Reading.keys_finite _ _ _ (hpre c).2
  refine ⟨fun c => Cert.Attention.attn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Attn.final m c (hq c) (hk c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2]
    exact Cert.ReferenceIdeal.Attn.result_eq _ _ _ (hq c) (hk c)

/-- Every execution of the feed-forward layer's reference ends, with every counter at zero. -/
theorem quiescent_ffn_reference : Cert.quiescent_FfnReferenceIdeal := fun m ρ _ =>
  (θ_run Cert.FfnReferenceIdeal.defs _ _).mono
    (fun r h => ⟨fun c => (h c).2, Idealize.ShloMosaic.sem_eq_zero_of_no_sems (by decide) r.2⟩)
    (Cert.FfnReferenceIdeal.Value.run (F := Ideal) m ρ)

/-- From the same arguments, whatever they are, the feed-forward kernel and its reference end with the same result. -/
theorem algebraic_ffn : Cert.algebraic_FfnKernelIdeal_FfnReferenceIdeal := by
  intro m ρ m' ρ' _ hagree
  refine ⟨fun c => Cert.Ffn.ffn (m ((c.tc : Thread Cert.FfnKernelIdeal.nD Cert.FfnKernelIdeal.τ).loc Cert.FfnKernelIdeal.main_arg0))
    (m ((c.tc : Thread Cert.FfnKernelIdeal.nD Cert.FfnKernelIdeal.τ).loc Cert.FfnKernelIdeal.main_arg1))
    (m ((c.tc : Thread Cert.FfnKernelIdeal.nD Cert.FfnKernelIdeal.τ).loc Cert.FfnKernelIdeal.main_arg2))
    (m ((c.tc : Thread Cert.FfnKernelIdeal.nD Cert.FfnKernelIdeal.τ).loc Cert.FfnKernelIdeal.main_arg3))
    (m ((c.tc : Thread Cert.FfnKernelIdeal.nD Cert.FfnKernelIdeal.τ).loc Cert.FfnKernelIdeal.main_arg4))
    (m ((c.tc : Thread Cert.FfnKernelIdeal.nD Cert.FfnKernelIdeal.τ).loc Cert.FfnKernelIdeal.main_arg5))
    (m ((c.tc : Thread Cert.FfnKernelIdeal.nD Cert.FfnKernelIdeal.τ).loc Cert.FfnKernelIdeal.main_arg6))
    (m ((c.tc : Thread Cert.FfnKernelIdeal.nD Cert.FfnKernelIdeal.τ).loc Cert.FfnKernelIdeal.main_arg7)), ?_, ?_⟩
  · exact Cert.FfnKernelIdeal.Point.run_ffn m ρ
  · refine (θ_run Cert.FfnReferenceIdeal.defs _ _).mono (fun r h c => ⟨(h c).1.trans ?_, (h c).2⟩)
      (Cert.FfnReferenceIdeal.Value.run (F := Ideal) m' ρ')
    unfold Cert.FfnReferenceIdeal.Value.res_main_v58
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    exact Cert.FfnReferenceIdeal.Point.result_eq _ _ _ _ _ _ _ _

/-- Every execution of the output projection's reference ends, with every counter at zero. -/
theorem quiescent_out_reference : Cert.quiescent_OutReferenceIdeal := fun m ρ _ =>
  (θ_run Cert.OutReferenceIdeal.defs _ _).mono
    (fun r h => ⟨fun c => (h c).2.2, Idealize.ShloMosaic.sem_eq_zero_of_no_sems (by decide) r.2⟩)
    (Cert.OutReferenceIdeal.Value.run (F := Ideal) m ρ)

/-- From the same finite mixers' outputs and the same other arguments, the output projection's kernel and its reference
    end with the same two results. -/
theorem algebraic_out [Cert.Pre_finite_mix.Facts] : Cert.algebraic_OutKernelIdeal_OutReferenceIdeal_pre_finite_mix := by
  intro m ρ m' ρ' hpre hagree
  have hf := fun c => Cert.Pre_finite_mix.Reading.mixers_finite _ _ _ _ _ _ _ _ (hpre c).1 (hpre c).2.1 (hpre c).2.2
  refine ⟨fun c => Cert.OutKernelIdeal.Point.first m c, fun c => Cert.OutKernelIdeal.Point.second m c, ?_, ?_⟩
  · exact (θ_run Cert.OutKernelIdeal.defs _ _).mono
      (fun r h c => ⟨(h c).1.trans (Cert.OutKernelIdeal.Point.final9 m c (hf c).1 (hf c).2.1 (hf c).2.2),
        (h c).2.1.trans (Cert.OutKernelIdeal.Point.final10 m c (hf c).1 (hf c).2.1 (hf c).2.2), (h c).2.2⟩)
      (Cert.OutKernelIdeal.Value.run_blocks (F := Ideal) m ρ)
  · refine (θ_run Cert.OutReferenceIdeal.defs _ _).mono (fun r h c => ⟨(h c).1.trans ?_, (h c).2.1.trans ?_, (h c).2.2⟩)
      (Cert.OutReferenceIdeal.Value.run (F := Ideal) m' ρ')
    · unfold Cert.OutReferenceIdeal.Value.res_main_v33
      rw [(hagree c).1, (hagree c).2.1, (hagree c).2.2.1, (hagree c).2.2.2.1, (hagree c).2.2.2.2.1, (hagree c).2.2.2.2.2.1, (hagree c).2.2.2.2.2.2.1]
      exact Cert.OutReferenceIdeal.Point.first_eq _ _ _ _ _ _ _
    · unfold Cert.OutReferenceIdeal.Value.res_main_v47
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact Cert.OutReferenceIdeal.Point.second_eq _ _ _ _ _ _ _ _

/-- Every execution of the input projection's reference ends, with every counter at zero. -/
theorem quiescent_in_reference : Cert.quiescent_InReferenceIdeal := fun m ρ _ =>
  (θ_run Cert.InReferenceIdeal.defs _ _).mono
    (fun r h => ⟨fun c => (h c).2.2.2.2.2.2.2, Idealize.ShloMosaic.sem_eq_zero_of_no_sems (by decide) r.2⟩)
    (Cert.InReferenceIdeal.Value.run (F := Ideal) m ρ)

/-- From the same arguments, with finite gains of the rows and finite weights of the second mixer's queries and keys, the
    input projection's kernel and its reference end with the same seven results. -/
theorem algebraic_in [Cert.Pre_finite_gain.Facts] : Cert.algebraic_InKernelIdeal_InReferenceIdeal_pre_finite_gain := by
  intro m ρ m' ρ' hpre hagree
  have hf := fun c => Cert.Pre_finite_gain.Reading.gains_finite _ _ _ _ _ _ _ _ _ _ _ (hpre c).1 (hpre c).2
  refine ⟨fun c => _, fun c => _, fun c => _, fun c => _, fun c => _, fun c => _, fun c => _,
    (θ_run Cert.InKernelIdeal.defs _ _).mono
      (fun r h c => by
        obtain ⟨h0, h1, h2, h3, h4, h5, h6, hk⟩ := h c
        exact ⟨h0.trans (Cert.InKernelIdeal.Point.final10 m c), h1.trans (Cert.InKernelIdeal.Point.final11 m c),
          h2.trans (Cert.InKernelIdeal.Point.final12 m c), h3.trans (Cert.InKernelIdeal.Point.final13 m c (hf c).1 (hf c).2),
          h4.trans (Cert.InKernelIdeal.Point.final14 m c (hf c).1 (hf c).2), h5.trans (Cert.InKernelIdeal.Point.final15 m c),
          h6.trans (Cert.InKernelIdeal.Point.final16 m c), hk⟩)
      (Cert.InKernelIdeal.Value.run_blocks (F := Ideal) m ρ), ?_⟩
  refine (θ_run Cert.InReferenceIdeal.defs _ _).mono (fun r h c => ?_) (Cert.InReferenceIdeal.Value.run (F := Ideal) m' ρ')
  obtain ⟨a0, a1, a2, a3, a4, a5, a6, a7, a8, a9, a10⟩ := hagree c
  obtain ⟨h0, h1, h2, h3, h4, h5, h6, hk⟩ := h c
  refine ⟨h0.trans ?_, h1.trans ?_, h2.trans ?_, h3.trans ?_, h4.trans ?_, h5.trans ?_, h6.trans ?_, hk⟩
  · beta_reduce
    rw [← a0, ← a1, ← a2, ← a5, ← a6]
    exact Cert.InReferenceIdeal.Point.queries_eq _ _ _ _ _
  · beta_reduce
    rw [← a0, ← a1, ← a2, ← a5, ← a6]
    exact Cert.InReferenceIdeal.Point.keys_eq _ _ _ _ _
  · beta_reduce
    rw [← a0, ← a1, ← a2]
    exact Cert.InReferenceIdeal.Point.values_eq _ _ _
  · beta_reduce
    rw [← a0, ← a1, ← a2, ← a3, ← a7, ← a8, ← a9, ← a10]
    exact Cert.InReferenceIdeal.Point.gridQueries_eq _ _ _ _ _ _ _ _
  · beta_reduce
    rw [← a0, ← a1, ← a2, ← a4, ← a7, ← a8, ← a9, ← a10]
    exact Cert.InReferenceIdeal.Point.gridKeys_eq _ _ _ _ _ _ _ _
  · beta_reduce
    rw [← a0, ← a1, ← a2]
    exact Cert.InReferenceIdeal.Point.sharedValues_eq _ _ _
  · beta_reduce
    rw [← a0, ← a1, ← a2]
    exact Cert.InReferenceIdeal.Point.spectral_eq _ _ _

/-- Everything that the certificate claims. -/
theorem claim : Cert.Claim :=
  ⟨Cert.Kernel.Gen.facts, Cert.KernelIdeal.Gen.facts, Cert.ReferenceIdeal.Gen.facts,
    Cert.FfnKernel.Gen.facts, Cert.FfnKernelIdeal.Gen.facts, Cert.FfnReferenceIdeal.Gen.facts,
    Cert.OutKernel.Gen.facts, Cert.OutKernelIdeal.Gen.facts, Cert.OutReferenceIdeal.Gen.facts,
    Cert.InKernel.Gen.facts, Cert.InKernelIdeal.Gen.facts, Cert.InReferenceIdeal.Gen.facts,
    Cert.Pre_finite.Reading.facts, Cert.Pre_finite_mix.Reading.facts, Cert.Pre_finite_gain.Reading.facts,
    fun m ρ _ => Cert.Kernel.Gen.frame m ρ,
    fun m ρ _ => Cert.KernelIdeal.Gen.frame m ρ,
    fun m ρ _ => Cert.KernelIdeal.Gen.frame m ρ,
    quiescent_reference,
    fun m ρ _ => quiescent_reference m ρ trivial,
    fun m ρ _ => Cert.FfnKernel.Gen.frame m ρ,
    fun m ρ _ => Cert.FfnKernelIdeal.Gen.frame m ρ,
    quiescent_ffn_reference,
    fun m ρ _ => Cert.OutKernel.Gen.frame m ρ,
    fun m ρ _ => Cert.OutKernelIdeal.Gen.frame m ρ,
    fun m ρ _ => Cert.OutKernelIdeal.Gen.frame m ρ,
    quiescent_out_reference,
    fun m ρ _ => quiescent_out_reference m ρ trivial,
    fun m ρ _ => Cert.InKernel.Gen.frame m ρ,
    fun m ρ _ => Cert.InKernelIdeal.Gen.frame m ρ,
    fun m ρ _ => Cert.InKernelIdeal.Gen.frame m ρ,
    quiescent_in_reference,
    fun m ρ _ => quiescent_in_reference m ρ trivial,
    trivial,
    (haveI := Cert.Pre_finite.Reading.facts
     algebraic),
    trivial,
    algebraic_ffn,
    trivial,
    (haveI := Cert.Pre_finite_mix.Reading.facts
     algebraic_out),
    trivial,
    (haveI := Cert.Pre_finite_gain.Reading.facts
     algebraic_in)⟩

end Cert.Proof

end
